-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v159) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x768x2048 : Shape := ⟨3, ![1, 768, 2048]⟩
abbrev S8x768x1 : Shape := ⟨3, ![8, 768, 1]⟩
abbrev S8x768x2304 : Shape := ⟨3, ![8, 768, 2304]⟩
abbrev S2304x192x7 : Shape := ⟨3, ![2304, 192, 7]⟩
abbrev S8x768x768 : Shape := ⟨3, ![8, 768, 768]⟩
abbrev S_ : Shape := ⟨0, ![]⟩

class Facts : Prop where
  bcast_S_S1x768x2048 : S_.BroadcastsInDim S1x768x2048 (![] : Fin 0 → Fin S1x768x2048.rank)
  reducesTo_S1x768x2048_S_d0_1_2 : S1x768x2048.ReducesTo [0, 1, 2] S_
  h_S_ : 0 < S_.numel
  bcast_S_S8x768x1 : S_.BroadcastsInDim S8x768x1 (![] : Fin 0 → Fin S8x768x1.rank)
  reducesTo_S8x768x1_S_d0_1_2 : S8x768x1.ReducesTo [0, 1, 2] S_
  bcast_S_S8x768x2304 : S_.BroadcastsInDim S8x768x2304 (![] : Fin 0 → Fin S8x768x2304.rank)
  reducesTo_S8x768x2304_S_d0_1_2 : S8x768x2304.ReducesTo [0, 1, 2] S_
  bcast_S_S2304x192x7 : S_.BroadcastsInDim S2304x192x7 (![] : Fin 0 → Fin S2304x192x7.rank)
  reducesTo_S2304x192x7_S_d0_1_2 : S2304x192x7.ReducesTo [0, 1, 2] S_

variable [Facts]

def fn_part1 {F : FTy → Type} [FloatOps F] (main_arg4 : FVec F S8x768x1 .f32) (main_v13 : IVec S_ 1) (main_v16 : IVec S2304x192x7 1) : IVec S_ 1 :=
  let main_c_5 : IVec S_ 1 := constantI S_ 1 1#1
  let main_v17 : IVec S_ 1 := (fun x v => Host.reduce IntOp.andi x v reducesTo_S2304x192x7_S_d0_1_2 h_S_) main_v16 main_c_5
  let main_v18 : IVec S_ 1 := andi main_v13 main_v17
  let main_v19 : FVec F S8x768x1 .f32 := Host.absf main_arg4
  let main_cst_6 : FVec F S_ .f32 := constant S_ .f32 0x7F800000#32
  let main_v20 : FVec F S8x768x1 .f32 := broadcastInDim S8x768x1 ![] bcast_S_S8x768x1 main_cst_6
  let main_v21 : IVec S8x768x1 1 := cmpf .olt main_v19 main_v20
  let main_c_7 : IVec S_ 1 := constantI S_ 1 1#1
  let main_v22 : IVec S_ 1 := (fun x v => Host.reduce IntOp.andi x v reducesTo_S8x768x1_S_d0_1_2 h_S_) main_v21 main_c_7
  let main_v23 : IVec S_ 1 := andi main_v18 main_v22
  main_v23

def fn {F : FTy → Type} [FloatOps F] (main_arg0 : FVec F S1x768x2048 .f32) (main_arg1 : FVec F S8x768x1 .f32) (main_arg2 : FVec F S8x768x2304 .f32) (main_arg3 : FVec F S2304x192x7 .f32) (main_arg4 : FVec F S8x768x1 .f32) (main_arg5 : FVec F S8x768x768 .f32) : IVec S_ 1 :=
  let main_v0 : FVec F S1x768x2048 .f32 := Host.absf main_arg0
  let main_cst : FVec F S_ .f32 := constant S_ .f32 0x7F800000#32
  let main_v1 : FVec F S1x768x2048 .f32 := broadcastInDim S1x768x2048 ![] bcast_S_S1x768x2048 main_cst
  let main_v2 : IVec S1x768x2048 1 := cmpf .olt main_v0 main_v1
  let main_c : IVec S_ 1 := constantI S_ 1 1#1
  let main_v3 : IVec S_ 1 := (fun x v => Host.reduce IntOp.andi x v reducesTo_S1x768x2048_S_d0_1_2 h_S_) main_v2 main_c
  let main_v4 : FVec F S8x768x1 .f32 := Host.absf main_arg1
  let main_cst_0 : FVec F S_ .f32 := constant S_ .f32 0x7F800000#32
  let main_v5 : FVec F S8x768x1 .f32 := broadcastInDim S8x768x1 ![] bcast_S_S8x768x1 main_cst_0
  let main_v6 : IVec S8x768x1 1 := cmpf .olt main_v4 main_v5
  let main_c_1 : IVec S_ 1 := constantI S_ 1 1#1
  let main_v7 : IVec S_ 1 := (fun x v => Host.reduce IntOp.andi x v reducesTo_S8x768x1_S_d0_1_2 h_S_) main_v6 main_c_1
  let main_v8 : IVec S_ 1 := andi main_v3 main_v7
  let main_v9 : FVec F S8x768x2304 .f32 := Host.absf main_arg2
  let main_cst_2 : FVec F S_ .f32 := constant S_ .f32 0x7F800000#32
  let main_v10 : FVec F S8x768x2304 .f32 := broadcastInDim S8x768x2304 ![] bcast_S_S8x768x2304 main_cst_2
  let main_v11 : IVec S8x768x2304 1 := cmpf .olt main_v9 main_v10
  let main_c_3 : IVec S_ 1 := constantI S_ 1 1#1
  let main_v12 : IVec S_ 1 := (fun x v => Host.reduce IntOp.andi x v reducesTo_S8x768x2304_S_d0_1_2 h_S_) main_v11 main_c_3
  let main_v13 : IVec S_ 1 := andi main_v8 main_v12
  let main_v14 : FVec F S2304x192x7 .f32 := Host.absf main_arg3
  let main_cst_4 : FVec F S_ .f32 := constant S_ .f32 0x7F800000#32
  let main_v15 : FVec F S2304x192x7 .f32 := broadcastInDim S2304x192x7 ![] bcast_S_S2304x192x7 main_cst_4
  let main_v16 : IVec S2304x192x7 1 := cmpf .olt main_v14 main_v15
  fn_part1 (F := F) main_arg4 main_v13 main_v16
-- ==== Kernel.lean ====
abbrev S1x768x2048 : Shape := ⟨3, ![1, 768, 2048]⟩
abbrev S8x768x1 : Shape := ⟨3, ![8, 768, 1]⟩
abbrev S8x768x2304 : Shape := ⟨3, ![8, 768, 2304]⟩
abbrev S2304x192x7 : Shape := ⟨3, ![2304, 192, 7]⟩
abbrev S8x768x768 : Shape := ⟨3, ![8, 768, 768]⟩
abbrev S768x2048 : Shape := ⟨2, ![768, 2048]⟩
abbrev S8x768 : Shape := ⟨2, ![8, 768]⟩
abbrev S7x2304x192 : Shape := ⟨3, ![7, 2304, 192]⟩
abbrev S2304x2048 : Shape := ⟨2, ![2304, 2048]⟩
abbrev S1x1 : Shape := ⟨2, ![1, 1]⟩
abbrev S1x768x1152 : Shape := ⟨3, ![1, 768, 1152]⟩
abbrev S1152x2048 : Shape := ⟨2, ![1152, 2048]⟩
abbrev S8x2048 : Shape := ⟨2, ![8, 2048]⟩
abbrev S1x2048 : Shape := ⟨2, ![1, 2048]⟩
abbrev S2048 : Shape := ⟨1, ![2048]⟩
abbrev S8 : Shape := ⟨1, ![8]⟩
abbrev S8x1 : Shape := ⟨2, ![8, 1]⟩
abbrev S1 : Shape := ⟨1, ![1]⟩
abbrev S768x1152 : Shape := ⟨2, ![768, 1152]⟩
abbrev S768x16x128 : Shape := ⟨3, ![768, 16, 128]⟩
abbrev S768x16x1 : Shape := ⟨3, ![768, 16, 1]⟩
abbrev S768x16x127 : Shape := ⟨3, ![768, 16, 127]⟩
abbrev S768x16 : Shape := ⟨2, ![768, 16]⟩
abbrev S768x1 : Shape := ⟨2, ![768, 1]⟩
abbrev S768x15 : Shape := ⟨2, ![768, 15]⟩
abbrev S192x2048 : Shape := ⟨2, ![192, 2048]⟩
abbrev S7x576x192 : Shape := ⟨3, ![7, 576, 192]⟩
abbrev S576x2048 : Shape := ⟨2, ![576, 2048]⟩
abbrev S192x6 : Shape := ⟨2, ![192, 6]⟩
abbrev S192x2042 : Shape := ⟨2, ![192, 2042]⟩
abbrev S1x576x192 : Shape := ⟨3, ![1, 576, 192]⟩
abbrev S576x192 : Shape := ⟨2, ![576, 192]⟩
abbrev S192x5 : Shape := ⟨2, ![192, 5]⟩
abbrev S192x2043 : Shape := ⟨2, ![192, 2043]⟩
abbrev S192x4 : Shape := ⟨2, ![192, 4]⟩
abbrev S192x2044 : Shape := ⟨2, ![192, 2044]⟩
abbrev S192x3 : Shape := ⟨2, ![192, 3]⟩
abbrev S192x2045 : Shape := ⟨2, ![192, 2045]⟩
abbrev S192x2 : Shape := ⟨2, ![192, 2]⟩
abbrev S192x2046 : Shape := ⟨2, ![192, 2046]⟩
abbrev S192x1 : Shape := ⟨2, ![192, 1]⟩
abbrev S192x2047 : Shape := ⟨2, ![192, 2047]⟩
abbrev S1x768x768 : Shape := ⟨3, ![1, 768, 768]⟩
abbrev S768x768 : Shape := ⟨2, ![768, 768]⟩
abbrev S_ : Shape := ⟨0, ![]⟩

abbrev nBuf : Space → Nat
  | .hbm => 19
  | .vmem => 25
  | .smem => 0
  | _ => 0

abbrev bufTy : (tb : Table) → Fin (tcTables nBuf tb) → BufTy
  | .hbm, ⟨0, _⟩ => ⟨S1x768x2048, .f32⟩
  | .hbm, ⟨1, _⟩ => ⟨S8x768x1, .f32⟩
  | .hbm, ⟨2, _⟩ => ⟨S8x768x2304, .f32⟩
  | .hbm, ⟨3, _⟩ => ⟨S2304x192x7, .f32⟩
  | .hbm, ⟨4, _⟩ => ⟨S8x768x1, .f32⟩
  | .hbm, ⟨5, _⟩ => ⟨S8x768x768, .f32⟩
  | .hbm, ⟨6, _⟩ => ⟨S768x2048, .f32⟩
  | .hbm, ⟨7, _⟩ => ⟨S8x768, .f32⟩
  | .hbm, ⟨8, _⟩ => ⟨S8x768, .f32⟩
  | .hbm, ⟨9, _⟩ => ⟨S7x2304x192, .f32⟩
  | .hbm, ⟨10, _⟩ => ⟨S2304x2048, .f32⟩
  | .hbm, ⟨11, _⟩ => ⟨S1x1, .f32⟩
  | .hbm, ⟨12, _⟩ => ⟨S768x2048, .f32⟩
  | .hbm, ⟨13, _⟩ => ⟨S2304x2048, .f32⟩
  | .hbm, ⟨14, _⟩ => ⟨S768x2048, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S1x768x2048, .f32⟩
  | .local _ .vmem, ⟨0, _⟩ => ⟨S768x2048, .f32⟩
  | .local _ .vmem, ⟨1, _⟩ => ⟨S8x768, .f32⟩
  | .local _ .vmem, ⟨2, _⟩ => ⟨S1x768x1152, .f32⟩
  | .local _ .vmem, ⟨3, _⟩ => ⟨S1x768x1152, .f32⟩
  | .local _ .vmem, ⟨4, _⟩ => ⟨S1152x2048, .f32⟩
  | .local _ .vmem, ⟨5, _⟩ => ⟨S1152x2048, .f32⟩
  | .local _ .vmem, ⟨6, _⟩ => ⟨S1x1, .f32⟩
  | .local _ .vmem, ⟨7, _⟩ => ⟨S8x2048, .f32⟩
  | .local _ .vmem, ⟨8, _⟩ => ⟨S768x2048, .f32⟩
  | .local _ .vmem, ⟨9, _⟩ => ⟨S2304x2048, .f32⟩
  | .local _ .vmem, ⟨10, _⟩ => ⟨S768x2048, .f32⟩
  | .local _ .vmem, ⟨11, _⟩ => ⟨S192x2048, .f32⟩
  | .local _ .vmem, ⟨12, _⟩ => ⟨S192x2048, .f32⟩
  | .local _ .vmem, ⟨13, _⟩ => ⟨S7x576x192, .f32⟩
  | .local _ .vmem, ⟨14, _⟩ => ⟨S7x576x192, .f32⟩
  | .local _ .vmem, ⟨15, _⟩ => ⟨S576x2048, .f32⟩
  | .local _ .vmem, ⟨16, _⟩ => ⟨S576x2048, .f32⟩
  | .local _ .vmem, ⟨17, _⟩ => ⟨S2304x2048, .f32⟩
  | .local _ .vmem, ⟨18, _⟩ => ⟨S8x768, .f32⟩
  | .local _ .vmem, ⟨19, _⟩ => ⟨S1x768x768, .f32⟩
  | .local _ .vmem, ⟨20, _⟩ => ⟨S1x768x768, .f32⟩
  | .local _ .vmem, ⟨21, _⟩ => ⟨S768x2048, .f32⟩
  | .local _ .vmem, ⟨22, _⟩ => ⟨S1x1, .f32⟩
  | .local _ .vmem, ⟨23, _⟩ => ⟨S8x2048, .f32⟩
  | .local _ .vmem, ⟨24, _⟩ => ⟨S768x2048, .f32⟩
  | _, _ => ⟨S1x768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg1_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg4_0 : Ref sig .tc := ⟨.vmem, 22, rfl⟩
abbrev cc3_scratch0 : Ref sig .tc := ⟨.vmem, 23, rfl⟩
abbrev cc3_scratch1 : Ref sig .tc := ⟨.vmem, 24, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem1_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17
abbrev cc3_sem2_1 : DmaSem sig := 18
abbrev cc3_sem3_0 : DmaSem sig := 19
abbrev cc3_sem4_0 : DmaSem sig := 20

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let arg1 : BitVec 32 := BitVec.ofNat 32 (i 1).val
  let v5 : Index := Scalar.indexCast arg1
  let c0 : Index := 0#32
  ![v5.toNat, 0]
def k0_cond2 (i : grid0.Coords) : BitVec 1 :=
  let arg1 : BitVec 32 := BitVec.ofNat 32 (i 1).val
  let c0_i32_8 : BitVec 32 := 0#32
  let v16 : BitVec 1 := Scalar.cmpi .eq arg1 c0_i32_8
  let v17 : BitVec 32 := Scalar.extui v16
  let c0_i32_9 : BitVec 32 := 0#32
  let v18 : BitVec 1 := Scalar.cmpi .ne v17 c0_i32_9
  v18

def k0_cond3 (i : grid0.Coords) : BitVec 1 :=
  let arg1 : BitVec 32 := BitVec.ofNat 32 (i 1).val
  let c0_i32_10 : BitVec 32 := 0#32
  let v19 : BitVec 1 := Scalar.cmpi .sgt arg1 c0_i32_10
  let v20 : BitVec 32 := Scalar.extui v19
  let c0_i32_11 : BitVec 32 := 0#32
  let v21 : BitVec 1 := Scalar.cmpi .ne v20 c0_i32_11
  v21

def k0_cond4 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_12 : BitVec 32 := 0#32
  let v24 : BitVec 1 := Scalar.cmpi .ne v23 c0_i32_12
  v24

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1152x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := .none

abbrev stage1_0 : Fin 1 → Memref sig .tc .vmem S2304x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S768x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S192x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S7x576x192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S576x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![1, 8], ![false, false]⟩

def k3_off1 (i : grid3.Coords) : Fin 2 → Nat :=
  let arg1 : BitVec 32 := BitVec.ofNat 32 (i 1).val
  let v5 : Index := Scalar.indexCast arg1
  let c0 : Index := 0#32
  ![v5.toNat, 0]
def k3_cond2 (i : grid3.Coords) : BitVec 1 :=
  let arg1 : BitVec 32 := BitVec.ofNat 32 (i 1).val
  let c0_i32_8 : BitVec 32 := 0#32
  let v15 : BitVec 1 := Scalar.cmpi .eq arg1 c0_i32_8
  let v16 : BitVec 32 := Scalar.extui v15
  let c0_i32_9 : BitVec 32 := 0#32
  let v17 : BitVec 1 := Scalar.cmpi .ne v16 c0_i32_9
  v17

def k3_cond3 (i : grid3.Coords) : BitVec 1 :=
  let arg1 : BitVec 32 := BitVec.ofNat 32 (i 1).val
  let c0_i32_10 : BitVec 32 := 0#32
  let v18 : BitVec 1 := Scalar.cmpi .sgt arg1 c0_i32_10
  let v19 : BitVec 32 := Scalar.extui v18
  let c0_i32_11 : BitVec 32 := 0#32
  let v20 : BitVec 1 := Scalar.cmpi .ne v19 c0_i32_11
  v20

def k3_cond1 (i : grid3.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2304x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .vmem S8x768 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x768x768 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S768x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]
-- ==== ReferenceIdeal.lean ====
abbrev S1x768x2048 : Shape := ⟨3, ![1, 768, 2048]⟩
abbrev S8x768x1 : Shape := ⟨3, ![8, 768, 1]⟩
abbrev S8x768x2304 : Shape := ⟨3, ![8, 768, 2304]⟩
abbrev S2304x192x7 : Shape := ⟨3, ![2304, 192, 7]⟩
abbrev S8x768x768 : Shape := ⟨3, ![8, 768, 768]⟩
abbrev S2048 : Shape := ⟨1, ![2048]⟩
abbrev S_ : Shape := ⟨0, ![]⟩
abbrev S1x1x2048 : Shape := ⟨3, ![1, 1, 2048]⟩
abbrev S8x768 : Shape := ⟨2, ![8, 768]⟩
abbrev S8x1x2048 : Shape := ⟨3, ![8, 1, 2048]⟩
abbrev S1x8x2048 : Shape := ⟨3, ![1, 8, 2048]⟩
abbrev S1x2048 : Shape := ⟨2, ![1, 2048]⟩
abbrev S1x2048x1 : Shape := ⟨3, ![1, 2048, 1]⟩
abbrev S1x1x8 : Shape := ⟨3, ![1, 1, 8]⟩
abbrev S1x2048x8 : Shape := ⟨3, ![1, 2048, 8]⟩
abbrev S1x2048x768 : Shape := ⟨3, ![1, 2048, 768]⟩
abbrev S1x2048x8x2304 : Shape := ⟨4, ![1, 2048, 8, 2304]⟩
abbrev S1x2048x2304 : Shape := ⟨3, ![1, 2048, 2304]⟩
abbrev S8 : Shape := ⟨1, ![8]⟩
abbrev S1x2304x2048 : Shape := ⟨3, ![1, 2304, 2048]⟩
abbrev S1x768x2054 : Shape := ⟨3, ![1, 768, 2054]⟩
abbrev S1x4x192x2054 : Shape := ⟨4, ![1, 4, 192, 2054]⟩
abbrev S4x576x192x7 : Shape := ⟨4, ![4, 576, 192, 7]⟩
abbrev S1x4x192x2048 : Shape := ⟨4, ![1, 4, 192, 2048]⟩
abbrev S4x576x192x1 : Shape := ⟨4, ![4, 576, 192, 1]⟩
abbrev S4x576x192 : Shape := ⟨3, ![4, 576, 192]⟩
abbrev S4x576x1x2048 : Shape := ⟨4, ![4, 576, 1, 2048]⟩
abbrev S1x4x576x2048 : Shape := ⟨4, ![1, 4, 576, 2048]⟩
abbrev S1x2048x8x768 : Shape := ⟨4, ![1, 2048, 8, 768]⟩

abbrev nBuf : Space → Nat
  | .hbm => 237
  | .vmem => 0
  | .smem => 0
  | _ => 0

abbrev hbmTy0_0 (i : Nat) : BufTy := match i % 128 with
  | 0 => ⟨S1x768x2048, .f32⟩
  | 1 => ⟨S8x768x1, .f32⟩
  | 2 => ⟨S8x768x2304, .f32⟩
  | 3 => ⟨S2304x192x7, .f32⟩
  | 4 => ⟨S8x768x1, .f32⟩
  | 5 => ⟨S8x768x768, .f32⟩
  | 6 => ⟨S2048, .f32⟩
  | 7 => ⟨S_, .f32⟩
  | 8 => ⟨S2048, .f32⟩
  | 9 => ⟨S2048, .f32⟩
  | 10 => ⟨S1x1x2048, .f32⟩
  | 11 => ⟨S8x768, .f32⟩
  | 12 => ⟨S8x1x2048, .f32⟩
  | 13 => ⟨S1x8x2048, .f32⟩
  | 14 => ⟨S_, .f32⟩
  | 15 => ⟨S1x2048, .f32⟩
  | 16 => ⟨S_, .f32⟩
  | 17 => ⟨S1x2048, .f32⟩
  | 18 => ⟨S1x2048, .f32⟩
  | 19 => ⟨S1x1x2048, .f32⟩
  | 20 => ⟨S1x8x2048, .f32⟩
  | 21 => ⟨S1x8x2048, .f32⟩
  | 22 => ⟨S1x8x2048, .f32⟩
  | 23 => ⟨S_, .f32⟩
  | 24 => ⟨S1x2048, .f32⟩
  | 25 => ⟨S1x1x2048, .f32⟩
  | 26 => ⟨S1x8x2048, .f32⟩
  | 27 => ⟨S1x8x2048, .f32⟩
  | 28 => ⟨S1x8x2048, .i32⟩
  | 29 => ⟨S_, .f32⟩
  | 30 => ⟨S_, .i32⟩
  | 31 => ⟨S1x2048, .f32⟩
  | 32 => ⟨S1x2048, .i32⟩
  | 33 => ⟨S1x2048x1, .i32⟩
  | 34 => ⟨S1x1x8, .i32⟩
  | 35 => ⟨S1x2048x8, .i32⟩
  | 36 => ⟨S1x2048x8, .i32⟩
  | 37 => ⟨S1x2048x8, .i1⟩
  | 38 => ⟨S1x2048x8, .f32⟩
  | 39 => ⟨S1x8x2048, .f32⟩
  | 40 => ⟨S1x8x2048, .f32⟩
  | 41 => ⟨S1x8x2048, .f32⟩
  | 42 => ⟨S1x2048x768, .f32⟩
  | 43 => ⟨S1x2048x8x2304, .f32⟩
  | 44 => ⟨S1x2048x8, .f32⟩
  | 45 => ⟨S1x2048x8, .f32⟩
  | 46 => ⟨S1x2048x2304, .f32⟩
  | 47 => ⟨S_, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S_, .f32⟩
  | 55 => ⟨S8, .f32⟩
  | 56 => ⟨S8, .f32⟩
  | 57 => ⟨S8, .f32⟩
  | 58 => ⟨S_, .f32⟩
  | 59 => ⟨S_, .f32⟩
  | 60 => ⟨S1x2304x2048, .f32⟩
  | 61 => ⟨S1x768x2048, .f32⟩
  | 62 => ⟨S1x768x2048, .f32⟩
  | 63 => ⟨S1x768x2048, .f32⟩
  | 64 => ⟨S_, .f32⟩
  | 65 => ⟨S_, .f32⟩
  | 66 => ⟨S1x768x2048, .f32⟩
  | 67 => ⟨S1x768x2048, .f32⟩
  | 68 => ⟨S1x768x2048, .f32⟩
  | 69 => ⟨S1x768x2048, .f32⟩
  | 70 => ⟨S1x768x2048, .f32⟩
  | 71 => ⟨S_, .f32⟩
  | 72 => ⟨S1x2048, .f32⟩
  | 73 => ⟨S1x1x2048, .f32⟩
  | 74 => ⟨S_, .f32⟩
  | 75 => ⟨S1x1x2048, .f32⟩
  | 76 => ⟨S1x1x2048, .f32⟩
  | 77 => ⟨S1x768x2048, .f32⟩
  | 78 => ⟨S1x768x2048, .f32⟩
  | 79 => ⟨S1x768x2048, .f32⟩
  | 80 => ⟨S_, .f32⟩
  | 81 => ⟨S1x2048, .f32⟩
  | 82 => ⟨S1x1x2048, .f32⟩
  | 83 => ⟨S1x1x2048, .f32⟩
  | 84 => ⟨S_, .f32⟩
  | 85 => ⟨S1x1x2048, .f32⟩
  | 86 => ⟨S1x1x2048, .f32⟩
  | 87 => ⟨S_, .f32⟩
  | 88 => ⟨S1x1x2048, .f32⟩
  | 89 => ⟨S1x1x2048, .f32⟩
  | 90 => ⟨S1x768x2048, .f32⟩
  | 91 => ⟨S1x768x2048, .f32⟩
  | 92 => ⟨S_, .f32⟩
  | 93 => ⟨S_, .f32⟩
  | 94 => ⟨S1x768x2048, .f32⟩
  | 95 => ⟨S1x768x2048, .i1⟩
  | 96 => ⟨S_, .f32⟩
  | 97 => ⟨S1x768x2048, .f32⟩
  | 98 => ⟨S1x768x2048, .f32⟩
  | 99 => ⟨S1x768x2048, .f32⟩
  | 100 => ⟨S_, .i32⟩
  | 101 => ⟨S_, .f32⟩
  | 102 => ⟨S1x768x2054, .f32⟩
  | 103 => ⟨S1x4x192x2054, .f32⟩
  | 104 => ⟨S4x576x192x7, .f32⟩
  | 105 => ⟨S1x4x192x2048, .f32⟩
  | 106 => ⟨S4x576x192x1, .f32⟩
  | 107 => ⟨S4x576x192, .f32⟩
  | 108 => ⟨S4x576x1x2048, .f32⟩
  | 109 => ⟨S1x4x576x2048, .f32⟩
  | 110 => ⟨S_, .f32⟩
  | 111 => ⟨S1x4x576x2048, .f32⟩
  | 112 => ⟨S1x4x576x2048, .f32⟩
  | 113 => ⟨S1x4x192x2048, .f32⟩
  | 114 => ⟨S4x576x192x1, .f32⟩
  | 115 => ⟨S4x576x192, .f32⟩
  | 116 => ⟨S4x576x1x2048, .f32⟩
  | 117 => ⟨S1x4x576x2048, .f32⟩
  | 118 => ⟨S1x4x576x2048, .f32⟩
  | 119 => ⟨S1x4x192x2048, .f32⟩
  | 120 => ⟨S4x576x192x1, .f32⟩
  | 121 => ⟨S4x576x192, .f32⟩
  | 122 => ⟨S4x576x1x2048, .f32⟩
  | 123 => ⟨S1x4x576x2048, .f32⟩
  | 124 => ⟨S1x4x576x2048, .f32⟩
  | 125 => ⟨S1x4x192x2048, .f32⟩
  | 126 => ⟨S4x576x192x1, .f32⟩
  | 127 => ⟨S4x576x192, .f32⟩
  | _ => ⟨S1x768x2048, .f32⟩

abbrev hbmTy0_1 (i : Nat) : BufTy := match i % 128 with
  | 0 => ⟨S4x576x1x2048, .f32⟩
  | 1 => ⟨S1x4x576x2048, .f32⟩
  | 2 => ⟨S1x4x576x2048, .f32⟩
  | 3 => ⟨S1x4x192x2048, .f32⟩
  | 4 => ⟨S4x576x192x1, .f32⟩
  | 5 => ⟨S4x576x192, .f32⟩
  | 6 => ⟨S4x576x1x2048, .f32⟩
  | 7 => ⟨S1x4x576x2048, .f32⟩
  | 8 => ⟨S1x4x576x2048, .f32⟩
  | 9 => ⟨S1x4x192x2048, .f32⟩
  | 10 => ⟨S4x576x192x1, .f32⟩
  | 11 => ⟨S4x576x192, .f32⟩
  | 12 => ⟨S4x576x1x2048, .f32⟩
  | 13 => ⟨S1x4x576x2048, .f32⟩
  | 14 => ⟨S1x4x576x2048, .f32⟩
  | 15 => ⟨S1x4x192x2048, .f32⟩
  | 16 => ⟨S4x576x192x1, .f32⟩
  | 17 => ⟨S4x576x192, .f32⟩
  | 18 => ⟨S4x576x1x2048, .f32⟩
  | 19 => ⟨S1x4x576x2048, .f32⟩
  | 20 => ⟨S1x4x576x2048, .f32⟩
  | 21 => ⟨S1x2304x2048, .f32⟩
  | 22 => ⟨S1x768x2048, .f32⟩
  | 23 => ⟨S1x768x2048, .f32⟩
  | 24 => ⟨S1x768x2048, .f32⟩
  | 25 => ⟨S1x768x2048, .f32⟩
  | 26 => ⟨S1x768x2048, .f32⟩
  | 27 => ⟨S_, .f32⟩
  | 28 => ⟨S1x2048, .f32⟩
  | 29 => ⟨S1x1x2048, .f32⟩
  | 30 => ⟨S_, .f32⟩
  | 31 => ⟨S1x1x2048, .f32⟩
  | 32 => ⟨S1x1x2048, .f32⟩
  | 33 => ⟨S1x768x2048, .f32⟩
  | 34 => ⟨S1x768x2048, .f32⟩
  | 35 => ⟨S1x768x2048, .f32⟩
  | 36 => ⟨S_, .f32⟩
  | 37 => ⟨S1x2048, .f32⟩
  | 38 => ⟨S1x1x2048, .f32⟩
  | 39 => ⟨S1x1x2048, .f32⟩
  | 40 => ⟨S_, .f32⟩
  | 41 => ⟨S1x1x2048, .f32⟩
  | 42 => ⟨S1x1x2048, .f32⟩
  | 43 => ⟨S_, .f32⟩
  | 44 => ⟨S1x1x2048, .f32⟩
  | 45 => ⟨S1x1x2048, .f32⟩
  | 46 => ⟨S1x768x2048, .f32⟩
  | 47 => ⟨S1x768x2048, .f32⟩
  | 48 => ⟨S_, .f32⟩
  | 49 => ⟨S_, .f32⟩
  | 50 => ⟨S1x768x2048, .f32⟩
  | 51 => ⟨S1x768x2048, .i1⟩
  | 52 => ⟨S_, .f32⟩
  | 53 => ⟨S1x768x2048, .f32⟩
  | 54 => ⟨S1x768x2048, .f32⟩
  | 55 => ⟨S1x768x2048, .f32⟩
  | 56 => ⟨S8x768, .f32⟩
  | 57 => ⟨S8x1x2048, .f32⟩
  | 58 => ⟨S1x8x2048, .f32⟩
  | 59 => ⟨S_, .f32⟩
  | 60 => ⟨S1x2048, .f32⟩
  | 61 => ⟨S_, .f32⟩
  | 62 => ⟨S1x2048, .f32⟩
  | 63 => ⟨S1x2048, .f32⟩
  | 64 => ⟨S1x1x2048, .f32⟩
  | 65 => ⟨S1x8x2048, .f32⟩
  | 66 => ⟨S1x8x2048, .f32⟩
  | 67 => ⟨S1x8x2048, .f32⟩
  | 68 => ⟨S_, .f32⟩
  | 69 => ⟨S1x2048, .f32⟩
  | 70 => ⟨S1x1x2048, .f32⟩
  | 71 => ⟨S1x8x2048, .f32⟩
  | 72 => ⟨S1x8x2048, .f32⟩
  | 73 => ⟨S1x8x2048, .i32⟩
  | 74 => ⟨S_, .f32⟩
  | 75 => ⟨S_, .i32⟩
  | 76 => ⟨S1x2048, .f32⟩
  | 77 => ⟨S1x2048, .i32⟩
  | 78 => ⟨S1x2048x1, .i32⟩
  | 79 => ⟨S1x1x8, .i32⟩
  | 80 => ⟨S1x2048x8, .i32⟩
  | 81 => ⟨S1x2048x8, .i32⟩
  | 82 => ⟨S1x2048x8, .i1⟩
  | 83 => ⟨S1x2048x8, .f32⟩
  | 84 => ⟨S1x8x2048, .f32⟩
  | 85 => ⟨S1x8x2048, .f32⟩
  | 86 => ⟨S1x8x2048, .f32⟩
  | 87 => ⟨S1x2048x768, .f32⟩
  | 88 => ⟨S1x2048x8x768, .f32⟩
  | 89 => ⟨S1x2048x8, .f32⟩
  | 90 => ⟨S1x2048x8, .f32⟩
  | 91 => ⟨S1x2048x768, .f32⟩
  | 92 => ⟨S_, .f32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S_, .f32⟩
  | 100 => ⟨S8, .f32⟩
  | 101 => ⟨S8, .f32⟩
  | 102 => ⟨S8, .f32⟩
  | 103 => ⟨S_, .f32⟩
  | 104 => ⟨S_, .f32⟩
  | 105 => ⟨S1x768x2048, .f32⟩
  | 106 => ⟨S_, .f32⟩
  | 107 => ⟨S1x768x2048, .f32⟩
  | 108 => ⟨S1x768x2048, .f32⟩
  | _ => ⟨S1x768x2048, .f32⟩

abbrev hbmTy (i : Nat) : BufTy := match i / 128 with
  | 0 => hbmTy0_0 i
  | 1 => hbmTy0_1 i
  | _ => ⟨S1x768x2048, .f32⟩

abbrev bufTy : (tb : Table) → Fin (tcTables nBuf tb) → BufTy
  | .hbm, ⟨i, _⟩ => hbmTy i
  | _, _ => ⟨S1x768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_cst : Ref sig .tc := ⟨.hbm, 29, rfl⟩
abbrev main_call0_c : Ref sig .tc := ⟨.hbm, 30, rfl⟩
abbrev main_call0_v1_0 : Ref sig .tc := ⟨.hbm, 31, rfl⟩
abbrev main_v18 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_call0_cst : Ref sig .tc := ⟨.hbm, 64, rfl⟩
abbrev main_call2_call0_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call3_v0 : Ref sig .tc := ⟨.hbm, 79, rfl⟩
abbrev main_call3_cst : Ref sig .tc := ⟨.hbm, 80, rfl⟩
abbrev main_call3_v1 : Ref sig .tc := ⟨.hbm, 81, rfl⟩
abbrev main_call3_v2 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_call4_cst : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_v58 : Ref sig .tc := ⟨.hbm, 99, rfl⟩
abbrev main_c : Ref sig .tc := ⟨.hbm, 100, rfl⟩
abbrev main_call5_v0 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_13 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_14 : Ref sig .tc := ⟨.hbm, 155, rfl⟩
abbrev main_v111 : Ref sig .tc := ⟨.hbm, 156, rfl⟩
abbrev main_v112 : Ref sig .tc := ⟨.hbm, 157, rfl⟩
abbrev main_cst_15 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_call6_v0 : Ref sig .tc := ⟨.hbm, 163, rfl⟩
abbrev main_call6_cst : Ref sig .tc := ⟨.hbm, 164, rfl⟩
abbrev main_call6_v1 : Ref sig .tc := ⟨.hbm, 165, rfl⟩
abbrev main_call6_v2 : Ref sig .tc := ⟨.hbm, 166, rfl⟩
abbrev main_v117 : Ref sig .tc := ⟨.hbm, 167, rfl⟩
abbrev main_cst_16 : Ref sig .tc := ⟨.hbm, 168, rfl⟩
abbrev main_v118 : Ref sig .tc := ⟨.hbm, 169, rfl⟩
abbrev main_v119 : Ref sig .tc := ⟨.hbm, 170, rfl⟩
abbrev main_cst_17 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_18 : Ref sig .tc := ⟨.hbm, 176, rfl⟩
abbrev main_call7_cst : Ref sig .tc := ⟨.hbm, 177, rfl⟩
abbrev main_call7_v0 : Ref sig .tc := ⟨.hbm, 178, rfl⟩
abbrev main_call7_v1 : Ref sig .tc := ⟨.hbm, 179, rfl⟩
abbrev main_call7_v2 : Ref sig .tc := ⟨.hbm, 180, rfl⟩
abbrev main_call7_v3 : Ref sig .tc := ⟨.hbm, 181, rfl⟩
abbrev main_call7_v4 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_cst_19 : Ref sig .tc := ⟨.hbm, 187, rfl⟩
abbrev main_v128 : Ref sig .tc := ⟨.hbm, 188, rfl⟩
abbrev main_cst_20 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_21 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_call8_v0 : Ref sig .tc := ⟨.hbm, 201, rfl⟩
abbrev main_call8_cst : Ref sig .tc := ⟨.hbm, 202, rfl⟩
abbrev main_call8_c : Ref sig .tc := ⟨.hbm, 203, rfl⟩
abbrev main_call8_v1_0 : Ref sig .tc := ⟨.hbm, 204, rfl⟩
abbrev main_v139 : Ref sig .tc := ⟨.hbm, 205, rfl⟩
abbrev main_call9_v0 : Ref sig .tc := ⟨.hbm, 206, rfl⟩
abbrev main_call9_v1 : Ref sig .tc := ⟨.hbm, 207, rfl⟩
abbrev main_call9_v2 : Ref sig .tc := ⟨.hbm, 208, rfl⟩
abbrev main_call9_v3 : Ref sig .tc := ⟨.hbm, 209, rfl⟩
abbrev main_call9_v4 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_cst_22 : Ref sig .tc := ⟨.hbm, 220, rfl⟩
abbrev main_v149 : Ref sig .tc := ⟨.hbm, 221, rfl⟩
abbrev main_cst_23 : Ref sig .tc := ⟨.hbm, 222, rfl⟩
abbrev main_v150 : Ref sig .tc := ⟨.hbm, 223, rfl⟩
abbrev main_v151 : Ref sig .tc := ⟨.hbm, 224, rfl⟩
abbrev main_cst_24 : Ref sig .tc := ⟨.hbm, 225, rfl⟩
abbrev main_v152 : Ref sig .tc := ⟨.hbm, 226, rfl⟩
abbrev main_cst_25 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_cst_26 : Ref sig .tc := ⟨.hbm, 231, rfl⟩
abbrev main_v156 : Ref sig .tc := ⟨.hbm, 232, rfl⟩
abbrev main_v157 : Ref sig .tc := ⟨.hbm, 233, rfl⟩
abbrev main_cst_27 : Ref sig .tc := ⟨.hbm, 234, rfl⟩
abbrev main_v158 : Ref sig .tc := ⟨.hbm, 235, rfl⟩
abbrev main_v159 : Ref sig .tc := ⟨.hbm, 236, rfl⟩

abbrev nD : Nat := 1
abbrev τ : Topo := Topo.v7x

variable {F : FTy → Type} [FloatOps F]
-- ==== Proof.KernelIdeal.Body0.lean ====
/- The body of the first pallas_call (the router and the expert products), run once per kind of grid point: at the
   first point, where the router runs and the accumulator starts; at the other start of a row of experts; at a point that
   adds an expert's product; and at the last expert, which adds and rounds. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The row of the one-hot matrix the point's expert selects. -/
def row0 (oh : Vec F S8x2048 .f32) (i : grid0.Coords) : Vec F S1x2048 .f32 :=
  VecWindow.window oh (k0_off1 i) S1x2048.size (k0_off1_inb i)

/-- The router's one-hot matrix: expert by token. -/
def oneHot0 (x : Vec F S768x2048 .f32) (g : Vec F S8x768 .f32) : Vec F S8x2048 .f32 := k0_pay1 (k0_pay29 x g)

/-- The router's balance loss. -/
def lossOf0 (x : Vec F S768x2048 .f32) (g : Vec F S8x768 .f32) : Vec F S1x1 .f32 :=
  k0_pay2 (k0_pay6 x g) (k0_pay28 x g) (k0_pay29 x g)

/-- An expert's product on the tokens routed to it. -/
def part0 (oh : Vec F S8x2048 .f32) (i : grid0.Coords) (x : Vec F S768x2048 .f32) (w : Vec F S1x768x1152 .f32) : Vec F S1152x2048 .f32 :=
  k0_pay3 (row0 oh i) x w

/-- The accumulator with an expert's product added. -/
def add0 (oh : Vec F S8x2048 .f32) (i : grid0.Coords) (x : Vec F S768x2048 .f32) (w : Vec F S1x768x1152 .f32) (h : Vec F S1152x2048 .f32) :
    Vec F S1152x2048 .f32 := k0_pay4 (row0 oh i) x w h

/-! ## The body's triples -/

/-- A row read back after the whole one-hot matrix was stored is the row of what was stored. -/
theorem row_of (v : View sig .tc .vmem S8x2048 .f32) (i : grid0.Coords) (w oh : Vec F S8x2048 .f32) (inb : ∀ a, (![0, 0] : Fin 2 → ℕ) a + S8x2048.size a ≤ S8x2048.size a)
    (h : w = oh) :
    v.readCov (Val := Elt F) [⟨Rect.unit ![0, 0] S8x2048.size inb, w⟩] (Rect.unit (s := S8x2048) (k0_off1 i) S1x2048.size (k0_off1_inb i)).toLoadRect = row0 oh i := by
  subst h
  refine (View.readAt_unit v _ _ rfl (k0_off1_inb i)).trans ?_
  rw [View.read_writes_full]; rfl

/-- The same row of a matrix that was there before. -/
theorem row_at (v : View sig .tc .vmem S8x2048 .f32) (i : grid0.Coords) (f : v.ty.Contents (Elt F)) :
    v.readAt (Elt F) (Rect.unit (s := S8x2048) (k0_off1 i) S1x2048.size (k0_off1_inb i)).toLoadRect f = row0 (v.read (Elt F) f) i :=
  View.readAt_unit v f _ rfl (k0_off1_inb i)

set_option maxHeartbeats 1000000 in
/-- At the first point: the router fills the one-hot scratch and the loss, the first expert's product starts the accumulator. -/
theorem body0_first (c : Dev nD) (E : Set ℕ) (i : grid0.Coords) (arg2 : Memref sig .tc .vmem S768x2048 .f32) (harg2 : arg2.IsWhole) (arg3 : Memref sig .tc .vmem S8x768 .f32) (harg3 : arg3.IsWhole) (arg4 : Memref sig .tc .vmem S1x768x1152 .f32) (harg4 : arg4.IsWhole) (arg5 : Memref sig .tc .vmem S1152x2048 .f32) (harg5 : arg5.IsWhole) (arg6 : Memref sig .tc .vmem S1x1 .f32) (harg6 : arg6.IsWhole) (arg7 : Memref sig .tc .vmem S8x2048 .f32) (harg7 : arg7.IsWhole) (arg8 : Memref sig .tc .vmem S768x2048 .f32) (harg8 : arg8.IsWhole)
    (hc1 : k0_cond1 i = 1#1) (hc2 : k0_cond2 i = 1#1) (hc3 : ¬k0_cond3 i = 1#1) (hc4 : ¬k0_cond4 i = 1#1)
    (x0 : Vec F S768x2048 .f32) (x1 : Vec F S8x768 .f32) (x2 : Vec F S1x768x1152 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (part0 (oneHot0 x0 x1) i x0 x2) ∗ owns (c : Thread nD τ) arg6 fullShare (lossOf0 x0 x1) ∗ owns (c : Thread nD τ) arg7 fullShare (oneHot0 x0 x1)) -∗ K ⟨⟩))
      ⊢ wp frame (wpE (defs₀ (F := F)) Variants.none c none) E (cc0__moe_body i arg2 harg2 arg3 harg3 arg4 harg4 arg5 harg5 arg6 harg6 arg7 harg7 arg8 harg8) K := by
  simp only [cc0__moe_body_eq_skeleton]; unfold cc0__moe_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | sl_exact hc1 | sl_exact hc2 | sl_exact hc3 | sl_exact hc4)
  sl_step
  have e0 := View.readAt_full arg2.view f0 inb_S768x2048_S768x2048_0_0
  have e1 := View.readAt_full arg3.view f1 inb_S8x768_S8x768_0_0
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    refine (View.read_writes_full _ _ _ _ _).trans ?_
    unfold part0
    refine congr (congr (congrArg k0_pay3 ?_) (View.readAt_full _ _ _)) (View.readAt_full _ _ _)
    exact row_of _ _ _ _ _ (congrArg₂ oneHot0 e0 e1)
  isplitl [H4]
  · iexists _; isplitr
    swap; · iexact H4
    ipureintro
    refine (View.read_writes_full _ _ _ _ _).trans ?_
    exact congrArg₂ lossOf0 e0 e1
  iexists _; isplitr
  swap; · iexact H5
  ipureintro
  refine (View.read_writes_full _ _ _ _ _).trans ?_
  exact congrArg₂ oneHot0 e0 e1

set_option maxHeartbeats 1000000 in
/-- At the other start of a row of experts: the first expert's product starts the accumulator. -/
theorem body0_start (c : Dev nD) (E : Set ℕ) (i : grid0.Coords) (arg2 : Memref sig .tc .vmem S768x2048 .f32) (harg2 : arg2.IsWhole) (arg3 : Memref sig .tc .vmem S8x768 .f32) (harg3 : arg3.IsWhole) (arg4 : Memref sig .tc .vmem S1x768x1152 .f32) (harg4 : arg4.IsWhole) (arg5 : Memref sig .tc .vmem S1152x2048 .f32) (harg5 : arg5.IsWhole) (arg6 : Memref sig .tc .vmem S1x1 .f32) (harg6 : arg6.IsWhole) (arg7 : Memref sig .tc .vmem S8x2048 .f32) (harg7 : arg7.IsWhole) (arg8 : Memref sig .tc .vmem S768x2048 .f32) (harg8 : arg8.IsWhole)
    (hc1 : ¬k0_cond1 i = 1#1) (hc2 : k0_cond2 i = 1#1) (hc3 : ¬k0_cond3 i = 1#1) (hc4 : ¬k0_cond4 i = 1#1)
    (x0 : Vec F S768x2048 .f32) (x2 : Vec F S1x768x1152 .f32) (oh : Vec F S8x2048 .f32) (K : PUnit → sProp 𝕄) :
    iprop(owns (c : Thread nD τ) arg2 fullShare x0 ∗ owns (c : Thread nD τ) arg4 fullShare x2 ∗ (∃ d, owns (c : Thread nD τ) arg5 fullShare d) ∗ owns (c : Thread nD τ) arg7 fullShare oh
        ∗ (iprop(owns (c : Thread nD τ) arg2 fullShare x0 ∗ owns (c : Thread nD τ) arg4 fullShare x2 ∗ owns (c : Thread nD τ) arg5 fullShare (part0 oh i x0 x2) ∗ owns (c : Thread nD τ) arg7 fullShare oh) -∗ K ⟨⟩))
      ⊢ wp frame (wpE (defs₀ (F := F)) Variants.none c none) E (cc0__moe_body i arg2 harg2 arg3 harg3 arg4 harg4 arg5 harg5 arg6 harg6 arg7 harg7 arg8 harg8) K := by
  simp only [cc0__moe_body_eq_skeleton]; unfold cc0__moe_body_skel
  unfold owns
  iintro ⟨⟨%f0, %hf0, H0⟩, ⟨%f2, %hf2, H2⟩, ⟨%d3, %f3, -, H3⟩, ⟨%f5, %hf5, H5⟩, Hk⟩
  subst hf0 hf2 hf5
  sl_exec (disch := first | sl_exact hc1 | sl_exact hc2 | sl_exact hc3 | sl_exact hc4)
  sl_step
  iapply Hk
  isplitl [H0]; · iexists f0; isplitr; · ipureintro; rfl
                  iexact H0
  isplitl [H2]; · iexists f2; isplitr; · ipureintro; rfl
                  iexact H2
  isplitl [H3]
  · iexists _; isplitr
    swap; · iexact H3
    ipureintro
    refine (View.read_writes_full _ _ _ _ _).trans ?_
    exact congr (congr (congrArg k0_pay3 (row_at _ _ _)) (View.readAt_full _ _ _)) (View.readAt_full _ _ _)
  iexists f5; isplitr; · ipureintro; rfl
  iexact H5

set_option maxHeartbeats 1000000 in
/-- At a point that adds an expert's product to the accumulator. -/
theorem body0_add (c : Dev nD) (E : Set ℕ) (i : grid0.Coords) (arg2 : Memref sig .tc .vmem S768x2048 .f32) (harg2 : arg2.IsWhole) (arg3 : Memref sig .tc .vmem S8x768 .f32) (harg3 : arg3.IsWhole) (arg4 : Memref sig .tc .vmem S1x768x1152 .f32) (harg4 : arg4.IsWhole) (arg5 : Memref sig .tc .vmem S1152x2048 .f32) (harg5 : arg5.IsWhole) (arg6 : Memref sig .tc .vmem S1x1 .f32) (harg6 : arg6.IsWhole) (arg7 : Memref sig .tc .vmem S8x2048 .f32) (harg7 : arg7.IsWhole) (arg8 : Memref sig .tc .vmem S768x2048 .f32) (harg8 : arg8.IsWhole)
    (hc1 : ¬k0_cond1 i = 1#1) (hc2 : ¬k0_cond2 i = 1#1) (hc3 : k0_cond3 i = 1#1) (hc4 : ¬k0_cond4 i = 1#1)
    (x0 : Vec F S768x2048 .f32) (x2 : Vec F S1x768x1152 .f32) (h : Vec F S1152x2048 .f32) (oh : Vec F S8x2048 .f32) (K : PUnit → sProp 𝕄) :
    iprop(owns (c : Thread nD τ) arg2 fullShare x0 ∗ owns (c : Thread nD τ) arg4 fullShare x2 ∗ owns (c : Thread nD τ) arg5 fullShare h ∗ owns (c : Thread nD τ) arg7 fullShare oh
        ∗ (iprop(owns (c : Thread nD τ) arg2 fullShare x0 ∗ owns (c : Thread nD τ) arg4 fullShare x2 ∗ owns (c : Thread nD τ) arg5 fullShare (add0 oh i x0 x2 h) ∗ owns (c : Thread nD τ) arg7 fullShare oh) -∗ K ⟨⟩))
      ⊢ wp frame (wpE (defs₀ (F := F)) Variants.none c none) E (cc0__moe_body i arg2 harg2 arg3 harg3 arg4 harg4 arg5 harg5 arg6 harg6 arg7 harg7 arg8 harg8) K := by
  simp only [cc0__moe_body_eq_skeleton]; unfold cc0__moe_body_skel
  unfold owns
  iintro ⟨⟨%f0, %hf0, H0⟩, ⟨%f2, %hf2, H2⟩, ⟨%f3, %hf3, H3⟩, ⟨%f5, %hf5, H5⟩, Hk⟩
  subst hf0 hf2 hf3 hf5
  sl_exec (disch := first | sl_exact hc1 | sl_exact hc2 | sl_exact hc3 | sl_exact hc4)
  sl_step
  iapply Hk
  isplitl [H0]; · iexists f0; isplitr; · ipureintro; rfl
                  iexact H0
  isplitl [H2]; · iexists f2; isplitr; · ipureintro; rfl
                  iexact H2
  isplitl [H3]
  · iexists _; isplitr
    swap; · iexact H3
    ipureintro
    refine (View.read_writes_full _ _ _ _ _).trans ?_
    exact congr (congr (congr (congrArg k0_pay4 (row_at _ _ _)) (View.readAt_full _ _ _)) (View.readAt_full _ _ _)) (View.readAt_full _ _ _)
  iexists f5; isplitr; · ipureintro; rfl
  iexact H5

set_option maxHeartbeats 1000000 in
/-- At the last expert of a row: its product is added and the sum rounded. -/
theorem body0_last (c : Dev nD) (E : Set ℕ) (i : grid0.Coords) (arg2 : Memref sig .tc .vmem S768x2048 .f32) (harg2 : arg2.IsWhole) (arg3 : Memref sig .tc .vmem S8x768 .f32) (harg3 : arg3.IsWhole) (arg4 : Memref sig .tc .vmem S1x768x1152 .f32) (harg4 : arg4.IsWhole) (arg5 : Memref sig .tc .vmem S1152x2048 .f32) (harg5 : arg5.IsWhole) (arg6 : Memref sig .tc .vmem S1x1 .f32) (harg6 : arg6.IsWhole) (arg7 : Memref sig .tc .vmem S8x2048 .f32) (harg7 : arg7.IsWhole) (arg8 : Memref sig .tc .vmem S768x2048 .f32) (harg8 : arg8.IsWhole)
    (hc1 : ¬k0_cond1 i = 1#1) (hc2 : ¬k0_cond2 i = 1#1) (hc3 : k0_cond3 i = 1#1) (hc4 : k0_cond4 i = 1#1)
    (x0 : Vec F S768x2048 .f32) (x2 : Vec F S1x768x1152 .f32) (h : Vec F S1152x2048 .f32) (oh : Vec F S8x2048 .f32) (K : PUnit → sProp 𝕄) :
    iprop(owns (c : Thread nD τ) arg2 fullShare x0 ∗ owns (c : Thread nD τ) arg4 fullShare x2 ∗ owns (c : Thread nD τ) arg5 fullShare h ∗ owns (c : Thread nD τ) arg7 fullShare oh
        ∗ (iprop(owns (c : Thread nD τ) arg2 fullShare x0 ∗ owns (c : Thread nD τ) arg4 fullShare x2 ∗ owns (c : Thread nD τ) arg5 fullShare (k0_pay5 (add0 oh i x0 x2 h)) ∗ owns (c : Thread nD τ) arg7 fullShare oh) -∗ K ⟨⟩))
      ⊢ wp frame (wpE (defs₀ (F := F)) Variants.none c none) E (cc0__moe_body i arg2 harg2 arg3 harg3 arg4 harg4 arg5 harg5 arg6 harg6 arg7 harg7 arg8 harg8) K := by
  simp only [cc0__moe_body_eq_skeleton]; unfold cc0__moe_body_skel
  unfold owns
  iintro ⟨⟨%f0, %hf0, H0⟩, ⟨%f2, %hf2, H2⟩, ⟨%f3, %hf3, H3⟩, ⟨%f5, %hf5, H5⟩, Hk⟩
  subst hf0 hf2 hf3 hf5
  sl_exec (disch := first | sl_exact hc1 | sl_exact hc2 | sl_exact hc3 | sl_exact hc4)
  sl_step
  iapply Hk
  isplitl [H0]; · iexists f0; isplitr; · ipureintro; rfl
                  iexact H0
  isplitl [H2]; · iexists f2; isplitr; · ipureintro; rfl
                  iexact H2
  isplitl [H3]
  · iexists _; isplitr
    swap; · iexact H3
    ipureintro
    refine (View.read_writes_full _ _ _ _ _).trans ?_
    refine congrArg k0_pay5 ?_
    refine (View.readCov_full _ _ _ _ _).trans ?_
    exact congr (congr (congr (congrArg k0_pay4 (row_at _ _ _)) (View.readAt_full _ _ _)) (View.readAt_full _ _ _)) (View.readAt_full _ _ _)
  iexists f5; isplitr; · ipureintro; rfl
  iexact H5

end Cert.KernelIdeal.Run

end
-- ==== Proof.KernelIdeal.Region0.lean ====
/- The first pallas_call over its grid: what each window's buffer holds after every point, and the body's obligation at
   every point. Its one-hot scratch is carried from the first point to the last, its accumulator along each row of
   experts, and the loss, stored at the first point alone, stays in its buffer until the write-back at the last. -/
module

public import proofs.«01_k».proof.Proof.KernelIdeal.Body0
public import Idealize.ShloMosaic.Lib.Pipeline.TableIdle

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): where it
    is not fetched the block's index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): where it
    is not fetched the block's index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): where it
    is not fetched the block's index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the buffers hold -/

/-- The first point. -/
abbrev p0 : Fin cfg0.N := ⟨0, by rw [show cfg0.N = 16 from N_0]; decide⟩

/-- The one-hot matrix, as the router leaves it at the first point. -/
def oh0 (c : Dev nD) : Vec F S8x2048 .f32 := oneHot0 (iblk0 V c 0 p0) (iblk0 V c 1 p0)

/-- The loss, as the router leaves it at the first point. -/
def loss0 (c : Dev nD) : Vec F S1x1 .f32 := lossOf0 (iblk0 V c 0 p0) (iblk0 V c 1 p0)

/-- The accumulator after point `n`: started at the first expert of a row, added to at each later one, rounded at the last. -/
def acc0 (c : Dev nD) : (n : ℕ) → n < cfg0.N → Vec F S1152x2048 .f32
  | 0, h => part0 (oh0 V c) (grid0.coords ⟨0, h⟩) (iblk0 V c 0 ⟨0, h⟩) (iblk0 V c 2 ⟨0, h⟩)
  | n + 1, h =>
    if (n + 1) % 8 = 0 then part0 (oh0 V c) (grid0.coords ⟨n + 1, h⟩) (iblk0 V c 0 ⟨n + 1, h⟩) (iblk0 V c 2 ⟨n + 1, h⟩)
    else if (n + 1) % 8 = 7 then
      k0_pay5 (add0 (oh0 V c) (grid0.coords ⟨n + 1, h⟩) (iblk0 V c 0 ⟨n + 1, h⟩) (iblk0 V c 2 ⟨n + 1, h⟩) (acc0 c n (Nat.lt_of_succ_lt h)))
    else add0 (oh0 V c) (grid0.coords ⟨n + 1, h⟩) (iblk0 V c 0 ⟨n + 1, h⟩) (iblk0 V c 2 ⟨n + 1, h⟩) (acc0 c n (Nat.lt_of_succ_lt h))

/-- At the first expert of a row the accumulator is that expert's product. -/
theorem acc0_start (c : Dev nD) (t : Fin cfg0.N) (h : t.val % 8 = 0) :
    acc0 V c t.val t.isLt = part0 (oh0 V c) (grid0.coords t) (iblk0 V c 0 t) (iblk0 V c 2 t) := by
  obtain ⟨n, hn⟩ := t
  cases n with
  | zero => rfl
  | succ n => exact if_pos h

/-- At an expert between the first and the last it is the sum so far with that expert's product added. -/
theorem acc0_add (c : Dev nD) (t : Fin cfg0.N) (h : ¬t.val % 8 = 0) (h' : ¬t.val % 8 = 7) :
    acc0 V c t.val t.isLt = add0 (oh0 V c) (grid0.coords t) (iblk0 V c 0 t) (iblk0 V c 2 t) (acc0 V c (t.val - 1) (Nat.lt_of_le_of_lt (Nat.sub_le _ _) t.isLt)) := by
  obtain ⟨n, hn⟩ := t
  cases n with
  | zero => exact absurd rfl h
  | succ n => exact (if_neg h).trans (if_neg h')

/-- At the last expert the sum is rounded too. -/
theorem acc0_last (c : Dev nD) (t : Fin cfg0.N) (h : t.val % 8 = 7) :
    acc0 V c t.val t.isLt = k0_pay5 (add0 (oh0 V c) (grid0.coords t) (iblk0 V c 0 t) (iblk0 V c 2 t) (acc0 V c (t.val - 1) (Nat.lt_of_le_of_lt (Nat.sub_le _ _) t.isLt))) := by
  obtain ⟨n, hn⟩ := t
  cases n with
  | zero => simp only at h; omega
  | succ n => exact (if_neg (by simp only at h; omega)).trans (if_pos h)

/-! ## The invariant between points -/

/-- The one-hot scratch, whole. -/
abbrev sc0_0 : Memref sig .tc .vmem S8x2048 .f32 := Memref.whole cc0_scratch0

/-- Every other scoped buffer that is not a window's, at anything. -/
abbrev other0 (c : Dev nD) : sProp 𝕄 :=
  Pipeline.scopedRestBut (Ix := Unit) (Name := ℕ) (U := UR sig nD τ) (Lvl := ℕ) (Val := Elt F) spec0 c [cc0_scratch0]

/-- The scratch buffers at anything and the generator register, as what the region is entered and left with. -/
theorem PhiA0_eq (c : Dev nD) :
    (Pipeline.ΦA spec0 c : sProp 𝕄)
      = iprop(iprop((∃ d, owns (c : Thread nD τ) sc0_0 fullShare d) ∗ other0 c) ∗ (∃ r, prngReg c r)) := by
  unfold Pipeline.ΦA; rw [Pipeline.scopedRest_split_of_list spec0 c [cc0_scratch0] (by decide) (by decide)]; simp only [sc0_0, owns_whole]; rfl

/-- Before the first point every scratch is at anything; afterwards the one-hot scratch holds the router's matrix. -/
def Phi0 (c : Dev nD) : (n : ℕ) → n ≤ cfg0.N → sProp 𝕄
  | 0, _ => Pipeline.ΦA spec0 c
  | _ + 1, _ => iprop(iprop(owns (c : Thread nD τ) sc0_0 fullShare (oh0 V c) ∗ other0 c) ∗ (∃ r, prngReg c r))

theorem Phi0_pos (c : Dev nD) (n : ℕ) (h : n ≤ cfg0.N) (hz : n ≠ 0) :
    Phi0 V c n h = iprop(iprop(owns (c : Thread nD τ) sc0_0 fullShare (oh0 V c) ∗ other0 c) ∗ (∃ r, prngReg c r)) := by
  cases n with
  | zero => exact absurd rfl hz
  | succ n => rfl

/-! ## The pipeline's proof data -/

/-- The arrays as the region finds them; after a point each input's buffer at its block, the accumulator's at the running
    sum, the loss's at the loss; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => acc0 V c t.val t.isLt
    | ⟨4, _⟩ => loss0 V c
  Φ t := Phi0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start. -/
theorem Phi0_castSucc (c : Dev nD) (t : Fin cfg0.N) : (dat0 V c).Φ t.castSucc = Phi0 V c t.val (Nat.le_of_lt t.isLt) := by
  dsimp only [dat0]; exact Pipeline.Dat.Φ_castSucc (Phi0 V c) t

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = acc0 V c t.val t.isLt := by dsimp only [dat0]
theorem after0_4 (c : Dev nD) (t : Fin cfg0.N) : (dat0 V c).after 4 t = loss0 V c := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The grid points' cases -/

theorem cond0_1 : ∀ t : Fin cfg0.N, k0_cond1 (grid0.coords t) = 1#1 ↔ t.val = 0 :=
  (by decide +kernel : ∀ t : Fin grid0.N, k0_cond1 (grid0.coords t) = 1#1 ↔ t.val = 0)
theorem cond0_2 : ∀ t : Fin cfg0.N, k0_cond2 (grid0.coords t) = 1#1 ↔ t.val % 8 = 0 :=
  (by decide +kernel : ∀ t : Fin grid0.N, k0_cond2 (grid0.coords t) = 1#1 ↔ t.val % 8 = 0)
theorem cond0_3 : ∀ t : Fin cfg0.N, k0_cond3 (grid0.coords t) = 1#1 ↔ ¬t.val % 8 = 0 :=
  (by decide +kernel : ∀ t : Fin grid0.N, k0_cond3 (grid0.coords t) = 1#1 ↔ ¬t.val % 8 = 0)
theorem cond0_4 : ∀ t : Fin cfg0.N, k0_cond4 (grid0.coords t) = 1#1 ↔ t.val % 8 = 7 :=
  (by decide +kernel : ∀ t : Fin grid0.N, k0_cond4 (grid0.coords t) = 1#1 ↔ t.val % 8 = 7)

/-- The accumulator's window is live at every point: each point stores into it. -/
theorem live0_3 : ∀ t : Fin cfg0.N, cfg0.idle 3 (grid0.coords t) = false := by decide +kernel
/-- The loss's window is live at the first point and idle after it. -/
theorem idle0_4 : ∀ t : Fin cfg0.N, cfg0.idle 4 (grid0.coords t) = decide (t.val ≠ 0) := by decide +kernel

/-- The accumulator's buffer holds a sum wherever a row of experts is under way. -/
theorem fresh0_3 : ∀ t : Fin cfg0.N, ¬t.val % 8 = 0 → cfg0.fresh 3 t.val = false := by decide +kernel
/-- The loss's buffer holds the loss after the first point. -/
theorem fresh0_4 : ∀ t : Fin cfg0.N, t.val ≠ 0 → cfg0.fresh 4 t.val = false := by decide +kernel

/-- The body finds in the accumulator's buffer what the point before left, past a row's first expert. -/
theorem before0_3 (c : Dev nD) (t : Fin cfg0.N) (h : ¬t.val % 8 = 0) (d) :
    (dat0 V c).before 3 t d = acc0 V c (t.val - 1) (Nat.lt_of_le_of_lt (Nat.sub_le _ _) t.isLt) := by
  rw [Dat.before_out_traj _ 3 rfl (fun _ _ => rfl) (fun t _ hi _ => absurd ((live0_3 t).symm.trans hi) Bool.false_ne_true) t.val t rfl d,
    if_neg (by rw [fresh0_3 t h]; exact Bool.false_ne_true), after0_3]

/-- It finds the loss in the loss's buffer, past the first point. -/
theorem before0_4 (c : Dev nD) (t : Fin cfg0.N) (h : t.val ≠ 0) (d) : (dat0 V c).before 4 t d = loss0 V c := by
  rw [Dat.before_out_traj _ 4 rfl (fun _ _ => rfl) (fun t _ _ _ => by rw [after0_4, after0_4]) t.val t rfl d,
    if_neg (by rw [fresh0_4 t h]; exact Bool.false_ne_true), after0_4]

/-- The loss left alone is what the point must leave, whether the point writes it back or not. -/
theorem leaves0_4 (c : Dev nD) (t : Fin cfg0.N) (h : t.val ≠ 0) :
    (owns (c : Thread nD τ) (st0_4 t) fullShare (loss0 V c) : sProp 𝕄) ⊢ (dat0 V c).leavesExact 4 t := by
  unfold Dat.leavesExact
  rw [show cfg0.idle 4 (cfg0.grid.coords t) = true from (idle0_4 t).trans (decide_eq_true h)]
  cases (cfg0.win 4).flush t
  · dsimp only
    iintro H; iexists (fun _ => Classical.arbitrary _)
    rw [before0_4 V c t h]; iexact H
  · dsimp only
    rw [after0_4]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 1000000 in
/-- The body at any point: which of the four kinds the point is decides the triple that applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Phi0 V c (t.val + 1) t.isLt from rfl, Phi0_pos V c _ _ (Nat.succ_ne_zero _),
    show (dat0 V c).leavesExact 0 t = owns (c : Thread nD τ) (st0_0 t) fullShare (iblk0 V c 0 t) from after0_0 V c t ▸ rfl,
    show (dat0 V c).leavesExact 1 t = owns (c : Thread nD τ) (st0_1 t) fullShare (iblk0 V c 1 t) from after0_1 V c t ▸ rfl,
    show (dat0 V c).leavesExact 2 t = owns (c : Thread nD τ) (st0_2 t) fullShare (iblk0 V c 2 t) from after0_2 V c t ▸ rfl,
    show (dat0 V c).leavesExact 3 t = owns (c : Thread nD τ) (st0_3 t) fullShare (acc0 V c t.val t.isLt) from by
      unfold Dat.leavesExact; rw [show cfg0.idle 3 (cfg0.grid.coords t) = false from live0_3 t, after0_3]]
  by_cases hz : t.val = 0
  · -- the first point: the router
    obtain rfl : t = p0 := Fin.ext hz
    rw [Phi0_castSucc V c p0, show Phi0 V c (p0 : Fin cfg0.N).val _ = Pipeline.ΦA spec0 c from rfl, PhiA0_eq,
      show (dat0 V c).leavesExact 4 p0 = owns (c : Thread nD τ) (st0_4 p0) fullShare (loss0 V c) from by
        unfold Dat.leavesExact; rw [show cfg0.idle 4 (cfg0.grid.coords p0) = false from idle0_4 p0, after0_4],
      acc0_start V c p0 rfl]
    iintro ⟨⟨⟨HS0, HS1⟩, Hg⟩, Ho, ⟨%d0, H0⟩, ⟨%d1, H1⟩, ⟨%d2, H2⟩, ⟨%d3, H3⟩, ⟨%d4, H4⟩⟩
    iapply (body0_first c Set.univ (grid0.coords p0) _ _ _ _ _ _ _ _ _ _ _ _ _ _ ((cond0_1 p0).mpr rfl) ((cond0_2 p0).mpr rfl) (fun h => (cond0_3 p0).mp h rfl)
      (fun h => absurd ((cond0_4 p0).mp h) (by decide)) (iblk0 V c 0 p0) (iblk0 V c 1 p0) (iblk0 V c 2 p0) _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4
  · rw [Phi0_castSucc V c t, Phi0_pos V c _ _ hz]
    simp only [before0_4 V c t hz]
    have hc1 : ¬k0_cond1 (grid0.coords t) = 1#1 := fun h => hz ((cond0_1 t).mp h)
    by_cases h8 : t.val % 8 = 0
    · -- the other row's first expert
      rw [acc0_start V c t h8]
      iintro ⟨⟨⟨HS0, HS1⟩, Hg⟩, Ho, ⟨%d0, H0⟩, ⟨%d1, H1⟩, ⟨%d2, H2⟩, ⟨%d3, H3⟩, ⟨%d4, H4⟩⟩
      iapply (body0_start c Set.univ (grid0.coords t) _ _ _ _ _ _ _ _ _ _ _ _ _ _ hc1 ((cond0_2 t).mpr h8) (fun h => (cond0_3 t).mp h h8)
        (fun h => absurd ((cond0_4 t).mp h) (by omega)) (iblk0 V c 0 t) (iblk0 V c 2 t) (oh0 V c) _)
      isplitl [H0]; · iexact H0
      isplitl [H2]; · iexact H2
      isplitl [H3]; · iexists _; iexact H3
      isplitl [HS0]; · iexact HS0
      iintro ⟨H0, H2, H3, HS0⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      iapply (leaves0_4 V c t hz); iexact H4
    · simp only [before0_3 V c t h8]
      by_cases h7 : t.val % 8 = 7
      · -- a row's last expert
        rw [acc0_last V c t h7]
        iintro ⟨⟨⟨HS0, HS1⟩, Hg⟩, Ho, ⟨%d0, H0⟩, ⟨%d1, H1⟩, ⟨%d2, H2⟩, ⟨%d3, H3⟩, ⟨%d4, H4⟩⟩
        iapply (body0_last c Set.univ (grid0.coords t) _ _ _ _ _ _ _ _ _ _ _ _ _ _ hc1 (fun h => h8 ((cond0_2 t).mp h)) ((cond0_3 t).mpr h8)
          ((cond0_4 t).mpr h7) (iblk0 V c 0 t) (iblk0 V c 2 t) _ (oh0 V c) _)
        isplitl [H0]; · iexact H0
        isplitl [H2]; · iexact H2
        isplitl [H3]; · iexact H3
        isplitl [HS0]; · iexact HS0
        iintro ⟨H0, H2, H3, HS0⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        iapply (leaves0_4 V c t hz); iexact H4
      · -- an expert in between
        rw [acc0_add V c t h8 h7]
        iintro ⟨⟨⟨HS0, HS1⟩, Hg⟩, Ho, ⟨%d0, H0⟩, ⟨%d1, H1⟩, ⟨%d2, H2⟩, ⟨%d3, H3⟩, ⟨%d4, H4⟩⟩
        iapply (body0_add c Set.univ (grid0.coords t) _ _ _ _ _ _ _ _ _ _ _ _ _ _ hc1 (fun h => h8 ((cond0_2 t).mp h)) ((cond0_3 t).mpr h8)
          (fun h => h7 ((cond0_4 t).mp h)) (iblk0 V c 0 t) (iblk0 V c 2 t) _ (oh0 V c) _)
        isplitl [H0]; · iexact H0
        isplitl [H2]; · iexact H2
        isplitl [H3]; · iexact H3
        isplitl [HS0]; · iexact HS0
        iintro ⟨H0, H2, H3, HS0⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        iapply (leaves0_4 V c t hz); iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The body obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- After the last point the scratch's contents are forgotten. -/
theorem out0 (c : Dev nD) : (dat0 V c).Φ (Fin.last cfg0.N) ⊢ (Pipeline.ΦA spec0 c : sProp 𝕄) := by
  rw [show (dat0 V c).Φ (Fin.last cfg0.N) = Phi0 V c cfg0.N le_rfl from rfl,
    Phi0_pos V c _ _ (by rw [show cfg0.N = 16 from N_0]; decide), PhiA0_eq]
  iintro ⟨⟨HS0, HS1⟩, Hg⟩
  isplitl [HS0 HS1]
  · isplitl [HS0]
    · iexists _; iexact HS0
    iexact HS1
  iexact Hg

end Region

end Cert.KernelIdeal.Run

end
-- ==== Proof.KernelIdeal.Body3.lean ====
/- The body of the last pallas_call (the gated input, the router and the expert products), run once per kind of grid
   point: at the first point, where the gated input and the router run and the accumulator starts, and at a point that adds
   an expert's product. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The row of the one-hot matrix the point's expert selects. -/
def row3 (oh : Vec F S8x2048 .f32) (i : grid3.Coords) : Vec F S1x2048 .f32 :=
  VecWindow.window oh (k3_off1 i) S1x2048.size (k3_off1_inb i)

/-- The gated, normalised input of the experts: from the three thirds of the convolution's rows. -/
def xs3 (y : Vec F S2304x2048 .f32) : Vec F S768x2048 .f32 :=
  k3_pay4 (VecWindow.window y ![0, 0] S768x2048.size inb_S2304x2048_S768x2048_0_0)
    (VecWindow.window y ![768, 0] S768x2048.size inb_S2304x2048_S768x2048_768_0)
    (VecWindow.window y ![1536, 0] S768x2048.size inb_S2304x2048_S768x2048_1536_0)

/-- The router's one-hot matrix: expert by token. -/
def oneHot3 (x : Vec F S768x2048 .f32) (g : Vec F S8x768 .f32) : Vec F S8x2048 .f32 :=
  k3_pay29 (k3_pay5 x g) (k3_pay6 x g) k3_pay7

/-- The router's balance loss. -/
def lossOf3 (x : Vec F S768x2048 .f32) (g : Vec F S8x768 .f32) : Vec F S1x1 .f32 :=
  k3_pay1 (k3_pay28 (k3_pay5 x g) (k3_pay6 x g) k3_pay7) (k3_pay30 (k3_pay5 x g) (k3_pay6 x g)) (k3_pay31 (k3_pay5 x g) (k3_pay6 x g))

/-- An expert's product on the tokens routed to it. -/
def part3 (oh : Vec F S8x2048 .f32) (i : grid3.Coords) (x : Vec F S768x2048 .f32) (w : Vec F S1x768x768 .f32) : Vec F S768x2048 .f32 :=
  k3_pay2 (row3 oh i) x w

/-- The accumulator with an expert's product added. -/
def add3 (oh : Vec F S8x2048 .f32) (i : grid3.Coords) (x : Vec F S768x2048 .f32) (w : Vec F S1x768x768 .f32) (h : Vec F S768x2048 .f32) :
    Vec F S768x2048 .f32 := k3_pay3 (row3 oh i) x w h

/-! ## The body's triples -/

/-- A row read back after the whole one-hot matrix was stored is the row of what was stored. -/
theorem row3_of (v : View sig .tc .vmem S8x2048 .f32) (i : grid3.Coords) (w oh : Vec F S8x2048 .f32) (inb : ∀ a, (![0, 0] : Fin 2 → ℕ) a + S8x2048.size a ≤ S8x2048.size a)
    (h : w = oh) :
    v.readCov (Val := Elt F) [⟨Rect.unit ![0, 0] S8x2048.size inb, w⟩] (Rect.unit (s := S8x2048) (k3_off1 i) S1x2048.size (k3_off1_inb i)).toLoadRect = row3 oh i := by
  subst h
  refine (View.readAt_unit v _ _ rfl (k3_off1_inb i)).trans ?_
  rw [View.read_writes_full]; rfl

/-- The same row of a matrix that was there before. -/
theorem row3_at (v : View sig .tc .vmem S8x2048 .f32) (i : grid3.Coords) (f : v.ty.Contents (Elt F)) :
    v.readAt (Elt F) (Rect.unit (s := S8x2048) (k3_off1 i) S1x2048.size (k3_off1_inb i)).toLoadRect f = row3 (v.read (Elt F) f) i :=
  View.readAt_unit v f _ rfl (k3_off1_inb i)

set_option maxHeartbeats 1000000 in
/-- At the first point: the gated input fills its scratch, the router fills the one-hot scratch and the loss, the first
    expert's product starts the accumulator. -/
theorem body3_first (c : Dev nD) (E : Set ℕ) (i : grid3.Coords) (arg2 : Memref sig .tc .vmem S2304x2048 .f32) (harg2 : arg2.IsWhole) (arg3 : Memref sig .tc .vmem S8x768 .f32) (harg3 : arg3.IsWhole) (arg4 : Memref sig .tc .vmem S1x768x768 .f32) (harg4 : arg4.IsWhole) (arg5 : Memref sig .tc .vmem S768x2048 .f32) (harg5 : arg5.IsWhole) (arg6 : Memref sig .tc .vmem S1x1 .f32) (harg6 : arg6.IsWhole) (arg7 : Memref sig .tc .vmem S8x2048 .f32) (harg7 : arg7.IsWhole) (arg8 : Memref sig .tc .vmem S768x2048 .f32) (harg8 : arg8.IsWhole)
    (hc1 : k3_cond1 i = 1#1) (hc2 : k3_cond2 i = 1#1) (hc3 : ¬k3_cond3 i = 1#1)
    (x0 : Vec F S2304x2048 .f32) (x1 : Vec F S8x768 .f32) (x2 : Vec F S1x768x768 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare (part3 (oneHot3 (xs3 x0) x1) i (xs3 x0) x2) ∗ owns (c : Thread nD τ) arg6 fullShare (lossOf3 (xs3 x0) x1) ∗ owns (c : Thread nD τ) arg7 fullShare (oneHot3 (xs3 x0) x1) ∗ owns (c : Thread nD τ) arg8 fullShare (xs3 x0)) -∗ K ⟨⟩))
      ⊢ wp frame (wpE (defs₀ (F := F)) Variants.none c none) E (cc3__moe_body i arg2 harg2 arg3 harg3 arg4 harg4 arg5 harg5 arg6 harg6 arg7 harg7 arg8 harg8) K := by
  simp only [cc3__moe_body_eq_skeleton]; unfold cc3__moe_body_skel
  simp only [k3_part1_eq_skeleton, k3_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0 hf1 hf2
  sl_exec (disch := first | sl_exact hc1 | sl_exact hc2 | sl_exact hc3)
  sl_step
  have ex : k3_pay4 (arg2.view.readAt (Elt F) (Rect.unit (s := S2304x2048) ![0, 0] S768x2048.size inb_S2304x2048_S768x2048_0_0).toLoadRect f0)
      (arg2.view.readAt (Elt F) (Rect.unit (s := S2304x2048) ![768, 0] S768x2048.size inb_S2304x2048_S768x2048_768_0).toLoadRect f0)
      (arg2.view.readAt (Elt F) (Rect.unit (s := S2304x2048) ![1536, 0] S768x2048.size inb_S2304x2048_S768x2048_1536_0).toLoadRect f0)
      = xs3 (arg2.view.read (Elt F) f0) :=
    congr (congrArg₂ k3_pay4 (View.readAt_unit _ f0 _ rfl _) (View.readAt_unit _ f0 _ rfl _)) (View.readAt_unit _ f0 _ rfl _)
  have exc : arg8.view.readCov (Val := Elt F) [⟨Rect.unit (s := S768x2048) ![0, 0] S768x2048.size inb_S768x2048_S768x2048_0_0, k3_pay4 (arg2.view.readAt (Elt F) (Rect.unit (s := S2304x2048) ![0, 0] S768x2048.size inb_S2304x2048_S768x2048_0_0).toLoadRect f0)
      (arg2.view.readAt (Elt F) (Rect.unit (s := S2304x2048) ![768, 0] S768x2048.size inb_S2304x2048_S768x2048_768_0).toLoadRect f0)
      (arg2.view.readAt (Elt F) (Rect.unit (s := S2304x2048) ![1536, 0] S768x2048.size inb_S2304x2048_S768x2048_1536_0).toLoadRect f0)⟩]
      (Rect.unit (s := S768x2048) ![0, 0] S768x2048.size inb_S768x2048_S768x2048_0_0).toLoadRect
      = xs3 (arg2.view.read (Elt F) f0) := (View.readCov_full _ _ _ _ _).trans ex
  have e1 := View.readAt_full arg3.view f1 inb_S8x768_S8x768_0_0
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    refine (View.read_writes_full _ _ _ _ _).trans ?_
    unfold part3
    refine congr (congr (congrArg k3_pay2 ?_) exc) (View.readAt_full _ _ _)
    exact row3_of _ _ _ _ _ (congrArg₂ oneHot3 exc e1)
  isplitl [H4]
  · iexists _; isplitr
    swap; · iexact H4
    ipureintro
    refine (View.read_writes_full _ _ _ _ _).trans ?_
    exact congrArg₂ lossOf3 exc e1
  isplitl [H5]
  · iexists _; isplitr
    swap; · iexact H5
    ipureintro
    refine (View.read_writes_full _ _ _ _ _).trans ?_
    exact congrArg₂ oneHot3 exc e1
  iexists _; isplitr
  swap; · iexact H6
  ipureintro
  exact (View.read_writes_full _ _ _ _ _).trans ex

set_option maxHeartbeats 1000000 in
/-- At a point that adds an expert's product to the accumulator. -/
theorem body3_add (c : Dev nD) (E : Set ℕ) (i : grid3.Coords) (arg2 : Memref sig .tc .vmem S2304x2048 .f32) (harg2 : arg2.IsWhole) (arg3 : Memref sig .tc .vmem S8x768 .f32) (harg3 : arg3.IsWhole) (arg4 : Memref sig .tc .vmem S1x768x768 .f32) (harg4 : arg4.IsWhole) (arg5 : Memref sig .tc .vmem S768x2048 .f32) (harg5 : arg5.IsWhole) (arg6 : Memref sig .tc .vmem S1x1 .f32) (harg6 : arg6.IsWhole) (arg7 : Memref sig .tc .vmem S8x2048 .f32) (harg7 : arg7.IsWhole) (arg8 : Memref sig .tc .vmem S768x2048 .f32) (harg8 : arg8.IsWhole)
    (hc1 : ¬k3_cond1 i = 1#1) (hc2 : ¬k3_cond2 i = 1#1) (hc3 : k3_cond3 i = 1#1)
    (x2 : Vec F S1x768x768 .f32) (h : Vec F S768x2048 .f32) (oh : Vec F S8x2048 .f32) (xs : Vec F S768x2048 .f32) (K : PUnit → sProp 𝕄) :
    iprop(owns (c : Thread nD τ) arg4 fullShare x2 ∗ owns (c : Thread nD τ) arg5 fullShare h ∗ owns (c : Thread nD τ) arg7 fullShare oh ∗ owns (c : Thread nD τ) arg8 fullShare xs
        ∗ (iprop(owns (c : Thread nD τ) arg4 fullShare x2 ∗ owns (c : Thread nD τ) arg5 fullShare (add3 oh i xs x2 h) ∗ owns (c : Thread nD τ) arg7 fullShare oh ∗ owns (c : Thread nD τ) arg8 fullShare xs) -∗ K ⟨⟩))
      ⊢ wp frame (wpE (defs₀ (F := F)) Variants.none c none) E (cc3__moe_body i arg2 harg2 arg3 harg3 arg4 harg4 arg5 harg5 arg6 harg6 arg7 harg7 arg8 harg8) K := by
  simp only [cc3__moe_body_eq_skeleton]; unfold cc3__moe_body_skel
  unfold owns
  iintro ⟨⟨%f2, %hf2, H2⟩, ⟨%f3, %hf3, H3⟩, ⟨%f5, %hf5, H5⟩, ⟨%f6, %hf6, H6⟩, Hk⟩
  subst hf2 hf3 hf5 hf6
  sl_exec (disch := first | sl_exact hc1 | sl_exact hc2 | sl_exact hc3)
  sl_step
  iapply Hk
  isplitl [H2]; · iexists f2; isplitr; · ipureintro; rfl
                  iexact H2
  isplitl [H3]
  · iexists _; isplitr
    swap; · iexact H3
    ipureintro
    refine (View.read_writes_full _ _ _ _ _).trans ?_
    exact congr (congr (congr (congrArg k3_pay3 (row3_at _ _ _)) (View.readAt_full _ _ _)) (View.readAt_full _ _ _)) (View.readAt_full _ _ _)
  isplitl [H5]; · iexists f5; isplitr; · ipureintro; rfl
                  iexact H5
  iexists f6; isplitr; · ipureintro; rfl
  iexact H6

end Cert.KernelIdeal.Run

end
-- ==== Proof.KernelIdeal.Region3.lean ====
/- The last pallas_call over its grid: what each window's buffer holds after every point, and the body's obligation at
   every point. Its one-hot scratch and its gated input are carried from the first point to the last, its accumulator too, and the loss, stored at the first point alone, stays in its buffer until the write-back at the last. -/
module

public import proofs.«01_k».proof.Proof.KernelIdeal.Body3
public import Idealize.ShloMosaic.Lib.Pipeline.TableIdle

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): where it
    is not fetched the block's index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): where it
    is not fetched the block's index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): where it
    is not fetched the block's index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the buffers hold -/

/-- The first point. -/
abbrev p3 : Fin cfg3.N := ⟨0, by rw [show cfg3.N = 8 from N_3]; decide⟩

/-- The gated, normalised input, as the first point leaves it. -/
def xin3 (c : Dev nD) : Vec F S768x2048 .f32 := xs3 (iblk3 V c 0 p3)

/-- The one-hot matrix, as the router leaves it at the first point. -/
def oh3 (c : Dev nD) : Vec F S8x2048 .f32 := oneHot3 (xin3 V c) (iblk3 V c 1 p3)

/-- The loss, as the router leaves it at the first point. -/
def loss3 (c : Dev nD) : Vec F S1x1 .f32 := lossOf3 (xin3 V c) (iblk3 V c 1 p3)

/-- The accumulator after point `n`: started at the first expert, added to at each later one. -/
def acc3 (c : Dev nD) : (n : ℕ) → n < cfg3.N → Vec F S768x2048 .f32
  | 0, h => part3 (oh3 V c) (grid3.coords ⟨0, h⟩) (xin3 V c) (iblk3 V c 2 ⟨0, h⟩)
  | n + 1, h => add3 (oh3 V c) (grid3.coords ⟨n + 1, h⟩) (xin3 V c) (iblk3 V c 2 ⟨n + 1, h⟩) (acc3 c n (Nat.lt_of_succ_lt h))

/-- At the first expert the accumulator is that expert's product. -/
theorem acc3_start (c : Dev nD) (t : Fin cfg3.N) (h : t.val = 0) :
    acc3 V c t.val t.isLt = part3 (oh3 V c) (grid3.coords t) (xin3 V c) (iblk3 V c 2 t) := by
  obtain ⟨n, hn⟩ := t
  cases n with
  | zero => rfl
  | succ n => exact absurd h (Nat.succ_ne_zero n)

/-- At a later expert it is the sum so far with that expert's product added. -/
theorem acc3_add (c : Dev nD) (t : Fin cfg3.N) (h : t.val ≠ 0) :
    acc3 V c t.val t.isLt = add3 (oh3 V c) (grid3.coords t) (xin3 V c) (iblk3 V c 2 t) (acc3 V c (t.val - 1) (Nat.lt_of_le_of_lt (Nat.sub_le _ _) t.isLt)) := by
  obtain ⟨n, hn⟩ := t
  cases n with
  | zero => exact absurd rfl h
  | succ n => rfl

/-! ## The invariant between points -/

/-- The one-hot scratch, whole. -/
abbrev sc3_0 : Memref sig .tc .vmem S8x2048 .f32 := Memref.whole cc3_scratch0

/-- The gated input's scratch, whole. -/
abbrev sc3_1 : Memref sig .tc .vmem S768x2048 .f32 := Memref.whole cc3_scratch1

/-- Every other scoped buffer that is not a window's, at anything. -/
abbrev other3 (c : Dev nD) : sProp 𝕄 :=
  Pipeline.scopedRestBut (Ix := Unit) (Name := ℕ) (U := UR sig nD τ) (Lvl := ℕ) (Val := Elt F) spec3 c [cc3_scratch0, cc3_scratch1]

/-- The scratch buffers at anything and the generator register, as what the region is entered and left with. -/
theorem PhiA3_eq (c : Dev nD) :
    (Pipeline.ΦA spec3 c : sProp 𝕄)
      = iprop(iprop(iprop((∃ d, owns (c : Thread nD τ) sc3_0 fullShare d) ∗ (∃ d, owns (c : Thread nD τ) sc3_1 fullShare d)) ∗ other3 c) ∗ (∃ r, prngReg c r)) := by
  unfold Pipeline.ΦA; rw [Pipeline.scopedRest_split_of_list spec3 c [cc3_scratch0, cc3_scratch1] (by decide) (by decide)]; simp only [sc3_0, sc3_1, owns_whole]; rfl

/-- Before the first point every scratch is at anything; afterwards the scratches hold the router's matrix and the gated
    input. -/
def Phi3 (c : Dev nD) : (n : ℕ) → n ≤ cfg3.N → sProp 𝕄
  | 0, _ => Pipeline.ΦA spec3 c
  | _ + 1, _ => iprop(iprop(iprop(owns (c : Thread nD τ) sc3_0 fullShare (oh3 V c) ∗ owns (c : Thread nD τ) sc3_1 fullShare (xin3 V c)) ∗ other3 c) ∗ (∃ r, prngReg c r))

theorem Phi3_pos (c : Dev nD) (n : ℕ) (h : n ≤ cfg3.N) (hz : n ≠ 0) :
    Phi3 V c n h = iprop(iprop(iprop(owns (c : Thread nD τ) sc3_0 fullShare (oh3 V c) ∗ owns (c : Thread nD τ) sc3_1 fullShare (xin3 V c)) ∗ other3 c) ∗ (∃ r, prngReg c r)) := by
  cases n with
  | zero => exact absurd rfl hz
  | succ n => rfl

/-! ## The pipeline's proof data -/

/-- The arrays as the region finds them; after a point each input's buffer at its block, the accumulator's at the running
    sum, the loss's at the loss; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => acc3 V c t.val t.isLt
    | ⟨4, _⟩ => loss3 V c
  Φ t := Phi3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start. -/
theorem Phi3_castSucc (c : Dev nD) (t : Fin cfg3.N) : (dat3 V c).Φ t.castSucc = Phi3 V c t.val (Nat.le_of_lt t.isLt) := by
  dsimp only [dat3]; exact Pipeline.Dat.Φ_castSucc (Phi3 V c) t

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = acc3 V c t.val t.isLt := by dsimp only [dat3]
theorem after3_4 (c : Dev nD) (t : Fin cfg3.N) : (dat3 V c).after 4 t = loss3 V c := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The grid points' cases -/

theorem cond3_1 : ∀ t : Fin cfg3.N, k3_cond1 (grid3.coords t) = 1#1 ↔ t.val = 0 :=
  (by decide +kernel : ∀ t : Fin grid3.N, k3_cond1 (grid3.coords t) = 1#1 ↔ t.val = 0)
theorem cond3_2 : ∀ t : Fin cfg3.N, k3_cond2 (grid3.coords t) = 1#1 ↔ t.val = 0 :=
  (by decide +kernel : ∀ t : Fin grid3.N, k3_cond2 (grid3.coords t) = 1#1 ↔ t.val = 0)
theorem cond3_3 : ∀ t : Fin cfg3.N, k3_cond3 (grid3.coords t) = 1#1 ↔ t.val ≠ 0 :=
  (by decide +kernel : ∀ t : Fin grid3.N, k3_cond3 (grid3.coords t) = 1#1 ↔ t.val ≠ 0)

/-- The accumulator's window is live at every point: each point stores into it. -/
theorem live3_3 : ∀ t : Fin cfg3.N, cfg3.idle 3 (grid3.coords t) = false := by decide +kernel
/-- The loss's window is live at the first point and idle after it. -/
theorem idle3_4 : ∀ t : Fin cfg3.N, cfg3.idle 4 (grid3.coords t) = decide (t.val ≠ 0) := by decide +kernel

/-- The accumulator's buffer holds a sum after the first point. -/
theorem fresh3_3 : ∀ t : Fin cfg3.N, t.val ≠ 0 → cfg3.fresh 3 t.val = false := by decide +kernel
/-- The loss's buffer holds the loss after the first point. -/
theorem fresh3_4 : ∀ t : Fin cfg3.N, t.val ≠ 0 → cfg3.fresh 4 t.val = false := by decide +kernel

/-- The body finds in the accumulator's buffer what the point before left, past the first expert. -/
theorem before3_3 (c : Dev nD) (t : Fin cfg3.N) (h : t.val ≠ 0) (d) :
    (dat3 V c).before 3 t d = acc3 V c (t.val - 1) (Nat.lt_of_le_of_lt (Nat.sub_le _ _) t.isLt) := by
  rw [Dat.before_out_traj _ 3 rfl (fun _ _ => rfl) (fun t _ hi _ => absurd ((live3_3 t).symm.trans hi) Bool.false_ne_true) t.val t rfl d,
    if_neg (by rw [fresh3_3 t h]; exact Bool.false_ne_true), after3_3]

/-- It finds the loss in the loss's buffer, past the first point. -/
theorem before3_4 (c : Dev nD) (t : Fin cfg3.N) (h : t.val ≠ 0) (d) : (dat3 V c).before 4 t d = loss3 V c := by
  rw [Dat.before_out_traj _ 4 rfl (fun _ _ => rfl) (fun t _ _ _ => by rw [after3_4, after3_4]) t.val t rfl d,
    if_neg (by rw [fresh3_4 t h]; exact Bool.false_ne_true), after3_4]

/-- The loss left alone is what the point must leave, whether the point writes it back or not. -/
theorem leaves3_4 (c : Dev nD) (t : Fin cfg3.N) (h : t.val ≠ 0) :
    (owns (c : Thread nD τ) (st3_4 t) fullShare (loss3 V c) : sProp 𝕄) ⊢ (dat3 V c).leavesExact 4 t := by
  unfold Dat.leavesExact
  rw [show cfg3.idle 4 (cfg3.grid.coords t) = true from (idle3_4 t).trans (decide_eq_true h)]
  cases (cfg3.win 4).flush t
  · dsimp only
    iintro H; iexists (fun _ => Classical.arbitrary _)
    rw [before3_4 V c t h]; iexact H
  · dsimp only
    rw [after3_4]

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 1000000 in
/-- The body at any point: whether it is the first decides the triple that applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = Phi3 V c (t.val + 1) t.isLt from rfl, Phi3_pos V c _ _ (Nat.succ_ne_zero _),
    show (dat3 V c).leavesExact 0 t = owns (c : Thread nD τ) (st3_0 t) fullShare (iblk3 V c 0 t) from after3_0 V c t ▸ rfl,
    show (dat3 V c).leavesExact 1 t = owns (c : Thread nD τ) (st3_1 t) fullShare (iblk3 V c 1 t) from after3_1 V c t ▸ rfl,
    show (dat3 V c).leavesExact 2 t = owns (c : Thread nD τ) (st3_2 t) fullShare (iblk3 V c 2 t) from after3_2 V c t ▸ rfl,
    show (dat3 V c).leavesExact 3 t = owns (c : Thread nD τ) (st3_3 t) fullShare (acc3 V c t.val t.isLt) from by
      unfold Dat.leavesExact; rw [show cfg3.idle 3 (cfg3.grid.coords t) = false from live3_3 t, after3_3]]
  by_cases hz : t.val = 0
  · -- the first point: the gated input and the router
    obtain rfl : t = p3 := Fin.ext hz
    rw [Phi3_castSucc V c p3, show Phi3 V c (p3 : Fin cfg3.N).val _ = Pipeline.ΦA spec3 c from rfl, PhiA3_eq,
      show (dat3 V c).leavesExact 4 p3 = owns (c : Thread nD τ) (st3_4 p3) fullShare (loss3 V c) from by
        unfold Dat.leavesExact; rw [show cfg3.idle 4 (cfg3.grid.coords p3) = false from idle3_4 p3, after3_4],
      acc3_start V c p3 rfl]
    iintro ⟨⟨⟨⟨HS0, HS2⟩, HS1⟩, Hg⟩, Ho, ⟨%d0, H0⟩, ⟨%d1, H1⟩, ⟨%d2, H2⟩, ⟨%d3, H3⟩, ⟨%d4, H4⟩⟩
    iapply (body3_first c Set.univ (grid3.coords p3) _ _ _ _ _ _ _ _ _ _ _ _ _ _ ((cond3_1 p3).mpr rfl) ((cond3_2 p3).mpr rfl) (fun h => (cond3_3 p3).mp h rfl)
      (iblk3 V c 0 p3) (iblk3 V c 1 p3) (iblk3 V c 2 p3) _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS2]; · iexact HS2
    iintro ⟨H0, H1, H2, H3, H4, HS0, HS2⟩
    isplitl [HS0 HS1 HS2 Hg]
    · isplitl [HS0 HS1 HS2]
      · isplitl [HS0 HS2]
        · isplitl [HS0]; · iexact HS0
          iexact HS2
        iexact HS1
      iexact Hg
    isplitl [Ho]; · iexact Ho
    isplitl [H0]; · iexact H0
    isplitl [H1]; · iexact H1
    isplitl [H2]; · iexact H2
    isplitl [H3]; · iexact H3
    iexact H4
  · rw [Phi3_castSucc V c t, Phi3_pos V c _ _ hz]
    simp only [before3_4 V c t hz, before3_3 V c t hz]
    rw [acc3_add V c t hz]
    iintro ⟨⟨⟨⟨HS0, HS2⟩, HS1⟩, Hg⟩, Ho, ⟨%d0, H0⟩, ⟨%d1, H1⟩, ⟨%d2, H2⟩, ⟨%d3, H3⟩, ⟨%d4, H4⟩⟩
    iapply (body3_add c Set.univ (grid3.coords t) _ _ _ _ _ _ _ _ _ _ _ _ _ _ (fun h => hz ((cond3_1 t).mp h)) (fun h => hz ((cond3_2 t).mp h)) ((cond3_3 t).mpr hz)
      (iblk3 V c 2 t) _ (oh3 V c) (xin3 V c) _)
    isplitl [H2]; · iexact H2
    isplitl [H3]; · iexact H3
    isplitl [HS0]; · iexact HS0
    isplitl [HS2]; · iexact HS2
    iintro ⟨H2, H3, HS0, HS2⟩
    isplitl [HS0 HS1 HS2 Hg]
    · isplitl [HS0 HS1 HS2]
      · isplitl [HS0 HS2]
        · isplitl [HS0]; · iexact HS0
          iexact HS2
        iexact HS1
      iexact Hg
    isplitl [Ho]; · iexact Ho
    isplitl [H0]; · iexact H0
    isplitl [H1]; · iexact H1
    isplitl [H2]; · iexact H2
    isplitl [H3]; · iexact H3
    iapply (leaves3_4 V c t hz); iexact H4

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The body obligation at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- After the last point the scratches' contents are forgotten. -/
theorem out3 (c : Dev nD) : (dat3 V c).Φ (Fin.last cfg3.N) ⊢ (Pipeline.ΦA spec3 c : sProp 𝕄) := by
  rw [show (dat3 V c).Φ (Fin.last cfg3.N) = Phi3 V c cfg3.N le_rfl from rfl,
    Phi3_pos V c _ _ (by rw [show cfg3.N = 8 from N_3]; decide), PhiA3_eq]
  iintro ⟨⟨⟨HS0, HS2⟩, HS1⟩, Hg⟩
  isplitl [HS0 HS1 HS2]
  · isplitl [HS0 HS2]
    · isplitl [HS0]
      · iexists _; iexact HS0
      iexists _; iexact HS2
    iexact HS1
  iexact Hg

end Region

end Cert.KernelIdeal.Run

end
-- ==== Proof.KernelIdeal.Regions12.lean ====
/- The second and third pallas_calls: what their bodies leave in each output's buffer, and the bodies' obligations. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! # REGION 1 of @main: custom_call 1, `cc1__stage2_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): where it
    is not fetched the block's index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2304x2048 := Rect.unit (s := S2304x2048) ![0, 0] S768x2048.size inb_S2304x2048_S768x2048_0_0
abbrev r1_1 : Rect S2304x2048 := Rect.unit (s := S2304x2048) ![768, 0] S768x2048.size inb_S2304x2048_S768x2048_768_0
abbrev r1_2 : Rect S2304x2048 := Rect.unit (s := S2304x2048) ![1536, 0] S768x2048.size inb_S2304x2048_S768x2048_1536_0
abbrev r1_3 : Rect S768x2048 := Rect.unit (s := S768x2048) ![0, 0] S768x2048.size inb_S768x2048_S768x2048_0_0

/-! ## What the body leaves in each output window's buffer -/

/-- The first third of the rows, in chunks of 128 columns. -/
def k1_pay17 (x0 : Vec F S2304x2048 .f32) : FVec F S768x16x128 .f32 :=
  k1_pay1 (View.ld x0 r1_0)
/-- The chunks' inclusive prefix sums, by the last shift-and-add. -/
def k1_pay18 (x0 : Vec F S2304x2048 .f32) : FVec F S768x16x128 .f32 :=
  k1_pay11 (k1_pay17 x0) (k1_pay10 (k1_pay17 x0) (k1_pay9 (k1_pay17 x0) (k1_pay8 (k1_pay17 x0) (k1_pay7 (k1_pay17 x0) (k1_pay6 (k1_pay17 x0) (k1_pay5 (k1_pay17 x0) (k1_pay4 (k1_pay17 x0) (k1_pay3 (k1_pay17 x0) (k1_pay2 (View.ld x0 r1_0))))))))))

/-- Window 1's staging buffer after the body, from the input windows' blocks: its 1 store as pieces, last
    first. -/
def out1_1 (x0 : Vec F S2304x2048 .f32) : Vec F S768x2048 .f32 :=
  View.canon [⟨r1_3, k1_pay16 (k1_pay15 (k1_pay12 (k1_pay17 x0) (k1_pay18 x0)) (k1_pay13 (k1_pay17 x0) (k1_pay18 x0)) (k1_pay14 (k1_pay17 x0) (k1_pay18 x0))) (View.ld x0 r1_1) (View.ld x0 r1_2)⟩]

/-- Its stores tile the buffer, so they cover it. -/
theorem cover1_1 (p0 : Vec F S768x2048 .f32) (y : S768x2048.Idx) :
    ∃ pc ∈ ([⟨r1_3, p0⟩] : List (View.Piece (Elt F) S768x2048 .f32)), y ∈ pc.1.set :=
  View.cover_of_tiled [⟨r1_3, p0⟩] S768x2048.size (by rfl) y

/-! ## The body's triple -/

set_option maxHeartbeats 1000000 in
/-- The kernel body on whole staging memrefs, the inputs' at read contents `xW` and the outputs' at anything, runs to
    the continuation holding the inputs' as they were and each output's at `out1_W` of the inputs'. -/
theorem sound_kernel1 (c : Dev nD) (E : Set ℕ) (arg0 : Memref sig .tc .vmem S2304x2048 .f32) (harg0 : arg0.IsWhole) (arg1 : Memref sig .tc .vmem S768x2048 .f32) (harg1 : arg1.IsWhole)
    (x0 : Vec F S2304x2048 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__stage2_body arg0 harg0 arg1 harg1) K := by
  simp only [cc1__stage2_body_eq_skeleton]; unfold cc1__stage2_body_skel
  simp only [k1_part13_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover1_1 _)).trans ?_
  rfl

/-! ## The pipeline's proof data -/

/-- The proof data of pipeline 1 on core `c`: the arrays as the region finds them (`V`); after the body at
    point `t` each input's buffer at its block and each output's at `out1_W` of the input blocks; the invariant the
    region's scoped buffers and the generator register, untouched; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body runs at every point from what it is called with to what it returns. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__conv_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): where it
    is not fetched the block's index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): where it
    is not fetched the block's index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S192x2048 := Rect.unit (s := S192x2048) ![0, 0] S192x2042.size inb_S192x2048_S192x2042_0_0
abbrev r2_1 : Rect S7x576x192 := Rect.unit (s := S7x576x192) ![0, 0, 0] S1x576x192.size inb_S7x576x192_S1x576x192_0_0_0
abbrev r2_2 : Rect S192x2048 := Rect.unit (s := S192x2048) ![0, 0] S192x2043.size inb_S192x2048_S192x2043_0_0
abbrev r2_3 : Rect S7x576x192 := Rect.unit (s := S7x576x192) ![1, 0, 0] S1x576x192.size inb_S7x576x192_S1x576x192_1_0_0
abbrev r2_4 : Rect S192x2048 := Rect.unit (s := S192x2048) ![0, 0] S192x2044.size inb_S192x2048_S192x2044_0_0
abbrev r2_5 : Rect S7x576x192 := Rect.unit (s := S7x576x192) ![2, 0, 0] S1x576x192.size inb_S7x576x192_S1x576x192_2_0_0
abbrev r2_6 : Rect S192x2048 := Rect.unit (s := S192x2048) ![0, 0] S192x2045.size inb_S192x2048_S192x2045_0_0
abbrev r2_7 : Rect S7x576x192 := Rect.unit (s := S7x576x192) ![3, 0, 0] S1x576x192.size inb_S7x576x192_S1x576x192_3_0_0
abbrev r2_8 : Rect S192x2048 := Rect.unit (s := S192x2048) ![0, 0] S192x2046.size inb_S192x2048_S192x2046_0_0
abbrev r2_9 : Rect S7x576x192 := Rect.unit (s := S7x576x192) ![4, 0, 0] S1x576x192.size inb_S7x576x192_S1x576x192_4_0_0
abbrev r2_10 : Rect S192x2048 := Rect.unit (s := S192x2048) ![0, 0] S192x2047.size inb_S192x2048_S192x2047_0_0
abbrev r2_11 : Rect S7x576x192 := Rect.unit (s := S7x576x192) ![5, 0, 0] S1x576x192.size inb_S7x576x192_S1x576x192_5_0_0
abbrev r2_12 : Rect S192x2048 := Rect.unit (s := S192x2048) ![0, 0] S192x2048.size inb_S192x2048_S192x2048_0_0
abbrev r2_13 : Rect S7x576x192 := Rect.unit (s := S7x576x192) ![6, 0, 0] S1x576x192.size inb_S7x576x192_S1x576x192_6_0_0
abbrev r2_14 : Rect S576x2048 := Rect.unit (s := S576x2048) ![0, 0] S576x2048.size inb_S576x2048_S576x2048_0_0

/-! ## What the body leaves in each output window's buffer -/

/-- Window 2's staging buffer after the body, from the input windows' blocks: its 1 store as pieces, last
    first. -/
def out2_2 (x0 : Vec F S192x2048 .f32) (x1 : Vec F S7x576x192 .f32) : Vec F S576x2048 .f32 :=
  View.canon [⟨r2_14, k2_pay1 (k2_pay2 (View.ld x0 r2_0) (View.ld x1 r2_1) (View.ld x0 r2_2) (View.ld x1 r2_3) (View.ld x0 r2_4) (View.ld x1 r2_5) (View.ld x0 r2_6) (View.ld x1 r2_7)) (View.ld x0 r2_8) (View.ld x1 r2_9) (View.ld x0 r2_10) (View.ld x1 r2_11) (View.ld x0 r2_12) (View.ld x1 r2_13)⟩]

/-- Its stores tile the buffer, so they cover it. -/
theorem cover2_2 (p0 : Vec F S576x2048 .f32) (y : S576x2048.Idx) :
    ∃ pc ∈ ([⟨r2_14, p0⟩] : List (View.Piece (Elt F) S576x2048 .f32)), y ∈ pc.1.set :=
  View.cover_of_tiled [⟨r2_14, p0⟩] S576x2048.size (by rfl) y

/-! ## The body's triple -/

set_option maxHeartbeats 1000000 in
/-- The kernel body on whole staging memrefs, the inputs' at read contents `xW` and the outputs' at anything, runs to
    the continuation holding the inputs' as they were and each output's at `out2_W` of the inputs'. -/
theorem sound_kernel2 (c : Dev nD) (E : Set ℕ) (i : grid2.Coords) (arg1 : Memref sig .tc .vmem S192x2048 .f32) (harg1 : arg1.IsWhole) (arg2 : Memref sig .tc .vmem S7x576x192 .f32) (harg2 : arg2.IsWhole) (arg3 : Memref sig .tc .vmem S576x2048 .f32) (harg3 : arg3.IsWhole)
    (x0 : Vec F S192x2048 .f32) (x1 : Vec F S7x576x192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__conv_body i arg1 harg1 arg2 harg2 arg3 harg3) K := by
  simp only [cc2__conv_body_eq_skeleton]; unfold cc2__conv_body_skel
  simp only [k2_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at
    point `t` each input's buffer at its block and each output's at `out2_W` of the input blocks; the invariant the
    region's scoped buffers and the generator register, untouched; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The body runs at every point from what it is called with to what it returns. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Region

end Cert.KernelIdeal.Run

end
-- ==== Proof.KernelIdeal.Run.lean ====
/- The program from launch to return: the host's operations and the four pallas_calls, each entered with the contents the
   one before left. -/
module

public import proofs.«01_k».proof.Proof.KernelIdeal.Region0
public import proofs.«01_k».proof.Proof.KernelIdeal.Region3
public import proofs.«01_k».proof.Proof.KernelIdeal.Regions12
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the initial memory, and the generator registers, which nothing reads
variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays. -/
theorem hostOps0_args : ∀ a ∈ argRefs, a ∉ hostOps0_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v8, main_v9, main_v10]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays. -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`). -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (region 3's entry). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's. -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`). -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the inputs as entered, each output's write-backs
    folded: `Dat.arrAt … N`), every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A reference that is none of region 3's OUTPUT arrays keeps its entry contents across it: an input window's
    array is never written back (`Dat.arrAt_in`, `A_eq3`); any other buffer is left as is. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- Every argument among region 3's arrays is an input window's. -/
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same read at the TensorCore's references (region 3's exit contents). -/
abbrev V5 : (c : Dev nD) → (b : Ref sig .tc) → Buf (Elt F) ((c : Thread nD τ).loc b) := fun c b => W5 m ρ c b
/-- At region 3's exit each of its arrays holds what the pipeline leaves (`hF3`) and every other buffer what it
    held at entry (`hrest3`). -/
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After `hostOps4`. -/
abbrev W6 : Dev nD → Valuation τ sig (Elt F) := fun c => StableHlo.after hostOps4 (W5 m ρ c)
/-- A reference `hostOps4` does not write keeps its contents across it. -/
theorem W6_of (c : Dev nD) (r : Ref sig .tc) (h : r ∉ hostOps4_W) : W6 m ρ c (Proc.devRef .tc r) = W5 m ρ c (Proc.devRef .tc r) :=
  StableHlo.after_of_writes_sub hostOps4 _ hostOps4_writes h
theorem W6_args (c : Dev nD) : ∀ a ∈ argRefs, W6 m ρ c (Proc.devRef .tc a) = m ((c : Thread nD τ).loc a) :=
  fun a ha => (W6_of m ρ c a (hostOps4_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have ho : (pdats m ρ 0 c).Φ (Fin.last _) ⊢ (Pipeline.ΦA spec0 c : sProp 𝕄) := out0 (V1 m ρ) c
    unfold Pipeline.ΦA at ho
    iintro H
    ihave H := ho $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (custom_call 3) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    have ho : (pdats m ρ 3 c).Φ (Fin.last _) ⊢ (Pipeline.ΦA spec3 c : sProp 𝕄) := out3 (V4 m ρ) c
    unfold Pipeline.ΦA at ho
    iintro H
    ihave H := ho $$ H
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .host (hseg hostOps4 hostOps4_sub hostOps4_fresh (W5 m ρ)) ]
/-- @main is the run of the segments, one after another. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The whole run: from any memory with zero counters every weakly fair execution terminates, nothing faulting, and ends
    with every unscoped buffer at the last boundary's contents and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The frame: the argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c),
       (h.1 c _ (mem_uc main_arg5 (by decide))).trans (W6_main_arg5 m ρ c)⟩, h.2⟩) (run m ρ)

end Cert.KernelIdeal.Run

end
-- ==== Proof.ReferenceIdeal.Ops.lean ====
/-
The reference's operations, cut at the steps of the computation, and the run they make.
-/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Operations 1 to 5: the running counts 1, 2, …, 2048. -/
def opsDiv : List (HloOp τ sig (Elt F)) :=
  [ nullary main_v0 (sitofp .f32 (iotaInDim S2048 32 0)),
    nullary main_cst (constant S_ .f32 0x3F800000#32),
    unary main_cst main_v1 (broadcastInDim S2048 ![] bcast_S_S2048 : (⟨S_, .f32⟩ : BufTy).Contents (Elt F) → (⟨S2048, .f32⟩ : BufTy).Contents (Elt F)),
    binary main_v0 main_v1 main_v2 (addf : (⟨S2048, .f32⟩ : BufTy).Contents (Elt F) → (⟨S2048, .f32⟩ : BufTy).Contents (Elt F) → (⟨S2048, .f32⟩ : BufTy).Contents (Elt F)),
    reshape main_v2 main_v3 (rfl : (.f32 : EltTy) = .f32) shapeCasts_S2048_S1x1x2048 ]

/-- Operations 6 to 8: the first routing scores. -/
def opsLogits0 : List (HloOp τ sig (Elt F)) :=
  [ reshape main_arg1 main_v4 (rfl : (.f32 : EltTy) = .f32) shapeCasts_S8x768x1_S8x768,
    binary main_v4 main_arg0 main_v5 ((fun l r => Host.dotGeneral dot_S8x768_S1x768x2048_S8x1x2048_1_1_0_02_n_n none l r) : (⟨S8x768, .f32⟩ : BufTy).Contents (Elt F) → (⟨S1x768x2048, .f32⟩ : BufTy).Contents (Elt F) → (⟨S8x1x2048, .f32⟩ : BufTy).Contents (Elt F)),
    unary main_v5 main_v6 ((transpose S1x8x2048 [1, 0, 2] · transposes_S8x1x2048_S1x8x2048_1_0_2) : (⟨S8x1x2048, .f32⟩ : BufTy).Contents (Elt F) → (⟨S1x8x2048, .f32⟩ : BufTy).Contents (Elt F)) ]

/-- Operations 9 to 22: the softmax of the first scores. -/
def opsGates0 : List (HloOp τ sig (Elt F)) :=
  [ nullary main_cst_0 (constant S_ .f32 0xFF800000#32),
    binary main_v6 main_cst_0 main_v7 ((fun x v => Host.reduce FloatOps.maximumf x v reducesTo_S1x8x2048_S1x2048_d1 h_S_) : (⟨S1x8x2048, .f32⟩ : BufTy).Contents (Elt F) → (⟨S_, .f32⟩ : BufTy).Contents (Elt F) → (⟨S1x2048, .f32⟩ : BufTy).Contents (Elt F)),
    nullary main_cst_1 (constant S_ .f32 0xFF800000#32),
    unary main_cst_1 main_v8 (broadcastInDim S1x2048 ![] bcast_S_S1x2048 : (⟨S_, .f32⟩ : BufTy).Contents (Elt F) → (⟨S1x2048, .f32⟩ : BufTy).Contents (Elt F)),
    binary main_v8 main_v7 main_v9 (maximumf : (⟨S1x2048, .f32⟩ : BufTy).Contents (Elt F) → (⟨S1x2048, .f32⟩ : BufTy).Contents (Elt F) → (⟨S1x2048, .f32⟩ : BufTy).Contents (Elt F)),
    unary main_v9 main_v10 (broadcastInDim S1x1x2048 ![0, 2] bcast_S1x2048_S1x1x2048_0_2 : (⟨S1x2048, .f32⟩ : BufTy).Contents (Elt F) → (⟨S1x1x2048, .f32⟩ : BufTy).Contents (Elt F)),
    unary main_v10 main_v11 (broadcastInDim S1x8x2048 ![0, 1, 2] bcast_S1x1x2048_S1x8x2048_0_1_2 : (⟨S1x1x2048, .f32⟩ : BufTy).Contents (Elt F) → (⟨S1x8x2048, .f32⟩ : BufTy).Contents (Elt F)),
    binary main_v6 main_v11 main_v12 (subf : (⟨S1x8x2048, .f32⟩ : BufTy).Contents (Elt F) → (⟨S1x8x2048, .f32⟩ : BufTy).Contents (Elt F) → (⟨S1x8x2048, .f32⟩ : BufTy).Contents (Elt F)),
    unary main_v12 main_v13 (Host.exp : (⟨S1x8x2048, .f32⟩ : BufTy).Contents (Elt F) → (⟨S1x8x2048, .f32⟩ : BufTy).Contents (Elt F)),
    nullary main_cst_2 (constant S_ .f32 0x00000000#32),
    binary main_v13 main_cst_2 main_v14 ((fun x v => Host.reduceAdd x v reducesTo_S1x8x2048_S1x2048_d1 h_S_) : (⟨S1x8x2048, .f32⟩ : BufTy).Contents (Elt F) → (⟨S_, .f32⟩ : BufTy).Contents (Elt F) → (⟨S1x2048, .f32⟩ : BufTy).Contents (Elt F)),
    unary main_v14 main_v15 (broadcastInDim S1x1x2048 ![0, 2] bcast_S1x2048_S1x1x2048_0_2 : (⟨S1x2048, .f32⟩ : BufTy).Contents (Elt F) → (⟨S1x1x2048, .f32⟩ : BufTy).Contents (Elt F)),
    unary main_v15 main_v16 (broadcastInDim S1x8x2048 ![0, 1, 2] bcast_S1x1x2048_S1x8x2048_0_1_2 : (⟨S1x1x2048, .f32⟩ : BufTy).Contents (Elt F) → (⟨S1x8x2048, .f32⟩ : BufTy).Contents (Elt F)),
    binary main_v13 main_v16 main_v17 (Host.divf : (⟨S1x8x2048, .f32⟩ : BufTy).Contents (Elt F) → (⟨S1x8x2048, .f32⟩ : BufTy).Contents (Elt F) → (⟨S1x8x2048, .f32⟩ : BufTy).Contents (Elt F)) ]

/-- Operations 23 to 33: the one-hot code of the first chosen expert. -/
def opsOneHot0 : List (HloOp τ sig (Elt F)) :=
  [ TRef.nullary (TRef.of (T := ⟨S1x8x2048, .i32⟩) main_call0_v0) (iotaInDim S1x8x2048 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S1x8x2048, .f32⟩) main_v6) (TRef.of (T := ⟨S1x8x2048, .i32⟩) main_call0_v0) (TRef.of (T := ⟨S_, .f32⟩) main_call0_cst) (TRef.of (T := ⟨S_, .i32⟩) main_call0_c) (TRef.of (T := ⟨S1x2048, .f32⟩) main_call0_v1_0) (fun x y u v j => (Host.argReduce reducer_argmax_f32_i32 x y u v reducesTo_S1x8x2048_S1x2048_d1 h_S_ j).1),
    TRef.quaternary (TRef.of (T := ⟨S1x8x2048, .f32⟩) main_v6) (TRef.of (T := ⟨S1x8x2048, .i32⟩) main_call0_v0) (TRef.of (T := ⟨S_, .f32⟩) main_call0_cst) (TRef.of (T := ⟨S_, .i32⟩) main_call0_c) (TRef.of (T := ⟨S1x2048, .i32⟩) main_v18) (fun x y u v j => (Host.argReduce reducer_argmax_f32_i32 x y u v reducesTo_S1x8x2048_S1x2048_d1 h_S_ j).2),
    TRef.unary (TRef.of (T := ⟨S1x2048, .i32⟩) main_v18) (TRef.of (T := ⟨S1x2048x1, .i32⟩) main_call1_v0) (broadcastInDim S1x2048x1 ![0, 1] bcast_S1x2048_S1x2048x1_0_1),
    TRef.nullary (TRef.of (T := ⟨S1x1x8, .i32⟩) main_call1_v1) (iotaInDim S1x1x8 32 2),
    TRef.unary (TRef.of (T := ⟨S1x2048x1, .i32⟩) main_call1_v0) (TRef.of (T := ⟨S1x2048x8, .i32⟩) main_call1_v2) (broadcastInDim S1x2048x8 ![0, 1, 2] bcast_S1x2048x1_S1x2048x8_0_1_2),
    TRef.unary (TRef.of (T := ⟨S1x1x8, .i32⟩) main_call1_v1) (TRef.of (T := ⟨S1x2048x8, .i32⟩) main_call1_v3) (broadcastInDim S1x2048x8 ![0, 1, 2] bcast_S1x1x8_S1x2048x8_0_1_2),
    TRef.binary (TRef.of (T := ⟨S1x2048x8, .i32⟩) main_call1_v2) (TRef.of (T := ⟨S1x2048x8, .i32⟩) main_call1_v3) (TRef.of (T := ⟨S1x2048x8, .i1⟩) main_call1_v4) (cmpi .eq),
    TRef.unary (TRef.of (T := ⟨S1x2048x8, .i1⟩) main_call1_v4) (TRef.of (T := ⟨S1x2048x8, .f32⟩) main_v19) (uitofp .f32) ]

/-- Operations 34 to 41: the first mixture of experts. -/
def opsComb0 : List (HloOp τ sig (Elt F)) :=
  [ unary main_v19 main_v20 ((transpose S1x8x2048 [0, 2, 1] · transposes_S1x2048x8_S1x8x2048_0_2_1) : (⟨S1x2048x8, .f32⟩ : BufTy).Contents (Elt F) → (⟨S1x8x2048, .f32⟩ : BufTy).Contents (Elt F)),
    binary main_v20 main_v17 main_v21 (subf : (⟨S1x8x2048, .f32⟩ : BufTy).Contents (Elt F) → (⟨S1x8x2048, .f32⟩ : BufTy).Contents (Elt F) → (⟨S1x8x2048, .f32⟩ : BufTy).Contents (Elt F)),
    binary main_v21 main_v17 main_v22 (addf : (⟨S1x8x2048, .f32⟩ : BufTy).Contents (Elt F) → (⟨S1x8x2048, .f32⟩ : BufTy).Contents (Elt F) → (⟨S1x8x2048, .f32⟩ : BufTy).Contents (Elt F)),
    unary main_arg0 main_v23 ((transpose S1x2048x768 [0, 2, 1] · transposes_S1x768x2048_S1x2048x768_0_2_1) : (⟨S1x768x2048, .f32⟩ : BufTy).Contents (Elt F) → (⟨S1x2048x768, .f32⟩ : BufTy).Contents (Elt F)),
    binary main_v23 main_arg2 main_v24 ((fun l r => Host.dotGeneral dot_S1x2048x768_S8x768x2304_S1x2048x8x2304_2_1_01_02_n_n none l r) : (⟨S1x2048x768, .f32⟩ : BufTy).Contents (Elt F) → (⟨S8x768x2304, .f32⟩ : BufTy).Contents (Elt F) → (⟨S1x2048x8x2304, .f32⟩ : BufTy).Contents (Elt F)),
    unary main_v22 main_v25 ((transpose S1x2048x8 [0, 2, 1] · transposes_S1x8x2048_S1x2048x8_0_2_1) : (⟨S1x8x2048, .f32⟩ : BufTy).Contents (Elt F) → (⟨S1x2048x8, .f32⟩ : BufTy).Contents (Elt F)),
    binary main_v19 main_v25 main_v26 (mulf : (⟨S1x2048x8, .f32⟩ : BufTy).Contents (Elt F) → (⟨S1x2048x8, .f32⟩ : BufTy).Contents (Elt F) → (⟨S1x2048x8, .f32⟩ : BufTy).Contents (Elt F)),
    binary main_v26 main_v24 main_v27 ((fun l r => Host.dotGeneral dot_S1x2048x8_S1x2048x8x2304_S1x2048x2304_2_2_n_3_01_01 none l r) : (⟨S1x2048x8, .f32⟩ : BufTy).Contents (Elt F) → (⟨S1x2048x8x2304, .f32⟩ : BufTy).Contents (Elt F) → (⟨S1x2048x2304, .f32⟩ : BufTy).Contents (Elt F)) ]

/-- Operations 42 to 55: the first balance loss, and the mixture laid out by channel. -/
def opsLoss0 : List (HloOp τ sig (Elt F)) :=
  [ nullary main_cst_3 (constant S_ .f32 0x00000000#32),
    binary main_v17 main_cst_3 main_v28 ((fun x v => Host.reduceAdd x v reducesTo_S1x8x2048_S8_d0_2 h_S_) : (⟨S1x8x2048, .f32⟩ : BufTy).Contents (Elt F) → (⟨S_, .f32⟩ : BufTy).Contents (Elt F) → (⟨S8, .f32⟩ : BufTy).Contents (Elt F)),
    nullary main_cst_4 (constant S_ .f32 0x45000000#32),
    unary main_cst_4 main_v29 (broadcastInDim S8 ![] bcast_S_S8 : (⟨S_, .f32⟩ : BufTy).Contents (Elt F) → (⟨S8, .f32⟩ : BufTy).Contents (Elt F)),
    binary main_v28 main_v29 main_v30 (Host.divf : (⟨S8, .f32⟩ : BufTy).Contents (Elt F) → (⟨S8, .f32⟩ : BufTy).Contents (Elt F) → (⟨S8, .f32⟩ : BufTy).Contents (Elt F)),
    nullary main_cst_5 (constant S_ .f32 0x00000000#32),
    binary main_v19 main_cst_5 main_v31 ((fun x v => Host.reduceAdd x v reducesTo_S1x2048x8_S8_d0_1 h_S_) : (⟨S1x2048x8, .f32⟩ : BufTy).Contents (Elt F) → (⟨S_, .f32⟩ : BufTy).Contents (Elt F) → (⟨S8, .f32⟩ : BufTy).Contents (Elt F)),
    nullary main_cst_6 (constant S_ .f32 0x45000000#32),
    unary main_cst_6 main_v32 (broadcastInDim S8 ![] bcast_S_S8 : (⟨S_, .f32⟩ : BufTy).Contents (Elt F) → (⟨S8, .f32⟩ : BufTy).Contents (Elt F)),
    binary main_v31 main_v32 main_v33 (Host.divf : (⟨S8, .f32⟩ : BufTy).Contents (Elt F) → (⟨S8, .f32⟩ : BufTy).Contents (Elt F) → (⟨S8, .f32⟩ : BufTy).Contents (Elt F)),
    binary main_v30 main_v33 main_v34 (mulf : (⟨S8, .f32⟩ : BufTy).Contents (Elt F) → (⟨S8, .f32⟩ : BufTy).Contents (Elt F) → (⟨S8, .f32⟩ : BufTy).Contents (Elt F)),
    nullary main_cst_7 (constant S_ .f32 0x00000000#32),
    binary main_v34 main_cst_7 main_v35 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    unary main_v27 main_v36 ((transpose S1x2304x2048 [0, 2, 1] · transposes_S1x2048x2304_S1x2304x2048_0_2_1) : (⟨S1x2048x2304, .f32⟩ : BufTy).Contents (Elt F) → (⟨S1x2304x2048, .f32⟩ : BufTy).Contents (Elt F)) ]

/-- Operations 56 to 65: running mean, scale and shift. -/
def opsPre : List (HloOp τ sig (Elt F)) :=
  [ unary main_v36 main_v37 ((extractStridedSlice S1x768x2048 ![0, 0, 0] · slices_S1x2304x2048_S1x768x2048_0_0_0) : (⟨S1x2304x2048, .f32⟩ : BufTy).Contents (Elt F) → (⟨S1x768x2048, .f32⟩ : BufTy).Contents (Elt F)),
    unary main_v36 main_v38 ((extractStridedSlice S1x768x2048 ![0, 768, 0] · slices_S1x2304x2048_S1x768x2048_0_768_0) : (⟨S1x2304x2048, .f32⟩ : BufTy).Contents (Elt F) → (⟨S1x768x2048, .f32⟩ : BufTy).Contents (Elt F)),
    unary main_v36 main_v39 ((extractStridedSlice S1x768x2048 ![0, 1536, 0] · slices_S1x2304x2048_S1x768x2048_0_1536_0) : (⟨S1x2304x2048, .f32⟩ : BufTy).Contents (Elt F) → (⟨S1x768x2048, .f32⟩ : BufTy).Contents (Elt F)),
    TRef.nullary (TRef.of (T := ⟨S_, .f32⟩) main_call2_call0_cst) (constant S_ .f32 0x00000000#32),
    TRef.unary (TRef.of (T := ⟨S_, .f32⟩) main_call2_call0_cst) (TRef.of (T := ⟨S_, .f32⟩) main_call2_call0_v0) (broadcastInDim S_ ![] bcast_S_S_),
    TRef.binary (TRef.of (T := ⟨S1x768x2048, .f32⟩) main_v37) (TRef.of (T := ⟨S_, .f32⟩) main_call2_call0_v0) (TRef.of (T := ⟨S1x768x2048, .f32⟩) main_v40) (fun x v => Host.reduceWindowAdd ![1, 1, 2048] ![1, 1, 1] ![0, 0, 2047] ![0, 0, 0] x v reduceWindows_S1x768x2048_S1x768x2048_w1s1p0_0_w1s1p0_0_w2048s1p2047_0 h_S_),
    unary main_v3 main_v41 (broadcastInDim S1x768x2048 ![0, 1, 2] bcast_S1x1x2048_S1x768x2048_0_1_2 : (⟨S1x1x2048, .f32⟩ : BufTy).Contents (Elt F) → (⟨S1x768x2048, .f32⟩ : BufTy).Contents (Elt F)),
    binary main_v40 main_v41 main_v42 (Host.divf : (⟨S1x768x2048, .f32⟩ : BufTy).Contents (Elt F) → (⟨S1x768x2048, .f32⟩ : BufTy).Contents (Elt F) → (⟨S1x768x2048, .f32⟩ : BufTy).Contents (Elt F)),
    binary main_v42 main_v38 main_v43 (mulf : (⟨S1x768x2048, .f32⟩ : BufTy).Contents (Elt F) → (⟨S1x768x2048, .f32⟩ : BufTy).Contents (Elt F) → (⟨S1x768x2048, .f32⟩ : BufTy).Contents (Elt F)),
    binary main_v43 main_v39 main_v44 (addf : (⟨S1x768x2048, .f32⟩ : BufTy).Contents (Elt F) → (⟨S1x768x2048, .f32⟩ : BufTy).Contents (Elt F) → (⟨S1x768x2048, .f32⟩ : BufTy).Contents (Elt F)) ]

/-- Operations 66 to 71: the first mean over channels. -/
def opsMean1 : List (HloOp τ sig (Elt F)) :=
  [ nullary main_cst_8 (constant S_ .f32 0x00000000#32),
    binary main_v44 main_cst_8 main_v45 ((fun x v => Host.reduceAdd x v reducesTo_S1x768x2048_S1x2048_d1 h_S_) : (⟨S1x768x2048, .f32⟩ : BufTy).Contents (Elt F) → (⟨S_, .f32⟩ : BufTy).Contents (Elt F) → (⟨S1x2048, .f32⟩ : BufTy).Contents (Elt F)),
    unary main_v45 main_v46 (broadcastInDim S1x1x2048 ![0, 2] bcast_S1x2048_S1x1x2048_0_2 : (⟨S1x2048, .f32⟩ : BufTy).Contents (Elt F) → (⟨S1x1x2048, .f32⟩ : BufTy).Contents (Elt F)),
    nullary main_cst_9 (constant S_ .f32 0x44400000#32),
    unary main_cst_9 main_v47 (broadcastInDim S1x1x2048 ![] bcast_S_S1x1x2048 : (⟨S_, .f32⟩ : BufTy).Contents (Elt F) → (⟨S1x1x2048, .f32⟩ : BufTy).Contents (Elt F)),
    binary main_v46 main_v47 main_v48 (Host.divf : (⟨S1x1x2048, .f32⟩ : BufTy).Contents (Elt F) → (⟨S1x1x2048, .f32⟩ : BufTy).Contents (Elt F) → (⟨S1x1x2048, .f32⟩ : BufTy).Contents (Elt F)) ]

/-- Operations 72 to 86: the first normalisation. -/
def opsNorm1 : List (HloOp τ sig (Elt F)) :=
  [ unary main_v48 main_v49 (broadcastInDim S1x768x2048 ![0, 1, 2] bcast_S1x1x2048_S1x768x2048_0_1_2 : (⟨S1x1x2048, .f32⟩ : BufTy).Contents (Elt F) → (⟨S1x768x2048, .f32⟩ : BufTy).Contents (Elt F)),
    binary main_v44 main_v49 main_v50 (subf : (⟨S1x768x2048, .f32⟩ : BufTy).Contents (Elt F) → (⟨S1x768x2048, .f32⟩ : BufTy).Contents (Elt F) → (⟨S1x768x2048, .f32⟩ : BufTy).Contents (Elt F)),
    TRef.binary (TRef.of (T := ⟨S1x768x2048, .f32⟩) main_v50) (TRef.of (T := ⟨S1x768x2048, .f32⟩) main_v50) (TRef.of (T := ⟨S1x768x2048, .f32⟩) main_call3_v0) mulf,
    TRef.nullary (TRef.of (T := ⟨S_, .f32⟩) main_call3_cst) (constant S_ .f32 0x00000000#32),
    TRef.binary (TRef.of (T := ⟨S1x768x2048, .f32⟩) main_call3_v0) (TRef.of (T := ⟨S_, .f32⟩) main_call3_cst) (TRef.of (T := ⟨S1x2048, .f32⟩) main_call3_v1) (fun x v => Host.reduceAdd x v reducesTo_S1x768x2048_S1x2048_d1 h_S_),
    TRef.unary (TRef.of (T := ⟨S1x2048, .f32⟩) main_call3_v1) (TRef.of (T := ⟨S1x1x2048, .f32⟩) main_call3_v2) (broadcastInDim S1x1x2048 ![0, 2] bcast_S1x2048_S1x1x2048_0_2),
    TRef.unary (TRef.of (T := ⟨S1x1x2048, .f32⟩) main_call3_v2) (TRef.of (T := ⟨S1x1x2048, .f32⟩) main_v51) Host.sqrt,
    nullary main_cst_10 (constant S_ .f32 0x3D13CD3A#32),
    unary main_cst_10 main_v52 (broadcastInDim S1x1x2048 ![] bcast_S_S1x1x2048 : (⟨S_, .f32⟩ : BufTy).Contents (Elt F) → (⟨S1x1x2048, .f32⟩ : BufTy).Contents (Elt F)),
    binary main_v51 main_v52 main_v53 (mulf : (⟨S1x1x2048, .f32⟩ : BufTy).Contents (Elt F) → (⟨S1x1x2048, .f32⟩ : BufTy).Contents (Elt F) → (⟨S1x1x2048, .f32⟩ : BufTy).Contents (Elt F)),
    nullary main_cst_11 (constant S_ .f32 0x3727C5AC#32),
    unary main_cst_11 main_v54 (broadcastInDim S1x1x2048 ![] bcast_S_S1x1x2048 : (⟨S_, .f32⟩ : BufTy).Contents (Elt F) → (⟨S1x1x2048, .f32⟩ : BufTy).Contents (Elt F)),
    binary main_v53 main_v54 main_v55 (addf : (⟨S1x1x2048, .f32⟩ : BufTy).Contents (Elt F) → (⟨S1x1x2048, .f32⟩ : BufTy).Contents (Elt F) → (⟨S1x1x2048, .f32⟩ : BufTy).Contents (Elt F)),
    unary main_v55 main_v56 (broadcastInDim S1x768x2048 ![0, 1, 2] bcast_S1x1x2048_S1x768x2048_0_1_2 : (⟨S1x1x2048, .f32⟩ : BufTy).Contents (Elt F) → (⟨S1x768x2048, .f32⟩ : BufTy).Contents (Elt F)),
    binary main_v50 main_v56 main_v57 (Host.divf : (⟨S1x768x2048, .f32⟩ : BufTy).Contents (Elt F) → (⟨S1x768x2048, .f32⟩ : BufTy).Contents (Elt F) → (⟨S1x768x2048, .f32⟩ : BufTy).Contents (Elt F)) ]

/-- Operations 87 to 94: the first leaky rectifier. -/
def opsLeaky1 : List (HloOp τ sig (Elt F)) :=
  [ nullary main_cst_12 (constant S_ .f32 0x3CA3D70A#32),
    TRef.nullary (TRef.of (T := ⟨S_, .f32⟩) main_call4_cst) (constant S_ .f32 0x00000000#32),
    TRef.unary (TRef.of (T := ⟨S_, .f32⟩) main_call4_cst) (TRef.of (T := ⟨S1x768x2048, .f32⟩) main_call4_v0) (broadcastInDim S1x768x2048 ![] bcast_S_S1x768x2048),
    TRef.binary (TRef.of (T := ⟨S1x768x2048, .f32⟩) main_v57) (TRef.of (T := ⟨S1x768x2048, .f32⟩) main_call4_v0) (TRef.of (T := ⟨S1x768x2048, .i1⟩) main_call4_v1) (cmpf .oge),
    TRef.unary (TRef.of (T := ⟨S_, .f32⟩) main_cst_12) (TRef.of (T := ⟨S_, .f32⟩) main_call4_v2) id,
    TRef.unary (TRef.of (T := ⟨S_, .f32⟩) main_call4_v2) (TRef.of (T := ⟨S1x768x2048, .f32⟩) main_call4_v3) (broadcastInDim S1x768x2048 ![] bcast_S_S1x768x2048),
    TRef.binary (TRef.of (T := ⟨S1x768x2048, .f32⟩) main_call4_v3) (TRef.of (T := ⟨S1x768x2048, .f32⟩) main_v57) (TRef.of (T := ⟨S1x768x2048, .f32⟩) main_call4_v4) mulf,
    TRef.ternary (TRef.of (T := ⟨S1x768x2048, .i1⟩) main_call4_v1) (TRef.of (T := ⟨S1x768x2048, .f32⟩) main_v57) (TRef.of (T := ⟨S1x768x2048, .f32⟩) main_call4_v4) (TRef.of (T := ⟨S1x768x2048, .f32⟩) main_v58) select ]

/-- Operations 95 to 99: padding in front, and the filters by group. -/
def opsPad : List (HloOp τ sig (Elt F)) :=
  [ nullary main_c (constantI S_ 32 0#32),
    TRef.unary (TRef.of (T := ⟨S_, .i32⟩) main_c) (TRef.of (T := ⟨S_, .f32⟩) main_call5_v0) (sitofp .f32),
    TRef.binary (TRef.of (T := ⟨S1x768x2048, .f32⟩) main_v58) (TRef.of (T := ⟨S_, .f32⟩) main_call5_v0) (TRef.of (T := ⟨S1x768x2054, .f32⟩) main_v59) (fun x v => pad S1x768x2054 ![0, 0, 6] ![0, 0, 0] ![0, 0, 0] x v pads_S1x768x2048_S1x768x2054_000_000_600 h_S_),
    reshape main_v59 main_v60 (rfl : (.f32 : EltTy) = .f32) shapeCasts_S1x768x2054_S1x4x192x2054,
    reshape main_arg3 main_v61 (rfl : (.f32 : EltTy) = .f32) shapeCasts_S2304x192x7_S4x576x192x7 ]

/-- Operations 100 to 119: the first three taps. -/
def opsConvA : List (HloOp τ sig (Elt F)) :=
  [ unary main_v60 main_v62 ((extractStridedSlice S1x4x192x2048 ![0, 0, 0, 0] · slices_S1x4x192x2054_S1x4x192x2048_0_0_0_0) : (⟨S1x4x192x2054, .f32⟩ : BufTy).Contents (Elt F) → (⟨S1x4x192x2048, .f32⟩ : BufTy).Contents (Elt F)),
    unary main_v61 main_v63 ((extractStridedSlice S4x576x192x1 ![0, 0, 0, 0] · slices_S4x576x192x7_S4x576x192x1_0_0_0_0) : (⟨S4x576x192x7, .f32⟩ : BufTy).Contents (Elt F) → (⟨S4x576x192x1, .f32⟩ : BufTy).Contents (Elt F)),
    reshape main_v63 main_v64 (rfl : (.f32 : EltTy) = .f32) shapeCasts_S4x576x192x1_S4x576x192,
    binary main_v64 main_v62 main_v65 ((fun l r => Host.dotGeneral dot_S4x576x192_S1x4x192x2048_S4x576x1x2048_2_2_1_03_0_1 none l r) : (⟨S4x576x192, .f32⟩ : BufTy).Contents (Elt F) → (⟨S1x4x192x2048, .f32⟩ : BufTy).Contents (Elt F) → (⟨S4x576x1x2048, .f32⟩ : BufTy).Contents (Elt F)),
    unary main_v65 main_v66 ((transpose S1x4x576x2048 [2, 0, 1, 3] · transposes_S4x576x1x2048_S1x4x576x2048_2_0_1_3) : (⟨S4x576x1x2048, .f32⟩ : BufTy).Contents (Elt F) → (⟨S1x4x576x2048, .f32⟩ : BufTy).Contents (Elt F)),
    nullary main_cst_13 (constant S_ .f32 0x00000000#32),
    unary main_cst_13 main_v67 (broadcastInDim S1x4x576x2048 ![] bcast_S_S1x4x576x2048 : (⟨S_, .f32⟩ : BufTy).Contents (Elt F) → (⟨S1x4x576x2048, .f32⟩ : BufTy).Contents (Elt F)),
    binary main_v67 main_v66 main_v68 (addf : (⟨S1x4x576x2048, .f32⟩ : BufTy).Contents (Elt F) → (⟨S1x4x576x2048, .f32⟩ : BufTy).Contents (Elt F) → (⟨S1x4x576x2048, .f32⟩ : BufTy).Contents (Elt F)),
    unary main_v60 main_v69 ((extractStridedSlice S1x4x192x2048 ![0, 0, 0, 1] · slices_S1x4x192x2054_S1x4x192x2048_0_0_0_1) : (⟨S1x4x192x2054, .f32⟩ : BufTy).Contents (Elt F) → (⟨S1x4x192x2048, .f32⟩ : BufTy).Contents (Elt F)),
    unary main_v61 main_v70 ((extractStridedSlice S4x576x192x1 ![0, 0, 0, 1] · slices_S4x576x192x7_S4x576x192x1_0_0_0_1) : (⟨S4x576x192x7, .f32⟩ : BufTy).Contents (Elt F) → (⟨S4x576x192x1, .f32⟩ : BufTy).Contents (Elt F)),
    reshape main_v70 main_v71 (rfl : (.f32 : EltTy) = .f32) shapeCasts_S4x576x192x1_S4x576x192,
    binary main_v71 main_v69 main_v72 ((fun l r => Host.dotGeneral dot_S4x576x192_S1x4x192x2048_S4x576x1x2048_2_2_1_03_0_1 none l r) : (⟨S4x576x192, .f32⟩ : BufTy).Contents (Elt F) → (⟨S1x4x192x2048, .f32⟩ : BufTy).Contents (Elt F) → (⟨S4x576x1x2048, .f32⟩ : BufTy).Contents (Elt F)),
    unary main_v72 main_v73 ((transpose S1x4x576x2048 [2, 0, 1, 3] · transposes_S4x576x1x2048_S1x4x576x2048_2_0_1_3) : (⟨S4x576x1x2048, .f32⟩ : BufTy).Contents (Elt F) → (⟨S1x4x576x2048, .f32⟩ : BufTy).Contents (Elt F)),
    binary main_v68 main_v73 main_v74 (addf : (⟨S1x4x576x2048, .f32⟩ : BufTy).Contents (Elt F) → (⟨S1x4x576x2048, .f32⟩ : BufTy).Contents (Elt F) → (⟨S1x4x576x2048, .f32⟩ : BufTy).Contents (Elt F)),
    unary main_v60 main_v75 ((extractStridedSlice S1x4x192x2048 ![0, 0, 0, 2] · slices_S1x4x192x2054_S1x4x192x2048_0_0_0_2) : (⟨S1x4x192x2054, .f32⟩ : BufTy).Contents (Elt F) → (⟨S1x4x192x2048, .f32⟩ : BufTy).Contents (Elt F)),
    unary main_v61 main_v76 ((extractStridedSlice S4x576x192x1 ![0, 0, 0, 2] · slices_S4x576x192x7_S4x576x192x1_0_0_0_2) : (⟨S4x576x192x7, .f32⟩ : BufTy).Contents (Elt F) → (⟨S4x576x192x1, .f32⟩ : BufTy).Contents (Elt F)),
    reshape main_v76 main_v77 (rfl : (.f32 : EltTy) = .f32) shapeCasts_S4x576x192x1_S4x576x192,
    binary main_v77 main_v75 main_v78 ((fun l r => Host.dotGeneral dot_S4x576x192_S1x4x192x2048_S4x576x1x2048_2_2_1_03_0_1 none l r) : (⟨S4x576x192, .f32⟩ : BufTy).Contents (Elt F) → (⟨S1x4x192x2048, .f32⟩ : BufTy).Contents (Elt F) → (⟨S4x576x1x2048, .f32⟩ : BufTy).Contents (Elt F)),
    unary main_v78 main_v79 ((transpose S1x4x576x2048 [2, 0, 1, 3] · transposes_S4x576x1x2048_S1x4x576x2048_2_0_1_3) : (⟨S4x576x1x2048, .f32⟩ : BufTy).Contents (Elt F) → (⟨S1x4x576x2048, .f32⟩ : BufTy).Contents (Elt F)),
    binary main_v74 main_v79 main_v80 (addf : (⟨S1x4x576x2048, .f32⟩ : BufTy).Contents (Elt F) → (⟨S1x4x576x2048, .f32⟩ : BufTy).Contents (Elt F) → (⟨S1x4x576x2048, .f32⟩ : BufTy).Contents (Elt F)) ]

/-- Operations 120 to 142: taps four to seven. -/
def opsConvB : List (HloOp τ sig (Elt F)) :=
  [ unary main_v60 main_v81 ((extractStridedSlice S1x4x192x2048 ![0, 0, 0, 3] · slices_S1x4x192x2054_S1x4x192x2048_0_0_0_3) : (⟨S1x4x192x2054, .f32⟩ : BufTy).Contents (Elt F) → (⟨S1x4x192x2048, .f32⟩ : BufTy).Contents (Elt F)),
    unary main_v61 main_v82 ((extractStridedSlice S4x576x192x1 ![0, 0, 0, 3] · slices_S4x576x192x7_S4x576x192x1_0_0_0_3) : (⟨S4x576x192x7, .f32⟩ : BufTy).Contents (Elt F) → (⟨S4x576x192x1, .f32⟩ : BufTy).Contents (Elt F)),
    reshape main_v82 main_v83 (rfl : (.f32 : EltTy) = .f32) shapeCasts_S4x576x192x1_S4x576x192,
    binary main_v83 main_v81 main_v84 ((fun l r => Host.dotGeneral dot_S4x576x192_S1x4x192x2048_S4x576x1x2048_2_2_1_03_0_1 none l r) : (⟨S4x576x192, .f32⟩ : BufTy).Contents (Elt F) → (⟨S1x4x192x2048, .f32⟩ : BufTy).Contents (Elt F) → (⟨S4x576x1x2048, .f32⟩ : BufTy).Contents (Elt F)),
    unary main_v84 main_v85 ((transpose S1x4x576x2048 [2, 0, 1, 3] · transposes_S4x576x1x2048_S1x4x576x2048_2_0_1_3) : (⟨S4x576x1x2048, .f32⟩ : BufTy).Contents (Elt F) → (⟨S1x4x576x2048, .f32⟩ : BufTy).Contents (Elt F)),
    binary main_v80 main_v85 main_v86 (addf : (⟨S1x4x576x2048, .f32⟩ : BufTy).Contents (Elt F) → (⟨S1x4x576x2048, .f32⟩ : BufTy).Contents (Elt F) → (⟨S1x4x576x2048, .f32⟩ : BufTy).Contents (Elt F)),
    unary main_v60 main_v87 ((extractStridedSlice S1x4x192x2048 ![0, 0, 0, 4] · slices_S1x4x192x2054_S1x4x192x2048_0_0_0_4) : (⟨S1x4x192x2054, .f32⟩ : BufTy).Contents (Elt F) → (⟨S1x4x192x2048, .f32⟩ : BufTy).Contents (Elt F)),
    unary main_v61 main_v88 ((extractStridedSlice S4x576x192x1 ![0, 0, 0, 4] · slices_S4x576x192x7_S4x576x192x1_0_0_0_4) : (⟨S4x576x192x7, .f32⟩ : BufTy).Contents (Elt F) → (⟨S4x576x192x1, .f32⟩ : BufTy).Contents (Elt F)),
    reshape main_v88 main_v89 (rfl : (.f32 : EltTy) = .f32) shapeCasts_S4x576x192x1_S4x576x192,
    binary main_v89 main_v87 main_v90 ((fun l r => Host.dotGeneral dot_S4x576x192_S1x4x192x2048_S4x576x1x2048_2_2_1_03_0_1 none l r) : (⟨S4x576x192, .f32⟩ : BufTy).Contents (Elt F) → (⟨S1x4x192x2048, .f32⟩ : BufTy).Contents (Elt F) → (⟨S4x576x1x2048, .f32⟩ : BufTy).Contents (Elt F)),
    unary main_v90 main_v91 ((transpose S1x4x576x2048 [2, 0, 1, 3] · transposes_S4x576x1x2048_S1x4x576x2048_2_0_1_3) : (⟨S4x576x1x2048, .f32⟩ : BufTy).Contents (Elt F) → (⟨S1x4x576x2048, .f32⟩ : BufTy).Contents (Elt F)),
    binary main_v86 main_v91 main_v92 (addf : (⟨S1x4x576x2048, .f32⟩ : BufTy).Contents (Elt F) → (⟨S1x4x576x2048, .f32⟩ : BufTy).Contents (Elt F) → (⟨S1x4x576x2048, .f32⟩ : BufTy).Contents (Elt F)),
    unary main_v60 main_v93 ((extractStridedSlice S1x4x192x2048 ![0, 0, 0, 5] · slices_S1x4x192x2054_S1x4x192x2048_0_0_0_5) : (⟨S1x4x192x2054, .f32⟩ : BufTy).Contents (Elt F) → (⟨S1x4x192x2048, .f32⟩ : BufTy).Contents (Elt F)),
    unary main_v61 main_v94 ((extractStridedSlice S4x576x192x1 ![0, 0, 0, 5] · slices_S4x576x192x7_S4x576x192x1_0_0_0_5) : (⟨S4x576x192x7, .f32⟩ : BufTy).Contents (Elt F) → (⟨S4x576x192x1, .f32⟩ : BufTy).Contents (Elt F)),
    reshape main_v94 main_v95 (rfl : (.f32 : EltTy) = .f32) shapeCasts_S4x576x192x1_S4x576x192,
    binary main_v95 main_v93 main_v96 ((fun l r => Host.dotGeneral dot_S4x576x192_S1x4x192x2048_S4x576x1x2048_2_2_1_03_0_1 none l r) : (⟨S4x576x192, .f32⟩ : BufTy).Contents (Elt F) → (⟨S1x4x192x2048, .f32⟩ : BufTy).Contents (Elt F) → (⟨S4x576x1x2048, .f32⟩ : BufTy).Contents (Elt F)),
    unary main_v96 main_v97 ((transpose S1x4x576x2048 [2, 0, 1, 3] · transposes_S4x576x1x2048_S1x4x576x2048_2_0_1_3) : (⟨S4x576x1x2048, .f32⟩ : BufTy).Contents (Elt F) → (⟨S1x4x576x2048, .f32⟩ : BufTy).Contents (Elt F)),
    binary main_v92 main_v97 main_v98 (addf : (⟨S1x4x576x2048, .f32⟩ : BufTy).Contents (Elt F) → (⟨S1x4x576x2048, .f32⟩ : BufTy).Contents (Elt F) → (⟨S1x4x576x2048, .f32⟩ : BufTy).Contents (Elt F)),
    unary main_v60 main_v99 ((extractStridedSlice S1x4x192x2048 ![0, 0, 0, 6] · slices_S1x4x192x2054_S1x4x192x2048_0_0_0_6) : (⟨S1x4x192x2054, .f32⟩ : BufTy).Contents (Elt F) → (⟨S1x4x192x2048, .f32⟩ : BufTy).Contents (Elt F)),
    unary main_v61 main_v100 ((extractStridedSlice S4x576x192x1 ![0, 0, 0, 6] · slices_S4x576x192x7_S4x576x192x1_0_0_0_6) : (⟨S4x576x192x7, .f32⟩ : BufTy).Contents (Elt F) → (⟨S4x576x192x1, .f32⟩ : BufTy).Contents (Elt F)),
    reshape main_v100 main_v101 (rfl : (.f32 : EltTy) = .f32) shapeCasts_S4x576x192x1_S4x576x192,
    binary main_v101 main_v99 main_v102 ((fun l r => Host.dotGeneral dot_S4x576x192_S1x4x192x2048_S4x576x1x2048_2_2_1_03_0_1 none l r) : (⟨S4x576x192, .f32⟩ : BufTy).Contents (Elt F) → (⟨S1x4x192x2048, .f32⟩ : BufTy).Contents (Elt F) → (⟨S4x576x1x2048, .f32⟩ : BufTy).Contents (Elt F)),
    unary main_v102 main_v103 ((transpose S1x4x576x2048 [2, 0, 1, 3] · transposes_S4x576x1x2048_S1x4x576x2048_2_0_1_3) : (⟨S4x576x1x2048, .f32⟩ : BufTy).Contents (Elt F) → (⟨S1x4x576x2048, .f32⟩ : BufTy).Contents (Elt F)) ]

/-- Operations 143 to 149: the last tap added, and the gated product. -/
def opsGlu : List (HloOp τ sig (Elt F)) :=
  [ binary main_v98 main_v103 main_v104 (addf : (⟨S1x4x576x2048, .f32⟩ : BufTy).Contents (Elt F) → (⟨S1x4x576x2048, .f32⟩ : BufTy).Contents (Elt F) → (⟨S1x4x576x2048, .f32⟩ : BufTy).Contents (Elt F)),
    reshape main_v104 main_v105 (rfl : (.f32 : EltTy) = .f32) shapeCasts_S1x4x576x2048_S1x2304x2048,
    unary main_v105 main_v106 ((extractStridedSlice S1x768x2048 ![0, 0, 0] · slices_S1x2304x2048_S1x768x2048_0_0_0) : (⟨S1x2304x2048, .f32⟩ : BufTy).Contents (Elt F) → (⟨S1x768x2048, .f32⟩ : BufTy).Contents (Elt F)),
    unary main_v105 main_v107 ((extractStridedSlice S1x768x2048 ![0, 768, 0] · slices_S1x2304x2048_S1x768x2048_0_768_0) : (⟨S1x2304x2048, .f32⟩ : BufTy).Contents (Elt F) → (⟨S1x768x2048, .f32⟩ : BufTy).Contents (Elt F)),
    unary main_v105 main_v108 ((extractStridedSlice S1x768x2048 ![0, 1536, 0] · slices_S1x2304x2048_S1x768x2048_0_1536_0) : (⟨S1x2304x2048, .f32⟩ : BufTy).Contents (Elt F) → (⟨S1x768x2048, .f32⟩ : BufTy).Contents (Elt F)),
    binary main_v106 main_v107 main_v109 (mulf : (⟨S1x768x2048, .f32⟩ : BufTy).Contents (Elt F) → (⟨S1x768x2048, .f32⟩ : BufTy).Contents (Elt F) → (⟨S1x768x2048, .f32⟩ : BufTy).Contents (Elt F)),
    binary main_v109 main_v108 main_v110 (addf : (⟨S1x768x2048, .f32⟩ : BufTy).Contents (Elt F) → (⟨S1x768x2048, .f32⟩ : BufTy).Contents (Elt F) → (⟨S1x768x2048, .f32⟩ : BufTy).Contents (Elt F)) ]

/-- Operations 150 to 155: the second mean over channels. -/
def opsMean2 : List (HloOp τ sig (Elt F)) :=
  [ nullary main_cst_14 (constant S_ .f32 0x00000000#32),
    binary main_v110 main_cst_14 main_v111 ((fun x v => Host.reduceAdd x v reducesTo_S1x768x2048_S1x2048_d1 h_S_) : (⟨S1x768x2048, .f32⟩ : BufTy).Contents (Elt F) → (⟨S_, .f32⟩ : BufTy).Contents (Elt F) → (⟨S1x2048, .f32⟩ : BufTy).Contents (Elt F)),
    unary main_v111 main_v112 (broadcastInDim S1x1x2048 ![0, 2] bcast_S1x2048_S1x1x2048_0_2 : (⟨S1x2048, .f32⟩ : BufTy).Contents (Elt F) → (⟨S1x1x2048, .f32⟩ : BufTy).Contents (Elt F)),
    nullary main_cst_15 (constant S_ .f32 0x44400000#32),
    unary main_cst_15 main_v113 (broadcastInDim S1x1x2048 ![] bcast_S_S1x1x2048 : (⟨S_, .f32⟩ : BufTy).Contents (Elt F) → (⟨S1x1x2048, .f32⟩ : BufTy).Contents (Elt F)),
    binary main_v112 main_v113 main_v114 (Host.divf : (⟨S1x1x2048, .f32⟩ : BufTy).Contents (Elt F) → (⟨S1x1x2048, .f32⟩ : BufTy).Contents (Elt F) → (⟨S1x1x2048, .f32⟩ : BufTy).Contents (Elt F)) ]

/-- Operations 156 to 170: the second normalisation. -/
def opsNorm2 : List (HloOp τ sig (Elt F)) :=
  [ unary main_v114 main_v115 (broadcastInDim S1x768x2048 ![0, 1, 2] bcast_S1x1x2048_S1x768x2048_0_1_2 : (⟨S1x1x2048, .f32⟩ : BufTy).Contents (Elt F) → (⟨S1x768x2048, .f32⟩ : BufTy).Contents (Elt F)),
    binary main_v110 main_v115 main_v116 (subf : (⟨S1x768x2048, .f32⟩ : BufTy).Contents (Elt F) → (⟨S1x768x2048, .f32⟩ : BufTy).Contents (Elt F) → (⟨S1x768x2048, .f32⟩ : BufTy).Contents (Elt F)),
    TRef.binary (TRef.of (T := ⟨S1x768x2048, .f32⟩) main_v116) (TRef.of (T := ⟨S1x768x2048, .f32⟩) main_v116) (TRef.of (T := ⟨S1x768x2048, .f32⟩) main_call6_v0) mulf,
    TRef.nullary (TRef.of (T := ⟨S_, .f32⟩) main_call6_cst) (constant S_ .f32 0x00000000#32),
    TRef.binary (TRef.of (T := ⟨S1x768x2048, .f32⟩) main_call6_v0) (TRef.of (T := ⟨S_, .f32⟩) main_call6_cst) (TRef.of (T := ⟨S1x2048, .f32⟩) main_call6_v1) (fun x v => Host.reduceAdd x v reducesTo_S1x768x2048_S1x2048_d1 h_S_),
    TRef.unary (TRef.of (T := ⟨S1x2048, .f32⟩) main_call6_v1) (TRef.of (T := ⟨S1x1x2048, .f32⟩) main_call6_v2) (broadcastInDim S1x1x2048 ![0, 2] bcast_S1x2048_S1x1x2048_0_2),
    TRef.unary (TRef.of (T := ⟨S1x1x2048, .f32⟩) main_call6_v2) (TRef.of (T := ⟨S1x1x2048, .f32⟩) main_v117) Host.sqrt,
    nullary main_cst_16 (constant S_ .f32 0x3D13CD3A#32),
    unary main_cst_16 main_v118 (broadcastInDim S1x1x2048 ![] bcast_S_S1x1x2048 : (⟨S_, .f32⟩ : BufTy).Contents (Elt F) → (⟨S1x1x2048, .f32⟩ : BufTy).Contents (Elt F)),
    binary main_v117 main_v118 main_v119 (mulf : (⟨S1x1x2048, .f32⟩ : BufTy).Contents (Elt F) → (⟨S1x1x2048, .f32⟩ : BufTy).Contents (Elt F) → (⟨S1x1x2048, .f32⟩ : BufTy).Contents (Elt F)),
    nullary main_cst_17 (constant S_ .f32 0x3727C5AC#32),
    unary main_cst_17 main_v120 (broadcastInDim S1x1x2048 ![] bcast_S_S1x1x2048 : (⟨S_, .f32⟩ : BufTy).Contents (Elt F) → (⟨S1x1x2048, .f32⟩ : BufTy).Contents (Elt F)),
    binary main_v119 main_v120 main_v121 (addf : (⟨S1x1x2048, .f32⟩ : BufTy).Contents (Elt F) → (⟨S1x1x2048, .f32⟩ : BufTy).Contents (Elt F) → (⟨S1x1x2048, .f32⟩ : BufTy).Contents (Elt F)),
    unary main_v121 main_v122 (broadcastInDim S1x768x2048 ![0, 1, 2] bcast_S1x1x2048_S1x768x2048_0_1_2 : (⟨S1x1x2048, .f32⟩ : BufTy).Contents (Elt F) → (⟨S1x768x2048, .f32⟩ : BufTy).Contents (Elt F)),
    binary main_v116 main_v122 main_v123 (Host.divf : (⟨S1x768x2048, .f32⟩ : BufTy).Contents (Elt F) → (⟨S1x768x2048, .f32⟩ : BufTy).Contents (Elt F) → (⟨S1x768x2048, .f32⟩ : BufTy).Contents (Elt F)) ]

/-- Operations 171 to 178: the second leaky rectifier. -/
def opsLeaky2 : List (HloOp τ sig (Elt F)) :=
  [ nullary main_cst_18 (constant S_ .f32 0x3CA3D70A#32),
    TRef.nullary (TRef.of (T := ⟨S_, .f32⟩) main_call7_cst) (constant S_ .f32 0x00000000#32),
    TRef.unary (TRef.of (T := ⟨S_, .f32⟩) main_call7_cst) (TRef.of (T := ⟨S1x768x2048, .f32⟩) main_call7_v0) (broadcastInDim S1x768x2048 ![] bcast_S_S1x768x2048),
    TRef.binary (TRef.of (T := ⟨S1x768x2048, .f32⟩) main_v123) (TRef.of (T := ⟨S1x768x2048, .f32⟩) main_call7_v0) (TRef.of (T := ⟨S1x768x2048, .i1⟩) main_call7_v1) (cmpf .oge),
    TRef.unary (TRef.of (T := ⟨S_, .f32⟩) main_cst_18) (TRef.of (T := ⟨S_, .f32⟩) main_call7_v2) id,
    TRef.unary (TRef.of (T := ⟨S_, .f32⟩) main_call7_v2) (TRef.of (T := ⟨S1x768x2048, .f32⟩) main_call7_v3) (broadcastInDim S1x768x2048 ![] bcast_S_S1x768x2048),
    TRef.binary (TRef.of (T := ⟨S1x768x2048, .f32⟩) main_call7_v3) (TRef.of (T := ⟨S1x768x2048, .f32⟩) main_v123) (TRef.of (T := ⟨S1x768x2048, .f32⟩) main_call7_v4) mulf,
    TRef.ternary (TRef.of (T := ⟨S1x768x2048, .i1⟩) main_call7_v1) (TRef.of (T := ⟨S1x768x2048, .f32⟩) main_v123) (TRef.of (T := ⟨S1x768x2048, .f32⟩) main_call7_v4) (TRef.of (T := ⟨S1x768x2048, .f32⟩) main_v124) select ]

/-- Operations 179 to 181: the second routing scores. -/
def opsLogits1 : List (HloOp τ sig (Elt F)) :=
  [ reshape main_arg4 main_v125 (rfl : (.f32 : EltTy) = .f32) shapeCasts_S8x768x1_S8x768,
    binary main_v125 main_v124 main_v126 ((fun l r => Host.dotGeneral dot_S8x768_S1x768x2048_S8x1x2048_1_1_0_02_n_n none l r) : (⟨S8x768, .f32⟩ : BufTy).Contents (Elt F) → (⟨S1x768x2048, .f32⟩ : BufTy).Contents (Elt F) → (⟨S8x1x2048, .f32⟩ : BufTy).Contents (Elt F)),
    unary main_v126 main_v127 ((transpose S1x8x2048 [1, 0, 2] · transposes_S8x1x2048_S1x8x2048_1_0_2) : (⟨S8x1x2048, .f32⟩ : BufTy).Contents (Elt F) → (⟨S1x8x2048, .f32⟩ : BufTy).Contents (Elt F)) ]

/-- Operations 182 to 195: the softmax of the second scores. -/
def opsGates1 : List (HloOp τ sig (Elt F)) :=
  [ nullary main_cst_19 (constant S_ .f32 0xFF800000#32),
    binary main_v127 main_cst_19 main_v128 ((fun x v => Host.reduce FloatOps.maximumf x v reducesTo_S1x8x2048_S1x2048_d1 h_S_) : (⟨S1x8x2048, .f32⟩ : BufTy).Contents (Elt F) → (⟨S_, .f32⟩ : BufTy).Contents (Elt F) → (⟨S1x2048, .f32⟩ : BufTy).Contents (Elt F)),
    nullary main_cst_20 (constant S_ .f32 0xFF800000#32),
    unary main_cst_20 main_v129 (broadcastInDim S1x2048 ![] bcast_S_S1x2048 : (⟨S_, .f32⟩ : BufTy).Contents (Elt F) → (⟨S1x2048, .f32⟩ : BufTy).Contents (Elt F)),
    binary main_v129 main_v128 main_v130 (maximumf : (⟨S1x2048, .f32⟩ : BufTy).Contents (Elt F) → (⟨S1x2048, .f32⟩ : BufTy).Contents (Elt F) → (⟨S1x2048, .f32⟩ : BufTy).Contents (Elt F)),
    unary main_v130 main_v131 (broadcastInDim S1x1x2048 ![0, 2] bcast_S1x2048_S1x1x2048_0_2 : (⟨S1x2048, .f32⟩ : BufTy).Contents (Elt F) → (⟨S1x1x2048, .f32⟩ : BufTy).Contents (Elt F)),
    unary main_v131 main_v132 (broadcastInDim S1x8x2048 ![0, 1, 2] bcast_S1x1x2048_S1x8x2048_0_1_2 : (⟨S1x1x2048, .f32⟩ : BufTy).Contents (Elt F) → (⟨S1x8x2048, .f32⟩ : BufTy).Contents (Elt F)),
    binary main_v127 main_v132 main_v133 (subf : (⟨S1x8x2048, .f32⟩ : BufTy).Contents (Elt F) → (⟨S1x8x2048, .f32⟩ : BufTy).Contents (Elt F) → (⟨S1x8x2048, .f32⟩ : BufTy).Contents (Elt F)),
    unary main_v133 main_v134 (Host.exp : (⟨S1x8x2048, .f32⟩ : BufTy).Contents (Elt F) → (⟨S1x8x2048, .f32⟩ : BufTy).Contents (Elt F)),
    nullary main_cst_21 (constant S_ .f32 0x00000000#32),
    binary main_v134 main_cst_21 main_v135 ((fun x v => Host.reduceAdd x v reducesTo_S1x8x2048_S1x2048_d1 h_S_) : (⟨S1x8x2048, .f32⟩ : BufTy).Contents (Elt F) → (⟨S_, .f32⟩ : BufTy).Contents (Elt F) → (⟨S1x2048, .f32⟩ : BufTy).Contents (Elt F)),
    unary main_v135 main_v136 (broadcastInDim S1x1x2048 ![0, 2] bcast_S1x2048_S1x1x2048_0_2 : (⟨S1x2048, .f32⟩ : BufTy).Contents (Elt F) → (⟨S1x1x2048, .f32⟩ : BufTy).Contents (Elt F)),
    unary main_v136 main_v137 (broadcastInDim S1x8x2048 ![0, 1, 2] bcast_S1x1x2048_S1x8x2048_0_1_2 : (⟨S1x1x2048, .f32⟩ : BufTy).Contents (Elt F) → (⟨S1x8x2048, .f32⟩ : BufTy).Contents (Elt F)),
    binary main_v134 main_v137 main_v138 (Host.divf : (⟨S1x8x2048, .f32⟩ : BufTy).Contents (Elt F) → (⟨S1x8x2048, .f32⟩ : BufTy).Contents (Elt F) → (⟨S1x8x2048, .f32⟩ : BufTy).Contents (Elt F)) ]

/-- Operations 196 to 206: the one-hot code of the second chosen expert. -/
def opsOneHot1 : List (HloOp τ sig (Elt F)) :=
  [ TRef.nullary (TRef.of (T := ⟨S1x8x2048, .i32⟩) main_call8_v0) (iotaInDim S1x8x2048 32 1),
    TRef.nullary (TRef.of (T := ⟨S_, .f32⟩) main_call8_cst) (constant S_ .f32 0xFF800000#32),
    TRef.nullary (TRef.of (T := ⟨S_, .i32⟩) main_call8_c) (constantI S_ 32 0#32),
    TRef.quaternary (TRef.of (T := ⟨S1x8x2048, .f32⟩) main_v127) (TRef.of (T := ⟨S1x8x2048, .i32⟩) main_call8_v0) (TRef.of (T := ⟨S_, .f32⟩) main_call8_cst) (TRef.of (T := ⟨S_, .i32⟩) main_call8_c) (TRef.of (T := ⟨S1x2048, .f32⟩) main_call8_v1_0) (fun x y u v j => (Host.argReduce reducer_argmax_f32_i32 x y u v reducesTo_S1x8x2048_S1x2048_d1 h_S_ j).1),
    TRef.quaternary (TRef.of (T := ⟨S1x8x2048, .f32⟩) main_v127) (TRef.of (T := ⟨S1x8x2048, .i32⟩) main_call8_v0) (TRef.of (T := ⟨S_, .f32⟩) main_call8_cst) (TRef.of (T := ⟨S_, .i32⟩) main_call8_c) (TRef.of (T := ⟨S1x2048, .i32⟩) main_v139) (fun x y u v j => (Host.argReduce reducer_argmax_f32_i32 x y u v reducesTo_S1x8x2048_S1x2048_d1 h_S_ j).2),
    TRef.unary (TRef.of (T := ⟨S1x2048, .i32⟩) main_v139) (TRef.of (T := ⟨S1x2048x1, .i32⟩) main_call9_v0) (broadcastInDim S1x2048x1 ![0, 1] bcast_S1x2048_S1x2048x1_0_1),
    TRef.nullary (TRef.of (T := ⟨S1x1x8, .i32⟩) main_call9_v1) (iotaInDim S1x1x8 32 2),
    TRef.unary (TRef.of (T := ⟨S1x2048x1, .i32⟩) main_call9_v0) (TRef.of (T := ⟨S1x2048x8, .i32⟩) main_call9_v2) (broadcastInDim S1x2048x8 ![0, 1, 2] bcast_S1x2048x1_S1x2048x8_0_1_2),
    TRef.unary (TRef.of (T := ⟨S1x1x8, .i32⟩) main_call9_v1) (TRef.of (T := ⟨S1x2048x8, .i32⟩) main_call9_v3) (broadcastInDim S1x2048x8 ![0, 1, 2] bcast_S1x1x8_S1x2048x8_0_1_2),
    TRef.binary (TRef.of (T := ⟨S1x2048x8, .i32⟩) main_call9_v2) (TRef.of (T := ⟨S1x2048x8, .i32⟩) main_call9_v3) (TRef.of (T := ⟨S1x2048x8, .i1⟩) main_call9_v4) (cmpi .eq),
    TRef.unary (TRef.of (T := ⟨S1x2048x8, .i1⟩) main_call9_v4) (TRef.of (T := ⟨S1x2048x8, .f32⟩) main_v140) (uitofp .f32) ]

/-- Operations 207 to 214: the second mixture of experts. -/
def opsComb1 : List (HloOp τ sig (Elt F)) :=
  [ unary main_v140 main_v141 ((transpose S1x8x2048 [0, 2, 1] · transposes_S1x2048x8_S1x8x2048_0_2_1) : (⟨S1x2048x8, .f32⟩ : BufTy).Contents (Elt F) → (⟨S1x8x2048, .f32⟩ : BufTy).Contents (Elt F)),
    binary main_v141 main_v138 main_v142 (subf : (⟨S1x8x2048, .f32⟩ : BufTy).Contents (Elt F) → (⟨S1x8x2048, .f32⟩ : BufTy).Contents (Elt F) → (⟨S1x8x2048, .f32⟩ : BufTy).Contents (Elt F)),
    binary main_v142 main_v138 main_v143 (addf : (⟨S1x8x2048, .f32⟩ : BufTy).Contents (Elt F) → (⟨S1x8x2048, .f32⟩ : BufTy).Contents (Elt F) → (⟨S1x8x2048, .f32⟩ : BufTy).Contents (Elt F)),
    unary main_v124 main_v144 ((transpose S1x2048x768 [0, 2, 1] · transposes_S1x768x2048_S1x2048x768_0_2_1) : (⟨S1x768x2048, .f32⟩ : BufTy).Contents (Elt F) → (⟨S1x2048x768, .f32⟩ : BufTy).Contents (Elt F)),
    binary main_v144 main_arg5 main_v145 ((fun l r => Host.dotGeneral dot_S1x2048x768_S8x768x768_S1x2048x8x768_2_1_01_02_n_n none l r) : (⟨S1x2048x768, .f32⟩ : BufTy).Contents (Elt F) → (⟨S8x768x768, .f32⟩ : BufTy).Contents (Elt F) → (⟨S1x2048x8x768, .f32⟩ : BufTy).Contents (Elt F)),
    unary main_v143 main_v146 ((transpose S1x2048x8 [0, 2, 1] · transposes_S1x8x2048_S1x2048x8_0_2_1) : (⟨S1x8x2048, .f32⟩ : BufTy).Contents (Elt F) → (⟨S1x2048x8, .f32⟩ : BufTy).Contents (Elt F)),
    binary main_v140 main_v146 main_v147 (mulf : (⟨S1x2048x8, .f32⟩ : BufTy).Contents (Elt F) → (⟨S1x2048x8, .f32⟩ : BufTy).Contents (Elt F) → (⟨S1x2048x8, .f32⟩ : BufTy).Contents (Elt F)),
    binary main_v147 main_v145 main_v148 ((fun l r => Host.dotGeneral dot_S1x2048x8_S1x2048x8x768_S1x2048x768_2_2_n_3_01_01 none l r) : (⟨S1x2048x8, .f32⟩ : BufTy).Contents (Elt F) → (⟨S1x2048x8x768, .f32⟩ : BufTy).Contents (Elt F) → (⟨S1x2048x768, .f32⟩ : BufTy).Contents (Elt F)) ]

/-- Operations 215 to 221: the two means of the second loss. -/
def opsLossA : List (HloOp τ sig (Elt F)) :=
  [ nullary main_cst_22 (constant S_ .f32 0x00000000#32),
    binary main_v138 main_cst_22 main_v149 ((fun x v => Host.reduceAdd x v reducesTo_S1x8x2048_S8_d0_2 h_S_) : (⟨S1x8x2048, .f32⟩ : BufTy).Contents (Elt F) → (⟨S_, .f32⟩ : BufTy).Contents (Elt F) → (⟨S8, .f32⟩ : BufTy).Contents (Elt F)),
    nullary main_cst_23 (constant S_ .f32 0x45000000#32),
    unary main_cst_23 main_v150 (broadcastInDim S8 ![] bcast_S_S8 : (⟨S_, .f32⟩ : BufTy).Contents (Elt F) → (⟨S8, .f32⟩ : BufTy).Contents (Elt F)),
    binary main_v149 main_v150 main_v151 (Host.divf : (⟨S8, .f32⟩ : BufTy).Contents (Elt F) → (⟨S8, .f32⟩ : BufTy).Contents (Elt F) → (⟨S8, .f32⟩ : BufTy).Contents (Elt F)),
    nullary main_cst_24 (constant S_ .f32 0x00000000#32),
    binary main_v140 main_cst_24 main_v152 ((fun x v => Host.reduceAdd x v reducesTo_S1x2048x8_S8_d0_1 h_S_) : (⟨S1x2048x8, .f32⟩ : BufTy).Contents (Elt F) → (⟨S_, .f32⟩ : BufTy).Contents (Elt F) → (⟨S8, .f32⟩ : BufTy).Contents (Elt F)) ]

/-- Operations 222 to 227: the second balance loss. -/
def opsLossB : List (HloOp τ sig (Elt F)) :=
  [ nullary main_cst_25 (constant S_ .f32 0x45000000#32),
    unary main_cst_25 main_v153 (broadcastInDim S8 ![] bcast_S_S8 : (⟨S_, .f32⟩ : BufTy).Contents (Elt F) → (⟨S8, .f32⟩ : BufTy).Contents (Elt F)),
    binary main_v152 main_v153 main_v154 (Host.divf : (⟨S8, .f32⟩ : BufTy).Contents (Elt F) → (⟨S8, .f32⟩ : BufTy).Contents (Elt F) → (⟨S8, .f32⟩ : BufTy).Contents (Elt F)),
    binary main_v151 main_v154 main_v155 (mulf : (⟨S8, .f32⟩ : BufTy).Contents (Elt F) → (⟨S8, .f32⟩ : BufTy).Contents (Elt F) → (⟨S8, .f32⟩ : BufTy).Contents (Elt F)),
    nullary main_cst_26 (constant S_ .f32 0x00000000#32),
    binary main_v155 main_cst_26 main_v156 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) ]

/-- Operations 228 to 231: the scaled output. -/
def opsOut : List (HloOp τ sig (Elt F)) :=
  [ unary main_v148 main_v157 ((transpose S1x768x2048 [0, 2, 1] · transposes_S1x2048x768_S1x768x2048_0_2_1) : (⟨S1x2048x768, .f32⟩ : BufTy).Contents (Elt F) → (⟨S1x768x2048, .f32⟩ : BufTy).Contents (Elt F)),
    nullary main_cst_27 (constant S_ .f32 0x3E000000#32),
    unary main_cst_27 main_v158 (broadcastInDim S1x768x2048 ![] bcast_S_S1x768x2048 : (⟨S_, .f32⟩ : BufTy).Contents (Elt F) → (⟨S1x768x2048, .f32⟩ : BufTy).Contents (Elt F)),
    binary main_v157 main_v158 main_v159 (mulf : (⟨S1x768x2048, .f32⟩ : BufTy).Contents (Elt F) → (⟨S1x768x2048, .f32⟩ : BufTy).Contents (Elt F) → (⟨S1x768x2048, .f32⟩ : BufTy).Contents (Elt F)) ]

/-- The operations of the first stretch of the program. -/
abbrev ops0 : List (HloOp τ sig (Elt F)) :=
  opsDiv ++ (opsLogits0 ++ (opsGates0 ++ (opsOneHot0 ++ (opsComb0 ++ (opsLoss0 ++ (opsPre ++ (opsMean1)))))))

/-- The operations of the second stretch of the program. -/
abbrev ops1 : List (HloOp τ sig (Elt F)) :=
  opsNorm1 ++ (opsLeaky1 ++ (opsPad ++ (opsConvA ++ (opsConvB))))

/-- The operations of the third stretch of the program. -/
abbrev ops2 : List (HloOp τ sig (Elt F)) :=
  opsGlu ++ (opsMean2 ++ (opsNorm2 ++ (opsLeaky2 ++ (opsLogits1 ++ (opsGates1 ++ (opsOneHot1 ++ (opsComb1 ++ (opsLossA))))))))

/-- The operations of the last stretch of the program. -/
abbrev ops3 : List (HloOp τ sig (Elt F)) :=
  opsLossB ++ (opsOut)

/-- All operations, in order. -/
abbrev ops : List (HloOp τ sig (Elt F)) :=
  ops0 ++ (ops1 ++ (ops2 ++ ops3))

set_option maxHeartbeats 4000000 in
theorem main_part0_eq (c : Dev nD) : main_part0 (F := F) c = seq ops0 := rfl
set_option maxHeartbeats 4000000 in
theorem main_part1_eq (c : Dev nD) : main_part1 (F := F) c = seq ops1 := rfl
set_option maxHeartbeats 4000000 in
theorem main_part2_eq (c : Dev nD) : main_part2 (F := F) c = seq ops2 := rfl
set_option maxHeartbeats 4000000 in
theorem main_part3_eq (c : Dev nD) : main_part3 (F := F) c = seq ops3 := rfl
/-- The program is its operations in a row. -/
theorem main_eq (c : Dev nD) : main (F := F) c = seq ops := by
  unfold ops
  rw [seq_append ops0, seq_append ops1, seq_append ops2, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsDiv_sub : (opsDiv : List (HloOp τ sig (Elt F))).Forall fun op => op.bufs ⊆ tcRefs τ sig := by
  unfold opsDiv
  exact ⟨nullary_bufs_sub .., nullary_bufs_sub .., unary_bufs_sub .., binary_bufs_sub .., reshape_bufs_sub ..⟩
theorem opsDiv_fresh : (opsDiv : List (HloOp τ sig (Elt F))).Forall fun op => op.fresh = ∅ := by
  simp only [opsDiv, List.Forall]; repeat' constructor
/-- What `opsDiv` writes, in order. -/
abbrev opsDiv_W : List (Ref sig .tc) := [main_v0, main_cst, main_v1, main_v2, main_v3]
theorem opsDiv_keep (V : Valuation τ sig (Elt F)) (r : Ref sig .tc) (h : r ∉ opsDiv_W) :
    after opsDiv V (no_index (Proc.devRef .tc r)) = V (Proc.devRef .tc r) :=
  after_of_writes_sub opsDiv V (forall_writes_sub_of_map rfl) h

theorem opsLogits0_sub : (opsLogits0 : List (HloOp τ sig (Elt F))).Forall fun op => op.bufs ⊆ tcRefs τ sig := by
  unfold opsLogits0
  exact ⟨reshape_bufs_sub .., binary_bufs_sub .., unary_bufs_sub ..⟩
theorem opsLogits0_fresh : (opsLogits0 : List (HloOp τ sig (Elt F))).Forall fun op => op.fresh = ∅ := by
  simp only [opsLogits0, List.Forall]; repeat' constructor
/-- What `opsLogits0` writes, in order. -/
abbrev opsLogits0_W : List (Ref sig .tc) := [main_v4, main_v5, main_v6]
theorem opsLogits0_keep (V : Valuation τ sig (Elt F)) (r : Ref sig .tc) (h : r ∉ opsLogits0_W) :
    after opsLogits0 V (no_index (Proc.devRef .tc r)) = V (Proc.devRef .tc r) :=
  after_of_writes_sub opsLogits0 V (forall_writes_sub_of_map rfl) h

theorem opsGates0_sub : (opsGates0 : List (HloOp τ sig (Elt F))).Forall fun op => op.bufs ⊆ tcRefs τ sig := by
  unfold opsGates0
  exact ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem opsGates0_fresh : (opsGates0 : List (HloOp τ sig (Elt F))).Forall fun op => op.fresh = ∅ := by
  simp only [opsGates0, List.Forall]; repeat' constructor
/-- What `opsGates0` writes, in order. -/
abbrev opsGates0_W : List (Ref sig .tc) := [main_cst_0, main_v7, main_cst_1, main_v8, main_v9, main_v10, main_v11, main_v12, main_v13, main_cst_2, main_v14, main_v15, main_v16, main_v17]
theorem opsGates0_keep (V : Valuation τ sig (Elt F)) (r : Ref sig .tc) (h : r ∉ opsGates0_W) :
    after opsGates0 V (no_index (Proc.devRef .tc r)) = V (Proc.devRef .tc r) :=
  after_of_writes_sub opsGates0 V (forall_writes_sub_of_map rfl) h

theorem opsOneHot0_sub : (opsOneHot0 : List (HloOp τ sig (Elt F))).Forall fun op => op.bufs ⊆ tcRefs τ sig := by
  unfold opsOneHot0
  exact ⟨nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub ..⟩
theorem opsOneHot0_fresh : (opsOneHot0 : List (HloOp τ sig (Elt F))).Forall fun op => op.fresh = ∅ := by
  simp only [opsOneHot0, List.Forall]; repeat' constructor
/-- What `opsOneHot0` writes, in order. -/
abbrev opsOneHot0_W : List (Ref sig .tc) := [main_call0_v0, main_call0_cst, main_call0_c, main_call0_v1_0, main_v18, main_call1_v0, main_call1_v1, main_call1_v2, main_call1_v3, main_call1_v4, main_v19]
theorem opsOneHot0_keep (V : Valuation τ sig (Elt F)) (r : Ref sig .tc) (h : r ∉ opsOneHot0_W) :
    after opsOneHot0 V (no_index (Proc.devRef .tc r)) = V (Proc.devRef .tc r) :=
  after_of_writes_sub opsOneHot0 V (forall_writes_sub_of_map rfl) h

theorem opsComb0_sub : (opsComb0 : List (HloOp τ sig (Elt F))).Forall fun op => op.bufs ⊆ tcRefs τ sig := by
  unfold opsComb0
  exact ⟨unary_bufs_sub .., binary_bufs_sub .., binary_bufs_sub .., unary_bufs_sub .., binary_bufs_sub .., unary_bufs_sub .., binary_bufs_sub .., binary_bufs_sub ..⟩
theorem opsComb0_fresh : (opsComb0 : List (HloOp τ sig (Elt F))).Forall fun op => op.fresh = ∅ := by
  simp only [opsComb0, List.Forall]; repeat' constructor
/-- What `opsComb0` writes, in order. -/
abbrev opsComb0_W : List (Ref sig .tc) := [main_v20, main_v21, main_v22, main_v23, main_v24, main_v25, main_v26, main_v27]
theorem opsComb0_keep (V : Valuation τ sig (Elt F)) (r : Ref sig .tc) (h : r ∉ opsComb0_W) :
    after opsComb0 V (no_index (Proc.devRef .tc r)) = V (Proc.devRef .tc r) :=
  after_of_writes_sub opsComb0 V (forall_writes_sub_of_map rfl) h

theorem opsLoss0_sub : (opsLoss0 : List (HloOp τ sig (Elt F))).Forall fun op => op.bufs ⊆ tcRefs τ sig := by
  unfold opsLoss0
  exact ⟨nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., unary_bufs_sub ..⟩
theorem opsLoss0_fresh : (opsLoss0 : List (HloOp τ sig (Elt F))).Forall fun op => op.fresh = ∅ := by
  simp only [opsLoss0, List.Forall]; repeat' constructor
/-- What `opsLoss0` writes, in order. -/
abbrev opsLoss0_W : List (Ref sig .tc) := [main_cst_3, main_v28, main_cst_4, main_v29, main_v30, main_cst_5, main_v31, main_cst_6, main_v32, main_v33, main_v34, main_cst_7, main_v35, main_v36]
theorem opsLoss0_keep (V : Valuation τ sig (Elt F)) (r : Ref sig .tc) (h : r ∉ opsLoss0_W) :
    after opsLoss0 V (no_index (Proc.devRef .tc r)) = V (Proc.devRef .tc r) :=
  after_of_writes_sub opsLoss0 V (forall_writes_sub_of_map rfl) h

theorem opsPre_sub : (opsPre : List (HloOp τ sig (Elt F))).Forall fun op => op.bufs ⊆ tcRefs τ sig := by
  unfold opsPre
  exact ⟨unary_bufs_sub .., unary_bufs_sub .., unary_bufs_sub .., nullary_bufs_sub .., unary_bufs_sub .., binary_bufs_sub .., unary_bufs_sub .., binary_bufs_sub .., binary_bufs_sub .., binary_bufs_sub ..⟩
theorem opsPre_fresh : (opsPre : List (HloOp τ sig (Elt F))).Forall fun op => op.fresh = ∅ := by
  simp only [opsPre, List.Forall]; repeat' constructor
/-- What `opsPre` writes, in order. -/
abbrev opsPre_W : List (Ref sig .tc) := [main_v37, main_v38, main_v39, main_call2_call0_cst, main_call2_call0_v0, main_v40, main_v41, main_v42, main_v43, main_v44]
theorem opsPre_keep (V : Valuation τ sig (Elt F)) (r : Ref sig .tc) (h : r ∉ opsPre_W) :
    after opsPre V (no_index (Proc.devRef .tc r)) = V (Proc.devRef .tc r) :=
  after_of_writes_sub opsPre V (forall_writes_sub_of_map rfl) h

theorem opsMean1_sub : (opsMean1 : List (HloOp τ sig (Elt F))).Forall fun op => op.bufs ⊆ tcRefs τ sig := by
  unfold opsMean1
  exact ⟨nullary_bufs_sub .., binary_bufs_sub .., unary_bufs_sub .., nullary_bufs_sub .., unary_bufs_sub .., binary_bufs_sub ..⟩
theorem opsMean1_fresh : (opsMean1 : List (HloOp τ sig (Elt F))).Forall fun op => op.fresh = ∅ := by
  simp only [opsMean1, List.Forall]; repeat' constructor
/-- What `opsMean1` writes, in order. -/
abbrev opsMean1_W : List (Ref sig .tc) := [main_cst_8, main_v45, main_v46, main_cst_9, main_v47, main_v48]
theorem opsMean1_keep (V : Valuation τ sig (Elt F)) (r : Ref sig .tc) (h : r ∉ opsMean1_W) :
    after opsMean1 V (no_index (Proc.devRef .tc r)) = V (Proc.devRef .tc r) :=
  after_of_writes_sub opsMean1 V (forall_writes_sub_of_map rfl) h

theorem opsNorm1_sub : (opsNorm1 : List (HloOp τ sig (Elt F))).Forall fun op => op.bufs ⊆ tcRefs τ sig := by
  unfold opsNorm1
  exact ⟨unary_bufs_sub .., binary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
theorem opsNorm1_fresh : (opsNorm1 : List (HloOp τ sig (Elt F))).Forall fun op => op.fresh = ∅ := by
  simp only [opsNorm1, List.Forall]; repeat' constructor
/-- What `opsNorm1` writes, in order. -/
abbrev opsNorm1_W : List (Ref sig .tc) := [main_v49, main_v50, main_call3_v0, main_call3_cst, main_call3_v1, main_call3_v2, main_v51, main_cst_10, main_v52, main_v53, main_cst_11, main_v54, main_v55, main_v56, main_v57]
theorem opsNorm1_keep (V : Valuation τ sig (Elt F)) (r : Ref sig .tc) (h : r ∉ opsNorm1_W) :
    after opsNorm1 V (no_index (Proc.devRef .tc r)) = V (Proc.devRef .tc r) :=
  after_of_writes_sub opsNorm1 V (forall_writes_sub_of_map rfl) h

theorem opsLeaky1_sub : (opsLeaky1 : List (HloOp τ sig (Elt F))).Forall fun op => op.bufs ⊆ tcRefs τ sig := by
  unfold opsLeaky1
  exact ⟨nullary_bufs_sub .., nullary_bufs_sub .., unary_bufs_sub .., binary_bufs_sub .., unary_bufs_sub .., unary_bufs_sub .., binary_bufs_sub .., ternary_bufs_sub ..⟩
theorem opsLeaky1_fresh : (opsLeaky1 : List (HloOp τ sig (Elt F))).Forall fun op => op.fresh = ∅ := by
  simp only [opsLeaky1, List.Forall]; repeat' constructor
/-- What `opsLeaky1` writes, in order. -/
abbrev opsLeaky1_W : List (Ref sig .tc) := [main_cst_12, main_call4_cst, main_call4_v0, main_call4_v1, main_call4_v2, main_call4_v3, main_call4_v4, main_v58]
theorem opsLeaky1_keep (V : Valuation τ sig (Elt F)) (r : Ref sig .tc) (h : r ∉ opsLeaky1_W) :
    after opsLeaky1 V (no_index (Proc.devRef .tc r)) = V (Proc.devRef .tc r) :=
  after_of_writes_sub opsLeaky1 V (forall_writes_sub_of_map rfl) h

theorem opsPad_sub : (opsPad : List (HloOp τ sig (Elt F))).Forall fun op => op.bufs ⊆ tcRefs τ sig := by
  unfold opsPad
  exact ⟨nullary_bufs_sub .., unary_bufs_sub .., binary_bufs_sub .., reshape_bufs_sub .., reshape_bufs_sub ..⟩
theorem opsPad_fresh : (opsPad : List (HloOp τ sig (Elt F))).Forall fun op => op.fresh = ∅ := by
  simp only [opsPad, List.Forall]; repeat' constructor
/-- What `opsPad` writes, in order. -/
abbrev opsPad_W : List (Ref sig .tc) := [main_c, main_call5_v0, main_v59, main_v60, main_v61]
theorem opsPad_keep (V : Valuation τ sig (Elt F)) (r : Ref sig .tc) (h : r ∉ opsPad_W) :
    after opsPad V (no_index (Proc.devRef .tc r)) = V (Proc.devRef .tc r) :=
  after_of_writes_sub opsPad V (forall_writes_sub_of_map rfl) h

theorem opsConvA_sub : (opsConvA : List (HloOp τ sig (Elt F))).Forall fun op => op.bufs ⊆ tcRefs τ sig := by
  unfold opsConvA
  exact ⟨unary_bufs_sub .., unary_bufs_sub .., reshape_bufs_sub .., binary_bufs_sub .., unary_bufs_sub .., nullary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub ..⟩
theorem opsConvA_fresh : (opsConvA : List (HloOp τ sig (Elt F))).Forall fun op => op.fresh = ∅ := by
  simp only [opsConvA, List.Forall]; repeat' constructor
/-- What `opsConvA` writes, in order. -/
abbrev opsConvA_W : List (Ref sig .tc) := [main_v62, main_v63, main_v64, main_v65, main_v66, main_cst_13, main_v67, main_v68, main_v69, main_v70, main_v71, main_v72, main_v73, main_v74, main_v75, main_v76, main_v77, main_v78, main_v79, main_v80]
theorem opsConvA_keep (V : Valuation τ sig (Elt F)) (r : Ref sig .tc) (h : r ∉ opsConvA_W) :
    after opsConvA V (no_index (Proc.devRef .tc r)) = V (Proc.devRef .tc r) :=
  after_of_writes_sub opsConvA V (forall_writes_sub_of_map rfl) h

theorem opsConvB_sub : (opsConvB : List (HloOp τ sig (Elt F))).Forall fun op => op.bufs ⊆ tcRefs τ sig := by
  unfold opsConvB
  exact ⟨unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub ..⟩
theorem opsConvB_fresh : (opsConvB : List (HloOp τ sig (Elt F))).Forall fun op => op.fresh = ∅ := by
  simp only [opsConvB, List.Forall]; repeat' constructor
/-- What `opsConvB` writes, in order. -/
abbrev opsConvB_W : List (Ref sig .tc) := [main_v81, main_v82, main_v83, main_v84, main_v85, main_v86, main_v87, main_v88, main_v89, main_v90, main_v91, main_v92, main_v93, main_v94, main_v95, main_v96, main_v97, main_v98, main_v99, main_v100, main_v101, main_v102, main_v103]
theorem opsConvB_keep (V : Valuation τ sig (Elt F)) (r : Ref sig .tc) (h : r ∉ opsConvB_W) :
    after opsConvB V (no_index (Proc.devRef .tc r)) = V (Proc.devRef .tc r) :=
  after_of_writes_sub opsConvB V (forall_writes_sub_of_map rfl) h

theorem opsGlu_sub : (opsGlu : List (HloOp τ sig (Elt F))).Forall fun op => op.bufs ⊆ tcRefs τ sig := by
  unfold opsGlu
  exact ⟨binary_bufs_sub .., reshape_bufs_sub .., unary_bufs_sub .., unary_bufs_sub .., unary_bufs_sub .., binary_bufs_sub .., binary_bufs_sub ..⟩
theorem opsGlu_fresh : (opsGlu : List (HloOp τ sig (Elt F))).Forall fun op => op.fresh = ∅ := by
  simp only [opsGlu, List.Forall]; repeat' constructor
/-- What `opsGlu` writes, in order. -/
abbrev opsGlu_W : List (Ref sig .tc) := [main_v104, main_v105, main_v106, main_v107, main_v108, main_v109, main_v110]
theorem opsGlu_keep (V : Valuation τ sig (Elt F)) (r : Ref sig .tc) (h : r ∉ opsGlu_W) :
    after opsGlu V (no_index (Proc.devRef .tc r)) = V (Proc.devRef .tc r) :=
  after_of_writes_sub opsGlu V (forall_writes_sub_of_map rfl) h

theorem opsMean2_sub : (opsMean2 : List (HloOp τ sig (Elt F))).Forall fun op => op.bufs ⊆ tcRefs τ sig := by
  unfold opsMean2
  exact ⟨nullary_bufs_sub .., binary_bufs_sub .., unary_bufs_sub .., nullary_bufs_sub .., unary_bufs_sub .., binary_bufs_sub ..⟩
theorem opsMean2_fresh : (opsMean2 : List (HloOp τ sig (Elt F))).Forall fun op => op.fresh = ∅ := by
  simp only [opsMean2, List.Forall]; repeat' constructor
/-- What `opsMean2` writes, in order. -/
abbrev opsMean2_W : List (Ref sig .tc) := [main_cst_14, main_v111, main_v112, main_cst_15, main_v113, main_v114]
theorem opsMean2_keep (V : Valuation τ sig (Elt F)) (r : Ref sig .tc) (h : r ∉ opsMean2_W) :
    after opsMean2 V (no_index (Proc.devRef .tc r)) = V (Proc.devRef .tc r) :=
  after_of_writes_sub opsMean2 V (forall_writes_sub_of_map rfl) h

theorem opsNorm2_sub : (opsNorm2 : List (HloOp τ sig (Elt F))).Forall fun op => op.bufs ⊆ tcRefs τ sig := by
  unfold opsNorm2
  exact ⟨unary_bufs_sub .., binary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
theorem opsNorm2_fresh : (opsNorm2 : List (HloOp τ sig (Elt F))).Forall fun op => op.fresh = ∅ := by
  simp only [opsNorm2, List.Forall]; repeat' constructor
/-- What `opsNorm2` writes, in order. -/
abbrev opsNorm2_W : List (Ref sig .tc) := [main_v115, main_v116, main_call6_v0, main_call6_cst, main_call6_v1, main_call6_v2, main_v117, main_cst_16, main_v118, main_v119, main_cst_17, main_v120, main_v121, main_v122, main_v123]
theorem opsNorm2_keep (V : Valuation τ sig (Elt F)) (r : Ref sig .tc) (h : r ∉ opsNorm2_W) :
    after opsNorm2 V (no_index (Proc.devRef .tc r)) = V (Proc.devRef .tc r) :=
  after_of_writes_sub opsNorm2 V (forall_writes_sub_of_map rfl) h

theorem opsLeaky2_sub : (opsLeaky2 : List (HloOp τ sig (Elt F))).Forall fun op => op.bufs ⊆ tcRefs τ sig := by
  unfold opsLeaky2
  exact ⟨nullary_bufs_sub .., nullary_bufs_sub .., unary_bufs_sub .., binary_bufs_sub .., unary_bufs_sub .., unary_bufs_sub .., binary_bufs_sub .., ternary_bufs_sub ..⟩
theorem opsLeaky2_fresh : (opsLeaky2 : List (HloOp τ sig (Elt F))).Forall fun op => op.fresh = ∅ := by
  simp only [opsLeaky2, List.Forall]; repeat' constructor
/-- What `opsLeaky2` writes, in order. -/
abbrev opsLeaky2_W : List (Ref sig .tc) := [main_cst_18, main_call7_cst, main_call7_v0, main_call7_v1, main_call7_v2, main_call7_v3, main_call7_v4, main_v124]
theorem opsLeaky2_keep (V : Valuation τ sig (Elt F)) (r : Ref sig .tc) (h : r ∉ opsLeaky2_W) :
    after opsLeaky2 V (no_index (Proc.devRef .tc r)) = V (Proc.devRef .tc r) :=
  after_of_writes_sub opsLeaky2 V (forall_writes_sub_of_map rfl) h

theorem opsLogits1_sub : (opsLogits1 : List (HloOp τ sig (Elt F))).Forall fun op => op.bufs ⊆ tcRefs τ sig := by
  unfold opsLogits1
  exact ⟨reshape_bufs_sub .., binary_bufs_sub .., unary_bufs_sub ..⟩
theorem opsLogits1_fresh : (opsLogits1 : List (HloOp τ sig (Elt F))).Forall fun op => op.fresh = ∅ := by
  simp only [opsLogits1, List.Forall]; repeat' constructor
/-- What `opsLogits1` writes, in order. -/
abbrev opsLogits1_W : List (Ref sig .tc) := [main_v125, main_v126, main_v127]
theorem opsLogits1_keep (V : Valuation τ sig (Elt F)) (r : Ref sig .tc) (h : r ∉ opsLogits1_W) :
    after opsLogits1 V (no_index (Proc.devRef .tc r)) = V (Proc.devRef .tc r) :=
  after_of_writes_sub opsLogits1 V (forall_writes_sub_of_map rfl) h

theorem opsGates1_sub : (opsGates1 : List (HloOp τ sig (Elt F))).Forall fun op => op.bufs ⊆ tcRefs τ sig := by
  unfold opsGates1
  exact ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem opsGates1_fresh : (opsGates1 : List (HloOp τ sig (Elt F))).Forall fun op => op.fresh = ∅ := by
  simp only [opsGates1, List.Forall]; repeat' constructor
/-- What `opsGates1` writes, in order. -/
abbrev opsGates1_W : List (Ref sig .tc) := [main_cst_19, main_v128, main_cst_20, main_v129, main_v130, main_v131, main_v132, main_v133, main_v134, main_cst_21, main_v135, main_v136, main_v137, main_v138]
theorem opsGates1_keep (V : Valuation τ sig (Elt F)) (r : Ref sig .tc) (h : r ∉ opsGates1_W) :
    after opsGates1 V (no_index (Proc.devRef .tc r)) = V (Proc.devRef .tc r) :=
  after_of_writes_sub opsGates1 V (forall_writes_sub_of_map rfl) h

theorem opsOneHot1_sub : (opsOneHot1 : List (HloOp τ sig (Elt F))).Forall fun op => op.bufs ⊆ tcRefs τ sig := by
  unfold opsOneHot1
  exact ⟨nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub ..⟩
theorem opsOneHot1_fresh : (opsOneHot1 : List (HloOp τ sig (Elt F))).Forall fun op => op.fresh = ∅ := by
  simp only [opsOneHot1, List.Forall]; repeat' constructor
/-- What `opsOneHot1` writes, in order. -/
abbrev opsOneHot1_W : List (Ref sig .tc) := [main_call8_v0, main_call8_cst, main_call8_c, main_call8_v1_0, main_v139, main_call9_v0, main_call9_v1, main_call9_v2, main_call9_v3, main_call9_v4, main_v140]
theorem opsOneHot1_keep (V : Valuation τ sig (Elt F)) (r : Ref sig .tc) (h : r ∉ opsOneHot1_W) :
    after opsOneHot1 V (no_index (Proc.devRef .tc r)) = V (Proc.devRef .tc r) :=
  after_of_writes_sub opsOneHot1 V (forall_writes_sub_of_map rfl) h

theorem opsComb1_sub : (opsComb1 : List (HloOp τ sig (Elt F))).Forall fun op => op.bufs ⊆ tcRefs τ sig := by
  unfold opsComb1
  exact ⟨unary_bufs_sub .., binary_bufs_sub .., binary_bufs_sub .., unary_bufs_sub .., binary_bufs_sub .., unary_bufs_sub .., binary_bufs_sub .., binary_bufs_sub ..⟩
theorem opsComb1_fresh : (opsComb1 : List (HloOp τ sig (Elt F))).Forall fun op => op.fresh = ∅ := by
  simp only [opsComb1, List.Forall]; repeat' constructor
/-- What `opsComb1` writes, in order. -/
abbrev opsComb1_W : List (Ref sig .tc) := [main_v141, main_v142, main_v143, main_v144, main_v145, main_v146, main_v147, main_v148]
theorem opsComb1_keep (V : Valuation τ sig (Elt F)) (r : Ref sig .tc) (h : r ∉ opsComb1_W) :
    after opsComb1 V (no_index (Proc.devRef .tc r)) = V (Proc.devRef .tc r) :=
  after_of_writes_sub opsComb1 V (forall_writes_sub_of_map rfl) h

theorem opsLossA_sub : (opsLossA : List (HloOp τ sig (Elt F))).Forall fun op => op.bufs ⊆ tcRefs τ sig := by
  unfold opsLossA
  exact ⟨nullary_bufs_sub .., binary_bufs_sub .., nullary_bufs_sub .., unary_bufs_sub .., binary_bufs_sub .., nullary_bufs_sub .., binary_bufs_sub ..⟩
theorem opsLossA_fresh : (opsLossA : List (HloOp τ sig (Elt F))).Forall fun op => op.fresh = ∅ := by
  simp only [opsLossA, List.Forall]; repeat' constructor
/-- What `opsLossA` writes, in order. -/
abbrev opsLossA_W : List (Ref sig .tc) := [main_cst_22, main_v149, main_cst_23, main_v150, main_v151, main_cst_24, main_v152]
theorem opsLossA_keep (V : Valuation τ sig (Elt F)) (r : Ref sig .tc) (h : r ∉ opsLossA_W) :
    after opsLossA V (no_index (Proc.devRef .tc r)) = V (Proc.devRef .tc r) :=
  after_of_writes_sub opsLossA V (forall_writes_sub_of_map rfl) h

theorem opsLossB_sub : (opsLossB : List (HloOp τ sig (Elt F))).Forall fun op => op.bufs ⊆ tcRefs τ sig := by
  unfold opsLossB
  exact ⟨nullary_bufs_sub .., unary_bufs_sub .., binary_bufs_sub .., binary_bufs_sub .., nullary_bufs_sub .., binary_bufs_sub ..⟩
theorem opsLossB_fresh : (opsLossB : List (HloOp τ sig (Elt F))).Forall fun op => op.fresh = ∅ := by
  simp only [opsLossB, List.Forall]; repeat' constructor
/-- What `opsLossB` writes, in order. -/
abbrev opsLossB_W : List (Ref sig .tc) := [main_cst_25, main_v153, main_v154, main_v155, main_cst_26, main_v156]
theorem opsLossB_keep (V : Valuation τ sig (Elt F)) (r : Ref sig .tc) (h : r ∉ opsLossB_W) :
    after opsLossB V (no_index (Proc.devRef .tc r)) = V (Proc.devRef .tc r) :=
  after_of_writes_sub opsLossB V (forall_writes_sub_of_map rfl) h

theorem opsOut_sub : (opsOut : List (HloOp τ sig (Elt F))).Forall fun op => op.bufs ⊆ tcRefs τ sig := by
  unfold opsOut
  exact ⟨unary_bufs_sub .., nullary_bufs_sub .., unary_bufs_sub .., binary_bufs_sub ..⟩
theorem opsOut_fresh : (opsOut : List (HloOp τ sig (Elt F))).Forall fun op => op.fresh = ∅ := by
  simp only [opsOut, List.Forall]; repeat' constructor
/-- What `opsOut` writes, in order. -/
abbrev opsOut_W : List (Ref sig .tc) := [main_v157, main_cst_27, main_v158, main_v159]
theorem opsOut_keep (V : Valuation τ sig (Elt F)) (r : Ref sig .tc) (h : r ∉ opsOut_W) :
    after opsOut V (no_index (Proc.devRef .tc r)) = V (Proc.devRef .tc r) :=
  after_of_writes_sub opsOut V (forall_writes_sub_of_map rfl) h

/-- Every operation reads and writes the program's own buffers. -/
theorem ops_sub : (ops : List (HloOp τ sig (Elt F))).Forall fun op => op.bufs ⊆ tcRefs τ sig := by
  simp only [ops, ops0, ops1, ops2, ops3, List.forall_append]
  exact ⟨⟨opsDiv_sub, opsLogits0_sub, opsGates0_sub, opsOneHot0_sub, opsComb0_sub, opsLoss0_sub, opsPre_sub, opsMean1_sub⟩, ⟨opsNorm1_sub, opsLeaky1_sub, opsPad_sub, opsConvA_sub, opsConvB_sub⟩, ⟨opsGlu_sub, opsMean2_sub, opsNorm2_sub, opsLeaky2_sub, opsLogits1_sub, opsGates1_sub, opsOneHot1_sub, opsComb1_sub, opsLossA_sub⟩, ⟨opsLossB_sub, opsOut_sub⟩⟩
/-- No operation allocates. -/
theorem ops_fresh : ∀ op ∈ (ops : List (HloOp τ sig (Elt F))), op.fresh = ∅ := by
  rw [← List.forall_iff_forall_mem]
  simp only [ops, ops0, ops1, ops2, ops3, List.forall_append]
  exact ⟨⟨opsDiv_fresh, opsLogits0_fresh, opsGates0_fresh, opsOneHot0_fresh, opsComb0_fresh, opsLoss0_fresh, opsPre_fresh, opsMean1_fresh⟩, ⟨opsNorm1_fresh, opsLeaky1_fresh, opsPad_fresh, opsConvA_fresh, opsConvB_fresh⟩, ⟨opsGlu_fresh, opsMean2_fresh, opsNorm2_fresh, opsLeaky2_fresh, opsLogits1_fresh, opsGates1_fresh, opsOneHot1_fresh, opsComb1_fresh, opsLossA_fresh⟩, ⟨opsLossB_fresh, opsOut_fresh⟩⟩

/-- Every execution ends, each buffer holding what the operations in a row leave in it. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ fun _ => ops_fresh

/-- A buffer that no operation writes keeps its contents. -/
theorem ops_keep (V : Valuation τ sig (Elt F)) (r : Ref sig .tc)
    (h : r ∉ opsDiv_W ++ opsLogits0_W ++ opsGates0_W ++ opsOneHot0_W ++ opsComb0_W ++ opsLoss0_W ++ opsPre_W ++ opsMean1_W ++ opsNorm1_W ++ opsLeaky1_W ++ opsPad_W ++ opsConvA_W ++ opsConvB_W ++ opsGlu_W ++ opsMean2_W ++ opsNorm2_W ++ opsLeaky2_W ++ opsLogits1_W ++ opsGates1_W ++ opsOneHot1_W ++ opsComb1_W ++ opsLossA_W ++ opsLossB_W ++ opsOut_W) :
    after ops V (Proc.devRef .tc r) = V (Proc.devRef .tc r) := by
  simp only [List.mem_append, not_or] at h
  simp only [ops, ops0, ops1, ops2, ops3, after_append]
  rw [opsOut_keep _ _ (by simp only [h, not_false_eq_true]), opsLossB_keep _ _ (by simp only [h, not_false_eq_true]), opsLossA_keep _ _ (by simp only [h, not_false_eq_true]), opsComb1_keep _ _ (by simp only [h, not_false_eq_true]), opsOneHot1_keep _ _ (by simp only [h, not_false_eq_true]), opsGates1_keep _ _ (by simp only [h, not_false_eq_true]), opsLogits1_keep _ _ (by simp only [h, not_false_eq_true]), opsLeaky2_keep _ _ (by simp only [h, not_false_eq_true]), opsNorm2_keep _ _ (by simp only [h, not_false_eq_true]), opsMean2_keep _ _ (by simp only [h, not_false_eq_true]), opsGlu_keep _ _ (by simp only [h, not_false_eq_true]), opsConvB_keep _ _ (by simp only [h, not_false_eq_true]), opsConvA_keep _ _ (by simp only [h, not_false_eq_true]), opsPad_keep _ _ (by simp only [h, not_false_eq_true]), opsLeaky1_keep _ _ (by simp only [h, not_false_eq_true]), opsNorm1_keep _ _ (by simp only [h, not_false_eq_true]), opsMean1_keep _ _ (by simp only [h, not_false_eq_true]), opsPre_keep _ _ (by simp only [h, not_false_eq_true]), opsLoss0_keep _ _ (by simp only [h, not_false_eq_true]), opsComb0_keep _ _ (by simp only [h, not_false_eq_true]), opsOneHot0_keep _ _ (by simp only [h, not_false_eq_true]), opsGates0_keep _ _ (by simp only [h, not_false_eq_true]), opsLogits0_keep _ _ (by simp only [h, not_false_eq_true]), opsDiv_keep _ _ (by simp only [h, not_false_eq_true])]

/-- Every execution ends with the arguments unchanged and every counter zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run defs _ _).mono (fun r h => ⟨fun c => ⟨(h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide))⟩,
      sem_eq_zero_of_no_sems (by decide) r.2⟩) (run m ρ)

end Cert.ReferenceIdeal.Run
-- ==== Proof.ReferenceIdeal.Fns.lean ====
/-
The reference as plain functions of vectors: one definition per step of the computation, in the
order the reference makes them. Both expert mixtures share the routing steps.
-/
module

public import proofs.«01_k».proof.Proof.Gen.ReferenceIdeal

@[expose] public section
set_option maxRecDepth 8192

namespace Cert.ReferenceIdeal.Fns

open Cert.ReferenceIdeal Cert.ReferenceIdeal.Gen Idealize.ShloMosaic Idealize.ShloMosaic.TcCoe

variable {F : FTy → Type} [FloatOps F]

noncomputable section

/-- The counts `1, 2, …, 2048`. -/
def divR  : FVec F S1x1x2048 .f32 :=
  have v0 : FVec F S2048 .f32 := sitofp .f32 (iotaInDim S2048 32 0)
  have cst : FVec F S_ .f32 := constant S_ .f32 0x3F800000#32
  have v1 : FVec F S2048 .f32 := broadcastInDim S2048 ![] bcast_S_S2048 cst
  have v2 : FVec F S2048 .f32 := addf v0 v1
  have v3 : FVec F S1x1x2048 .f32 := shapeCast S1x1x2048 v2 shapeCasts_S2048_S1x1x2048
  v3

/-- Routing scores: every expert's gate row against every position. -/
def logitsR (g : FVec F S8x768x1 .f32) (x : FVec F S1x768x2048 .f32) : FVec F S1x8x2048 .f32 :=
  have v4 : FVec F S8x768 .f32 := shapeCast S8x768 g shapeCasts_S8x768x1_S8x768
  have v5 : FVec F S8x1x2048 .f32 := Host.dotGeneral dot_S8x768_S1x768x2048_S8x1x2048_1_1_0_02_n_n none v4 x
  have v6 : FVec F S1x8x2048 .f32 := transpose S1x8x2048 [1, 0, 2] v5 transposes_S8x1x2048_S1x8x2048_1_0_2
  v6

/-- The softmax of the scores over the experts. -/
def gatesR (l : FVec F S1x8x2048 .f32) : FVec F S1x8x2048 .f32 :=
  have cst_0 : FVec F S_ .f32 := constant S_ .f32 0xFF800000#32
  have v7 : FVec F S1x2048 .f32 := Host.reduce FloatOps.maximumf l cst_0 reducesTo_S1x8x2048_S1x2048_d1 h_S_
  have cst_1 : FVec F S_ .f32 := constant S_ .f32 0xFF800000#32
  have v8 : FVec F S1x2048 .f32 := broadcastInDim S1x2048 ![] bcast_S_S1x2048 cst_1
  have v9 : FVec F S1x2048 .f32 := maximumf v8 v7
  have v10 : FVec F S1x1x2048 .f32 := broadcastInDim S1x1x2048 ![0, 2] bcast_S1x2048_S1x1x2048_0_2 v9
  have v11 : FVec F S1x8x2048 .f32 := broadcastInDim S1x8x2048 ![0, 1, 2] bcast_S1x1x2048_S1x8x2048_0_1_2 v10
  have v12 : FVec F S1x8x2048 .f32 := subf l v11
  have v13 : FVec F S1x8x2048 .f32 := Host.exp v12
  have cst_2 : FVec F S_ .f32 := constant S_ .f32 0x00000000#32
  have v14 : FVec F S1x2048 .f32 := Host.reduceAdd v13 cst_2 reducesTo_S1x8x2048_S1x2048_d1 h_S_
  have v15 : FVec F S1x1x2048 .f32 := broadcastInDim S1x1x2048 ![0, 2] bcast_S1x2048_S1x1x2048_0_2 v14
  have v16 : FVec F S1x8x2048 .f32 := broadcastInDim S1x8x2048 ![0, 1, 2] bcast_S1x1x2048_S1x8x2048_0_1_2 v15
  have v17 : FVec F S1x8x2048 .f32 := Host.divf v13 v16
  v17

/-- The expert of the largest score at each position. -/
def choiceR (l : FVec F S1x8x2048 .f32) : IVec S1x2048 32 :=
  have call0_v0 : IVec S1x8x2048 32 := iotaInDim S1x8x2048 32 1
  have call0_cst : FVec F S_ .f32 := constant S_ .f32 0xFF800000#32
  have call0_c : IVec S_ 32 := constantI S_ 32 0#32
  have v18 : IVec S1x2048 32 := fun j => (Host.argReduce reducer_argmax_f32_i32 l call0_v0 call0_cst call0_c reducesTo_S1x8x2048_S1x2048_d1 h_S_ j).2
  v18

/-- The one-hot code of a choice of expert. -/
def hotR (a : IVec S1x2048 32) : FVec F S1x2048x8 .f32 :=
  have call1_v0 : IVec S1x2048x1 32 := broadcastInDim S1x2048x1 ![0, 1] bcast_S1x2048_S1x2048x1_0_1 a
  have call1_v1 : IVec S1x1x8 32 := iotaInDim S1x1x8 32 2
  have call1_v2 : IVec S1x2048x8 32 := broadcastInDim S1x2048x8 ![0, 1, 2] bcast_S1x2048x1_S1x2048x8_0_1_2 call1_v0
  have call1_v3 : IVec S1x2048x8 32 := broadcastInDim S1x2048x8 ![0, 1, 2] bcast_S1x1x8_S1x2048x8_0_1_2 call1_v1
  have call1_v4 : IVec S1x2048x8 1 := cmpi .eq call1_v2 call1_v3
  have v19 : FVec F S1x2048x8 .f32 := uitofp .f32 call1_v4
  v19

/-- The coefficient of each expert: the one-hot code times its straight-through form. -/
def coefR (o : FVec F S1x2048x8 .f32) (p : FVec F S1x8x2048 .f32) : FVec F S1x2048x8 .f32 :=
  have v20 : FVec F S1x8x2048 .f32 := transpose S1x8x2048 [0, 2, 1] o transposes_S1x2048x8_S1x8x2048_0_2_1
  have v21 : FVec F S1x8x2048 .f32 := subf v20 p
  have v22 : FVec F S1x8x2048 .f32 := addf v21 p
  have v25 : FVec F S1x2048x8 .f32 := transpose S1x2048x8 [0, 2, 1] v22 transposes_S1x8x2048_S1x2048x8_0_2_1
  have v26 : FVec F S1x2048x8 .f32 := mulf o v25
  v26

/-- The first mixture: the experts' products weighted by the coefficients. -/
def mix0R (k : FVec F S1x2048x8 .f32) (x : FVec F S1x768x2048 .f32) (w : FVec F S8x768x2304 .f32) : FVec F S1x2048x2304 .f32 :=
  have v23 : FVec F S1x2048x768 .f32 := transpose S1x2048x768 [0, 2, 1] x transposes_S1x768x2048_S1x2048x768_0_2_1
  have v24 : FVec F S1x2048x8x2304 .f32 := Host.dotGeneral dot_S1x2048x768_S8x768x2304_S1x2048x8x2304_2_1_01_02_n_n none v23 w
  have v27 : FVec F S1x2048x2304 .f32 := Host.dotGeneral dot_S1x2048x8_S1x2048x8x2304_S1x2048x2304_2_2_n_3_01_01 none k v24
  v27

/-- The mean gate of each expert. -/
def meanR (p : FVec F S1x8x2048 .f32) : FVec F S8 .f32 :=
  have cst_3 : FVec F S_ .f32 := constant S_ .f32 0x00000000#32
  have v28 : FVec F S8 .f32 := Host.reduceAdd p cst_3 reducesTo_S1x8x2048_S8_d0_2 h_S_
  have cst_4 : FVec F S_ .f32 := constant S_ .f32 0x45000000#32
  have v29 : FVec F S8 .f32 := broadcastInDim S8 ![] bcast_S_S8 cst_4
  have v30 : FVec F S8 .f32 := Host.divf v28 v29
  v30

/-- How many positions chose each expert. -/
def countR (o : FVec F S1x2048x8 .f32) : FVec F S8 .f32 :=
  have cst_5 : FVec F S_ .f32 := constant S_ .f32 0x00000000#32
  have v31 : FVec F S8 .f32 := Host.reduceAdd o cst_5 reducesTo_S1x2048x8_S8_d0_1 h_S_
  v31

/-- The balance loss from mean gates and counts. -/
def lossOfR (a : FVec F S8 .f32) (b : FVec F S8 .f32) : FVec F S_ .f32 :=
  have cst_6 : FVec F S_ .f32 := constant S_ .f32 0x45000000#32
  have v32 : FVec F S8 .f32 := broadcastInDim S8 ![] bcast_S_S8 cst_6
  have v33 : FVec F S8 .f32 := Host.divf b v32
  have v34 : FVec F S8 .f32 := mulf a v33
  have cst_7 : FVec F S_ .f32 := constant S_ .f32 0x00000000#32
  have v35 : FVec F S_ .f32 := Host.reduceAdd v34 cst_7 reducesTo_S8_S_d0 h_S_
  v35

/-- The first mixture laid out by channel. -/
def layR (y : FVec F S1x2048x2304 .f32) : FVec F S1x2304x2048 .f32 :=
  have v36 : FVec F S1x2304x2048 .f32 := transpose S1x2304x2048 [0, 2, 1] y transposes_S1x2048x2304_S1x2304x2048_0_2_1
  v36

/-- Running mean of the first third, times the second, plus the last. -/
def preR (h : FVec F S1x2304x2048 .f32) (d : FVec F S1x1x2048 .f32) : FVec F S1x768x2048 .f32 :=
  have v37 : FVec F S1x768x2048 .f32 := extractStridedSlice S1x768x2048 ![0, 0, 0] h slices_S1x2304x2048_S1x768x2048_0_0_0
  have v38 : FVec F S1x768x2048 .f32 := extractStridedSlice S1x768x2048 ![0, 768, 0] h slices_S1x2304x2048_S1x768x2048_0_768_0
  have v39 : FVec F S1x768x2048 .f32 := extractStridedSlice S1x768x2048 ![0, 1536, 0] h slices_S1x2304x2048_S1x768x2048_0_1536_0
  have call2_call0_cst : FVec F S_ .f32 := constant S_ .f32 0x00000000#32
  have call2_call0_v0 : FVec F S_ .f32 := broadcastInDim S_ ![] bcast_S_S_ call2_call0_cst
  have v40 : FVec F S1x768x2048 .f32 := Host.reduceWindowAdd ![1, 1, 2048] ![1, 1, 1] ![0, 0, 2047] ![0, 0, 0] v37 call2_call0_v0 reduceWindows_S1x768x2048_S1x768x2048_w1s1p0_0_w1s1p0_0_w2048s1p2047_0 h_S_
  have v41 : FVec F S1x768x2048 .f32 := broadcastInDim S1x768x2048 ![0, 1, 2] bcast_S1x1x2048_S1x768x2048_0_1_2 d
  have v42 : FVec F S1x768x2048 .f32 := Host.divf v40 v41
  have v43 : FVec F S1x768x2048 .f32 := mulf v42 v38
  have v44 : FVec F S1x768x2048 .f32 := addf v43 v39
  v44

/-- The mean over the channels. -/
def avgR (y : FVec F S1x768x2048 .f32) : FVec F S1x1x2048 .f32 :=
  have cst_8 : FVec F S_ .f32 := constant S_ .f32 0x00000000#32
  have v45 : FVec F S1x2048 .f32 := Host.reduceAdd y cst_8 reducesTo_S1x768x2048_S1x2048_d1 h_S_
  have v46 : FVec F S1x1x2048 .f32 := broadcastInDim S1x1x2048 ![0, 2] bcast_S1x2048_S1x1x2048_0_2 v45
  have cst_9 : FVec F S_ .f32 := constant S_ .f32 0x44400000#32
  have v47 : FVec F S1x1x2048 .f32 := broadcastInDim S1x1x2048 ![] bcast_S_S1x1x2048 cst_9
  have v48 : FVec F S1x1x2048 .f32 := Host.divf v46 v47
  v48

/-- Subtract the mean and divide by the scaled length plus `1e-5`. -/
def normR (y : FVec F S1x768x2048 .f32) (a : FVec F S1x1x2048 .f32) : FVec F S1x768x2048 .f32 :=
  have v49 : FVec F S1x768x2048 .f32 := broadcastInDim S1x768x2048 ![0, 1, 2] bcast_S1x1x2048_S1x768x2048_0_1_2 a
  have v50 : FVec F S1x768x2048 .f32 := subf y v49
  have call3_v0 : FVec F S1x768x2048 .f32 := mulf v50 v50
  have call3_cst : FVec F S_ .f32 := constant S_ .f32 0x00000000#32
  have call3_v1 : FVec F S1x2048 .f32 := Host.reduceAdd call3_v0 call3_cst reducesTo_S1x768x2048_S1x2048_d1 h_S_
  have call3_v2 : FVec F S1x1x2048 .f32 := broadcastInDim S1x1x2048 ![0, 2] bcast_S1x2048_S1x1x2048_0_2 call3_v1
  have v51 : FVec F S1x1x2048 .f32 := Host.sqrt call3_v2
  have cst_10 : FVec F S_ .f32 := constant S_ .f32 0x3D13CD3A#32
  have v52 : FVec F S1x1x2048 .f32 := broadcastInDim S1x1x2048 ![] bcast_S_S1x1x2048 cst_10
  have v53 : FVec F S1x1x2048 .f32 := mulf v51 v52
  have cst_11 : FVec F S_ .f32 := constant S_ .f32 0x3727C5AC#32
  have v54 : FVec F S1x1x2048 .f32 := broadcastInDim S1x1x2048 ![] bcast_S_S1x1x2048 cst_11
  have v55 : FVec F S1x1x2048 .f32 := addf v53 v54
  have v56 : FVec F S1x768x2048 .f32 := broadcastInDim S1x768x2048 ![0, 1, 2] bcast_S1x1x2048_S1x768x2048_0_1_2 v55
  have v57 : FVec F S1x768x2048 .f32 := Host.divf v50 v56
  v57

/-- The leaky rectifier of slope `0.02`. -/
def leakyR (y : FVec F S1x768x2048 .f32) : FVec F S1x768x2048 .f32 :=
  have cst_12 : FVec F S_ .f32 := constant S_ .f32 0x3CA3D70A#32
  have call4_cst : FVec F S_ .f32 := constant S_ .f32 0x00000000#32
  have call4_v0 : FVec F S1x768x2048 .f32 := broadcastInDim S1x768x2048 ![] bcast_S_S1x768x2048 call4_cst
  have call4_v1 : IVec S1x768x2048 1 := cmpf .oge y call4_v0
  have call4_v2 : FVec F S_ .f32 := cst_12
  have call4_v3 : FVec F S1x768x2048 .f32 := broadcastInDim S1x768x2048 ![] bcast_S_S1x768x2048 call4_v2
  have call4_v4 : FVec F S1x768x2048 .f32 := mulf call4_v3 y
  have v58 : FVec F S1x768x2048 .f32 := select call4_v1 y call4_v4
  v58

/-- Six zeros in front of every channel, channels split in four groups. -/
def padR (y : FVec F S1x768x2048 .f32) : FVec F S1x4x192x2054 .f32 :=
  have c : IVec S_ 32 := constantI S_ 32 0#32
  have call5_v0 : FVec F S_ .f32 := sitofp .f32 c
  have v59 : FVec F S1x768x2054 .f32 := pad S1x768x2054 ![0, 0, 6] ![0, 0, 0] ![0, 0, 0] y call5_v0 pads_S1x768x2048_S1x768x2054_000_000_600 h_S_
  have v60 : FVec F S1x4x192x2054 .f32 := shapeCast S1x4x192x2054 v59 shapeCasts_S1x768x2054_S1x4x192x2054
  v60

/-- The filters split in four groups. -/
def filtR (w : FVec F S2304x192x7 .f32) : FVec F S4x576x192x7 .f32 :=
  have v61 : FVec F S4x576x192x7 .f32 := shapeCast S4x576x192x7 w shapeCasts_S2304x192x7_S4x576x192x7
  v61

/-- The sum of the first three taps. -/
def convAR (y : FVec F S1x4x192x2054 .f32) (w : FVec F S4x576x192x7 .f32) : FVec F S1x4x576x2048 .f32 :=
  have v62 : FVec F S1x4x192x2048 .f32 := extractStridedSlice S1x4x192x2048 ![0, 0, 0, 0] y slices_S1x4x192x2054_S1x4x192x2048_0_0_0_0
  have v63 : FVec F S4x576x192x1 .f32 := extractStridedSlice S4x576x192x1 ![0, 0, 0, 0] w slices_S4x576x192x7_S4x576x192x1_0_0_0_0
  have v64 : FVec F S4x576x192 .f32 := shapeCast S4x576x192 v63 shapeCasts_S4x576x192x1_S4x576x192
  have v65 : FVec F S4x576x1x2048 .f32 := Host.dotGeneral dot_S4x576x192_S1x4x192x2048_S4x576x1x2048_2_2_1_03_0_1 none v64 v62
  have v66 : FVec F S1x4x576x2048 .f32 := transpose S1x4x576x2048 [2, 0, 1, 3] v65 transposes_S4x576x1x2048_S1x4x576x2048_2_0_1_3
  have cst_13 : FVec F S_ .f32 := constant S_ .f32 0x00000000#32
  have v67 : FVec F S1x4x576x2048 .f32 := broadcastInDim S1x4x576x2048 ![] bcast_S_S1x4x576x2048 cst_13
  have v68 : FVec F S1x4x576x2048 .f32 := addf v67 v66
  have v69 : FVec F S1x4x192x2048 .f32 := extractStridedSlice S1x4x192x2048 ![0, 0, 0, 1] y slices_S1x4x192x2054_S1x4x192x2048_0_0_0_1
  have v70 : FVec F S4x576x192x1 .f32 := extractStridedSlice S4x576x192x1 ![0, 0, 0, 1] w slices_S4x576x192x7_S4x576x192x1_0_0_0_1
  have v71 : FVec F S4x576x192 .f32 := shapeCast S4x576x192 v70 shapeCasts_S4x576x192x1_S4x576x192
  have v72 : FVec F S4x576x1x2048 .f32 := Host.dotGeneral dot_S4x576x192_S1x4x192x2048_S4x576x1x2048_2_2_1_03_0_1 none v71 v69
  have v73 : FVec F S1x4x576x2048 .f32 := transpose S1x4x576x2048 [2, 0, 1, 3] v72 transposes_S4x576x1x2048_S1x4x576x2048_2_0_1_3
  have v74 : FVec F S1x4x576x2048 .f32 := addf v68 v73
  have v75 : FVec F S1x4x192x2048 .f32 := extractStridedSlice S1x4x192x2048 ![0, 0, 0, 2] y slices_S1x4x192x2054_S1x4x192x2048_0_0_0_2
  have v76 : FVec F S4x576x192x1 .f32 := extractStridedSlice S4x576x192x1 ![0, 0, 0, 2] w slices_S4x576x192x7_S4x576x192x1_0_0_0_2
  have v77 : FVec F S4x576x192 .f32 := shapeCast S4x576x192 v76 shapeCasts_S4x576x192x1_S4x576x192
  have v78 : FVec F S4x576x1x2048 .f32 := Host.dotGeneral dot_S4x576x192_S1x4x192x2048_S4x576x1x2048_2_2_1_03_0_1 none v77 v75
  have v79 : FVec F S1x4x576x2048 .f32 := transpose S1x4x576x2048 [2, 0, 1, 3] v78 transposes_S4x576x1x2048_S1x4x576x2048_2_0_1_3
  have v80 : FVec F S1x4x576x2048 .f32 := addf v74 v79
  v80

/-- Three taps more. -/
def convBR (y : FVec F S1x4x192x2054 .f32) (w : FVec F S4x576x192x7 .f32) (a : FVec F S1x4x576x2048 .f32) : FVec F S1x4x576x2048 .f32 :=
  have v81 : FVec F S1x4x192x2048 .f32 := extractStridedSlice S1x4x192x2048 ![0, 0, 0, 3] y slices_S1x4x192x2054_S1x4x192x2048_0_0_0_3
  have v82 : FVec F S4x576x192x1 .f32 := extractStridedSlice S4x576x192x1 ![0, 0, 0, 3] w slices_S4x576x192x7_S4x576x192x1_0_0_0_3
  have v83 : FVec F S4x576x192 .f32 := shapeCast S4x576x192 v82 shapeCasts_S4x576x192x1_S4x576x192
  have v84 : FVec F S4x576x1x2048 .f32 := Host.dotGeneral dot_S4x576x192_S1x4x192x2048_S4x576x1x2048_2_2_1_03_0_1 none v83 v81
  have v85 : FVec F S1x4x576x2048 .f32 := transpose S1x4x576x2048 [2, 0, 1, 3] v84 transposes_S4x576x1x2048_S1x4x576x2048_2_0_1_3
  have v86 : FVec F S1x4x576x2048 .f32 := addf a v85
  have v87 : FVec F S1x4x192x2048 .f32 := extractStridedSlice S1x4x192x2048 ![0, 0, 0, 4] y slices_S1x4x192x2054_S1x4x192x2048_0_0_0_4
  have v88 : FVec F S4x576x192x1 .f32 := extractStridedSlice S4x576x192x1 ![0, 0, 0, 4] w slices_S4x576x192x7_S4x576x192x1_0_0_0_4
  have v89 : FVec F S4x576x192 .f32 := shapeCast S4x576x192 v88 shapeCasts_S4x576x192x1_S4x576x192
  have v90 : FVec F S4x576x1x2048 .f32 := Host.dotGeneral dot_S4x576x192_S1x4x192x2048_S4x576x1x2048_2_2_1_03_0_1 none v89 v87
  have v91 : FVec F S1x4x576x2048 .f32 := transpose S1x4x576x2048 [2, 0, 1, 3] v90 transposes_S4x576x1x2048_S1x4x576x2048_2_0_1_3
  have v92 : FVec F S1x4x576x2048 .f32 := addf v86 v91
  have v93 : FVec F S1x4x192x2048 .f32 := extractStridedSlice S1x4x192x2048 ![0, 0, 0, 5] y slices_S1x4x192x2054_S1x4x192x2048_0_0_0_5
  have v94 : FVec F S4x576x192x1 .f32 := extractStridedSlice S4x576x192x1 ![0, 0, 0, 5] w slices_S4x576x192x7_S4x576x192x1_0_0_0_5
  have v95 : FVec F S4x576x192 .f32 := shapeCast S4x576x192 v94 shapeCasts_S4x576x192x1_S4x576x192
  have v96 : FVec F S4x576x1x2048 .f32 := Host.dotGeneral dot_S4x576x192_S1x4x192x2048_S4x576x1x2048_2_2_1_03_0_1 none v95 v93
  have v97 : FVec F S1x4x576x2048 .f32 := transpose S1x4x576x2048 [2, 0, 1, 3] v96 transposes_S4x576x1x2048_S1x4x576x2048_2_0_1_3
  have v98 : FVec F S1x4x576x2048 .f32 := addf v92 v97
  v98

/-- The last tap. -/
def convCR (y : FVec F S1x4x192x2054 .f32) (w : FVec F S4x576x192x7 .f32) : FVec F S1x4x576x2048 .f32 :=
  have v99 : FVec F S1x4x192x2048 .f32 := extractStridedSlice S1x4x192x2048 ![0, 0, 0, 6] y slices_S1x4x192x2054_S1x4x192x2048_0_0_0_6
  have v100 : FVec F S4x576x192x1 .f32 := extractStridedSlice S4x576x192x1 ![0, 0, 0, 6] w slices_S4x576x192x7_S4x576x192x1_0_0_0_6
  have v101 : FVec F S4x576x192 .f32 := shapeCast S4x576x192 v100 shapeCasts_S4x576x192x1_S4x576x192
  have v102 : FVec F S4x576x1x2048 .f32 := Host.dotGeneral dot_S4x576x192_S1x4x192x2048_S4x576x1x2048_2_2_1_03_0_1 none v101 v99
  have v103 : FVec F S1x4x576x2048 .f32 := transpose S1x4x576x2048 [2, 0, 1, 3] v102 transposes_S4x576x1x2048_S1x4x576x2048_2_0_1_3
  v103

/-- The last tap added; then first third times second plus last. -/
def gluR (a : FVec F S1x4x576x2048 .f32) (b : FVec F S1x4x576x2048 .f32) : FVec F S1x768x2048 .f32 :=
  have v104 : FVec F S1x4x576x2048 .f32 := addf a b
  have v105 : FVec F S1x2304x2048 .f32 := shapeCast S1x2304x2048 v104 shapeCasts_S1x4x576x2048_S1x2304x2048
  have v106 : FVec F S1x768x2048 .f32 := extractStridedSlice S1x768x2048 ![0, 0, 0] v105 slices_S1x2304x2048_S1x768x2048_0_0_0
  have v107 : FVec F S1x768x2048 .f32 := extractStridedSlice S1x768x2048 ![0, 768, 0] v105 slices_S1x2304x2048_S1x768x2048_0_768_0
  have v108 : FVec F S1x768x2048 .f32 := extractStridedSlice S1x768x2048 ![0, 1536, 0] v105 slices_S1x2304x2048_S1x768x2048_0_1536_0
  have v109 : FVec F S1x768x2048 .f32 := mulf v106 v107
  have v110 : FVec F S1x768x2048 .f32 := addf v109 v108
  v110

/-- The second mixture. -/
def mix1R (k : FVec F S1x2048x8 .f32) (x : FVec F S1x768x2048 .f32) (w : FVec F S8x768x768 .f32) : FVec F S1x2048x768 .f32 :=
  have v144 : FVec F S1x2048x768 .f32 := transpose S1x2048x768 [0, 2, 1] x transposes_S1x768x2048_S1x2048x768_0_2_1
  have v145 : FVec F S1x2048x8x768 .f32 := Host.dotGeneral dot_S1x2048x768_S8x768x768_S1x2048x8x768_2_1_01_02_n_n none v144 w
  have v148 : FVec F S1x2048x768 .f32 := Host.dotGeneral dot_S1x2048x8_S1x2048x8x768_S1x2048x768_2_2_n_3_01_01 none k v145
  v148

/-- The second mixture laid out by channel, times one eighth. -/
def outR (y : FVec F S1x2048x768 .f32) : FVec F S1x768x2048 .f32 :=
  have v157 : FVec F S1x768x2048 .f32 := transpose S1x768x2048 [0, 2, 1] y transposes_S1x2048x768_S1x768x2048_0_2_1
  have cst_27 : FVec F S_ .f32 := constant S_ .f32 0x3E000000#32
  have v158 : FVec F S1x768x2048 .f32 := broadcastInDim S1x768x2048 ![] bcast_S_S1x768x2048 cst_27
  have v159 : FVec F S1x768x2048 .f32 := mulf v157 v158
  v159

end

end Cert.ReferenceIdeal.Fns
-- ==== Proof.ReferenceIdeal.Stages.lean ====
/-
What each stretch of the reference's operations leaves in the buffers read later, and the three
results as functions of the arguments.
-/
module

public import proofs.«01_k».proof.Proof.ReferenceIdeal.Ops
public import proofs.«01_k».proof.Proof.ReferenceIdeal.Fns

@[expose] public section

set_option maxRecDepth 16384

noncomputable section

namespace Cert.ReferenceIdeal.Run

open Cert.ReferenceIdeal Cert.ReferenceIdeal.Gen Cert.ReferenceIdeal.Fns
open Idealize.ShloMosaic Idealize.ShloMosaic.TcCoe Idealize.SL.Sem Idealize.ShloMosaic.StableHlo

variable {F : FTy → Type} [FloatOps F]

theorem opsDiv_v3 (V : Valuation τ sig (Elt F)) :
    after opsDiv V (no_index (Proc.devRef .tc main_v3)) = divR := by
  simp only [opsDiv, TRef.nullary, TRef.unary, TRef.binary, TRef.ternary, TRef.quaternary, TRef.toBuf, TRef.ofBuf, cast_eq]
  after_results_simp
  rfl
theorem opsLogits0_v6 (V : Valuation τ sig (Elt F)) :
    after opsLogits0 V (no_index (Proc.devRef .tc main_v6)) = logitsR (V (Proc.devRef .tc main_arg1)) (V (Proc.devRef .tc main_arg0)) := by
  simp only [opsLogits0, TRef.nullary, TRef.unary, TRef.binary, TRef.ternary, TRef.quaternary, TRef.toBuf, TRef.ofBuf, cast_eq]
  after_results_simp
  rfl
theorem opsGates0_v17 (V : Valuation τ sig (Elt F)) :
    after opsGates0 V (no_index (Proc.devRef .tc main_v17)) = gatesR (V (Proc.devRef .tc main_v6)) := by
  simp only [opsGates0, TRef.nullary, TRef.unary, TRef.binary, TRef.ternary, TRef.quaternary, TRef.toBuf, TRef.ofBuf, cast_eq]
  after_results_simp
  rfl
theorem opsOneHot0_v19 (V : Valuation τ sig (Elt F)) :
    after opsOneHot0 V (no_index (Proc.devRef .tc main_v19)) = hotR (choiceR (V (Proc.devRef .tc main_v6))) := by
  simp only [opsOneHot0, TRef.nullary, TRef.unary, TRef.binary, TRef.ternary, TRef.quaternary, TRef.toBuf, TRef.ofBuf, cast_eq]
  after_results_simp
  rfl
theorem opsComb0_v27 (V : Valuation τ sig (Elt F)) :
    after opsComb0 V (no_index (Proc.devRef .tc main_v27)) = mix0R (coefR (V (Proc.devRef .tc main_v19)) (V (Proc.devRef .tc main_v17))) (V (Proc.devRef .tc main_arg0)) (V (Proc.devRef .tc main_arg2)) := by
  simp only [opsComb0, TRef.nullary, TRef.unary, TRef.binary, TRef.ternary, TRef.quaternary, TRef.toBuf, TRef.ofBuf, cast_eq]
  after_results_simp
  rfl
theorem opsLoss0_v35 (V : Valuation τ sig (Elt F)) :
    after opsLoss0 V (no_index (Proc.devRef .tc main_v35)) = lossOfR (meanR (V (Proc.devRef .tc main_v17))) (countR (V (Proc.devRef .tc main_v19))) := by
  simp only [opsLoss0, TRef.nullary, TRef.unary, TRef.binary, TRef.ternary, TRef.quaternary, TRef.toBuf, TRef.ofBuf, cast_eq]
  after_results_simp
  rfl
theorem opsLoss0_v36 (V : Valuation τ sig (Elt F)) :
    after opsLoss0 V (no_index (Proc.devRef .tc main_v36)) = layR (V (Proc.devRef .tc main_v27)) := by
  simp only [opsLoss0, TRef.nullary, TRef.unary, TRef.binary, TRef.ternary, TRef.quaternary, TRef.toBuf, TRef.ofBuf, cast_eq]
  after_results_simp
  rfl
theorem opsPre_v44 (V : Valuation τ sig (Elt F)) :
    after opsPre V (no_index (Proc.devRef .tc main_v44)) = preR (V (Proc.devRef .tc main_v36)) (V (Proc.devRef .tc main_v3)) := by
  simp only [opsPre, TRef.nullary, TRef.unary, TRef.binary, TRef.ternary, TRef.quaternary, TRef.toBuf, TRef.ofBuf, cast_eq]
  after_results_simp
  rfl
theorem opsMean1_v48 (V : Valuation τ sig (Elt F)) :
    after opsMean1 V (no_index (Proc.devRef .tc main_v48)) = avgR (V (Proc.devRef .tc main_v44)) := by
  simp only [opsMean1, TRef.nullary, TRef.unary, TRef.binary, TRef.ternary, TRef.quaternary, TRef.toBuf, TRef.ofBuf, cast_eq]
  after_results_simp
  rfl
theorem opsNorm1_v57 (V : Valuation τ sig (Elt F)) :
    after opsNorm1 V (no_index (Proc.devRef .tc main_v57)) = normR (V (Proc.devRef .tc main_v44)) (V (Proc.devRef .tc main_v48)) := by
  simp only [opsNorm1, TRef.nullary, TRef.unary, TRef.binary, TRef.ternary, TRef.quaternary, TRef.toBuf, TRef.ofBuf, cast_eq]
  after_results_simp
  rfl
theorem opsLeaky1_v58 (V : Valuation τ sig (Elt F)) :
    after opsLeaky1 V (no_index (Proc.devRef .tc main_v58)) = leakyR (V (Proc.devRef .tc main_v57)) := by
  simp only [opsLeaky1, TRef.nullary, TRef.unary, TRef.binary, TRef.ternary, TRef.quaternary, TRef.toBuf, TRef.ofBuf, cast_eq]
  after_results_simp
  rfl
theorem opsPad_v60 (V : Valuation τ sig (Elt F)) :
    after opsPad V (no_index (Proc.devRef .tc main_v60)) = padR (V (Proc.devRef .tc main_v58)) := by
  simp only [opsPad, TRef.nullary, TRef.unary, TRef.binary, TRef.ternary, TRef.quaternary, TRef.toBuf, TRef.ofBuf, cast_eq]
  after_results_simp
  rfl
theorem opsPad_v61 (V : Valuation τ sig (Elt F)) :
    after opsPad V (no_index (Proc.devRef .tc main_v61)) = filtR (V (Proc.devRef .tc main_arg3)) := by
  simp only [opsPad, TRef.nullary, TRef.unary, TRef.binary, TRef.ternary, TRef.quaternary, TRef.toBuf, TRef.ofBuf, cast_eq]
  after_results_simp
  rfl
theorem opsConvA_v80 (V : Valuation τ sig (Elt F)) :
    after opsConvA V (no_index (Proc.devRef .tc main_v80)) = convAR (V (Proc.devRef .tc main_v60)) (V (Proc.devRef .tc main_v61)) := by
  simp only [opsConvA, TRef.nullary, TRef.unary, TRef.binary, TRef.ternary, TRef.quaternary, TRef.toBuf, TRef.ofBuf, cast_eq]
  after_results_simp
  rfl
theorem opsConvB_v98 (V : Valuation τ sig (Elt F)) :
    after opsConvB V (no_index (Proc.devRef .tc main_v98)) = convBR (V (Proc.devRef .tc main_v60)) (V (Proc.devRef .tc main_v61)) (V (Proc.devRef .tc main_v80)) := by
  simp only [opsConvB, TRef.nullary, TRef.unary, TRef.binary, TRef.ternary, TRef.quaternary, TRef.toBuf, TRef.ofBuf, cast_eq]
  after_results_simp
  rfl
theorem opsConvB_v103 (V : Valuation τ sig (Elt F)) :
    after opsConvB V (no_index (Proc.devRef .tc main_v103)) = convCR (V (Proc.devRef .tc main_v60)) (V (Proc.devRef .tc main_v61)) := by
  simp only [opsConvB, TRef.nullary, TRef.unary, TRef.binary, TRef.ternary, TRef.quaternary, TRef.toBuf, TRef.ofBuf, cast_eq]
  after_results_simp
  rfl
theorem opsGlu_v110 (V : Valuation τ sig (Elt F)) :
    after opsGlu V (no_index (Proc.devRef .tc main_v110)) = gluR (V (Proc.devRef .tc main_v98)) (V (Proc.devRef .tc main_v103)) := by
  simp only [opsGlu, TRef.nullary, TRef.unary, TRef.binary, TRef.ternary, TRef.quaternary, TRef.toBuf, TRef.ofBuf, cast_eq]
  after_results_simp
  rfl
theorem opsMean2_v114 (V : Valuation τ sig (Elt F)) :
    after opsMean2 V (no_index (Proc.devRef .tc main_v114)) = avgR (V (Proc.devRef .tc main_v110)) := by
  simp only [opsMean2, TRef.nullary, TRef.unary, TRef.binary, TRef.ternary, TRef.quaternary, TRef.toBuf, TRef.ofBuf, cast_eq]
  after_results_simp
  rfl
theorem opsNorm2_v123 (V : Valuation τ sig (Elt F)) :
    after opsNorm2 V (no_index (Proc.devRef .tc main_v123)) = normR (V (Proc.devRef .tc main_v110)) (V (Proc.devRef .tc main_v114)) := by
  simp only [opsNorm2, TRef.nullary, TRef.unary, TRef.binary, TRef.ternary, TRef.quaternary, TRef.toBuf, TRef.ofBuf, cast_eq]
  after_results_simp
  rfl
theorem opsLeaky2_v124 (V : Valuation τ sig (Elt F)) :
    after opsLeaky2 V (no_index (Proc.devRef .tc main_v124)) = leakyR (V (Proc.devRef .tc main_v123)) := by
  simp only [opsLeaky2, TRef.nullary, TRef.unary, TRef.binary, TRef.ternary, TRef.quaternary, TRef.toBuf, TRef.ofBuf, cast_eq]
  after_results_simp
  rfl
theorem opsLogits1_v127 (V : Valuation τ sig (Elt F)) :
    after opsLogits1 V (no_index (Proc.devRef .tc main_v127)) = logitsR (V (Proc.devRef .tc main_arg4)) (V (Proc.devRef .tc main_v124)) := by
  simp only [opsLogits1, TRef.nullary, TRef.unary, TRef.binary, TRef.ternary, TRef.quaternary, TRef.toBuf, TRef.ofBuf, cast_eq]
  after_results_simp
  rfl
theorem opsGates1_v138 (V : Valuation τ sig (Elt F)) :
    after opsGates1 V (no_index (Proc.devRef .tc main_v138)) = gatesR (V (Proc.devRef .tc main_v127)) := by
  simp only [opsGates1, TRef.nullary, TRef.unary, TRef.binary, TRef.ternary, TRef.quaternary, TRef.toBuf, TRef.ofBuf, cast_eq]
  after_results_simp
  rfl
theorem opsOneHot1_v140 (V : Valuation τ sig (Elt F)) :
    after opsOneHot1 V (no_index (Proc.devRef .tc main_v140)) = hotR (choiceR (V (Proc.devRef .tc main_v127))) := by
  simp only [opsOneHot1, TRef.nullary, TRef.unary, TRef.binary, TRef.ternary, TRef.quaternary, TRef.toBuf, TRef.ofBuf, cast_eq]
  after_results_simp
  rfl
theorem opsComb1_v148 (V : Valuation τ sig (Elt F)) :
    after opsComb1 V (no_index (Proc.devRef .tc main_v148)) = mix1R (coefR (V (Proc.devRef .tc main_v140)) (V (Proc.devRef .tc main_v138))) (V (Proc.devRef .tc main_v124)) (V (Proc.devRef .tc main_arg5)) := by
  simp only [opsComb1, TRef.nullary, TRef.unary, TRef.binary, TRef.ternary, TRef.quaternary, TRef.toBuf, TRef.ofBuf, cast_eq]
  after_results_simp
  rfl
theorem opsLossA_v151 (V : Valuation τ sig (Elt F)) :
    after opsLossA V (no_index (Proc.devRef .tc main_v151)) = meanR (V (Proc.devRef .tc main_v138)) := by
  simp only [opsLossA, TRef.nullary, TRef.unary, TRef.binary, TRef.ternary, TRef.quaternary, TRef.toBuf, TRef.ofBuf, cast_eq]
  after_results_simp
  rfl
theorem opsLossA_v152 (V : Valuation τ sig (Elt F)) :
    after opsLossA V (no_index (Proc.devRef .tc main_v152)) = countR (V (Proc.devRef .tc main_v140)) := by
  simp only [opsLossA, TRef.nullary, TRef.unary, TRef.binary, TRef.ternary, TRef.quaternary, TRef.toBuf, TRef.ofBuf, cast_eq]
  after_results_simp
  rfl
theorem opsLossB_v156 (V : Valuation τ sig (Elt F)) :
    after opsLossB V (no_index (Proc.devRef .tc main_v156)) = lossOfR (V (Proc.devRef .tc main_v151)) (V (Proc.devRef .tc main_v152)) := by
  simp only [opsLossB, TRef.nullary, TRef.unary, TRef.binary, TRef.ternary, TRef.quaternary, TRef.toBuf, TRef.ofBuf, cast_eq]
  after_results_simp
  rfl
theorem opsOut_v159 (V : Valuation τ sig (Elt F)) :
    after opsOut V (no_index (Proc.devRef .tc main_v159)) = outR (V (Proc.devRef .tc main_v148)) := by
  simp only [opsOut, TRef.nullary, TRef.unary, TRef.binary, TRef.ternary, TRef.quaternary, TRef.toBuf, TRef.ofBuf, cast_eq]
  after_results_simp
  rfl

/-- One routing's balance loss, from the scores. -/
def lossFn (l : FVec F S1x8x2048 .f32) : FVec F S_ .f32 :=
  lossOfR (meanR (gatesR l)) (countR (hotR (choiceR l)))
/-- The coefficients of one routing, from the scores. -/
def coefFn (l : FVec F S1x8x2048 .f32) : FVec F S1x2048x8 .f32 :=
  coefR (hotR (choiceR l)) (gatesR l)
/-- Normalise over the channels, then the leaky rectifier. -/
def actFn (y : FVec F S1x768x2048 .f32) : FVec F S1x768x2048 .f32 :=
  leakyR (normR y (avgR y))
/-- The first mixture of experts, by channel. -/
def hFn (x : FVec F S1x768x2048 .f32) (g : FVec F S8x768x1 .f32) (w : FVec F S8x768x2304 .f32) : FVec F S1x2304x2048 .f32 :=
  layR (mix0R (coefFn (logitsR g x)) x w)
/-- The convolution followed by the gated product. -/
def convFn (y : FVec F S1x768x2048 .f32) (w : FVec F S2304x192x7 .f32) : FVec F S1x768x2048 .f32 :=
  gluR (convBR (padR y) (filtR w) (convAR (padR y) (filtR w))) (convCR (padR y) (filtR w))
/-- The input of the second mixture, from the output of the first. -/
def midFn (h : FVec F S1x2304x2048 .f32) (w : FVec F S2304x192x7 .f32) : FVec F S1x768x2048 .f32 :=
  actFn (convFn (actFn (preR h divR)) w)
/-- The second mixture of experts, scaled. -/
def outFn (x : FVec F S1x768x2048 .f32) (g : FVec F S8x768x1 .f32) (w : FVec F S8x768x768 .f32) : FVec F S1x768x2048 .f32 :=
  outR (mix1R (coefFn (logitsR g x)) x w)

/-- The first result: the balance loss of the first routing. -/
theorem res_loss0 (V : Valuation τ sig (Elt F)) :
    after ops V (Proc.devRef .tc main_v35) = lossFn (logitsR (V (Proc.devRef .tc main_arg1)) (V (Proc.devRef .tc main_arg0))) := by
  simp only [ops, ops0, ops1, ops2, ops3, after_append]
  simp (disch := decide) only [opsDiv_v3, opsLogits0_v6, opsGates0_v17, opsOneHot0_v19, opsComb0_v27, opsLoss0_v35, opsLoss0_v36, opsPre_v44, opsMean1_v48, opsNorm1_v57, opsLeaky1_v58, opsPad_v60, opsPad_v61, opsConvA_v80, opsConvB_v98, opsConvB_v103, opsGlu_v110, opsMean2_v114, opsNorm2_v123, opsLeaky2_v124, opsLogits1_v127, opsGates1_v138, opsOneHot1_v140, opsComb1_v148, opsLossA_v151, opsLossA_v152, opsLossB_v156, opsOut_v159,
    opsDiv_keep, opsLogits0_keep, opsGates0_keep, opsOneHot0_keep, opsComb0_keep, opsLoss0_keep, opsPre_keep, opsMean1_keep, opsNorm1_keep, opsLeaky1_keep, opsPad_keep, opsConvA_keep, opsConvB_keep, opsGlu_keep, opsMean2_keep, opsNorm2_keep, opsLeaky2_keep, opsLogits1_keep, opsGates1_keep, opsOneHot1_keep, opsComb1_keep, opsLossA_keep, opsLossB_keep, opsOut_keep]
  simp only [hFn, midFn, outFn, convFn, actFn, coefFn, lossFn]

/-- The second result: the balance loss of the second routing. -/
theorem res_loss1 (V : Valuation τ sig (Elt F)) :
    after ops V (Proc.devRef .tc main_v156) = lossFn (logitsR (V (Proc.devRef .tc main_arg4)) (midFn (hFn (V (Proc.devRef .tc main_arg0)) (V (Proc.devRef .tc main_arg1)) (V (Proc.devRef .tc main_arg2))) (V (Proc.devRef .tc main_arg3)))) := by
  simp only [ops, ops0, ops1, ops2, ops3, after_append]
  simp (disch := decide) only [opsDiv_v3, opsLogits0_v6, opsGates0_v17, opsOneHot0_v19, opsComb0_v27, opsLoss0_v35, opsLoss0_v36, opsPre_v44, opsMean1_v48, opsNorm1_v57, opsLeaky1_v58, opsPad_v60, opsPad_v61, opsConvA_v80, opsConvB_v98, opsConvB_v103, opsGlu_v110, opsMean2_v114, opsNorm2_v123, opsLeaky2_v124, opsLogits1_v127, opsGates1_v138, opsOneHot1_v140, opsComb1_v148, opsLossA_v151, opsLossA_v152, opsLossB_v156, opsOut_v159,
    opsDiv_keep, opsLogits0_keep, opsGates0_keep, opsOneHot0_keep, opsComb0_keep, opsLoss0_keep, opsPre_keep, opsMean1_keep, opsNorm1_keep, opsLeaky1_keep, opsPad_keep, opsConvA_keep, opsConvB_keep, opsGlu_keep, opsMean2_keep, opsNorm2_keep, opsLeaky2_keep, opsLogits1_keep, opsGates1_keep, opsOneHot1_keep, opsComb1_keep, opsLossA_keep, opsLossB_keep, opsOut_keep]
  simp only [hFn, midFn, outFn, convFn, actFn, coefFn, lossFn]

/-- The third result: the scaled second mixture. -/
theorem res_out (V : Valuation τ sig (Elt F)) :
    after ops V (Proc.devRef .tc main_v159) = outFn (midFn (hFn (V (Proc.devRef .tc main_arg0)) (V (Proc.devRef .tc main_arg1)) (V (Proc.devRef .tc main_arg2))) (V (Proc.devRef .tc main_arg3))) (V (Proc.devRef .tc main_arg4)) (V (Proc.devRef .tc main_arg5)) := by
  simp only [ops, ops0, ops1, ops2, ops3, after_append]
  simp (disch := decide) only [opsDiv_v3, opsLogits0_v6, opsGates0_v17, opsOneHot0_v19, opsComb0_v27, opsLoss0_v35, opsLoss0_v36, opsPre_v44, opsMean1_v48, opsNorm1_v57, opsLeaky1_v58, opsPad_v60, opsPad_v61, opsConvA_v80, opsConvB_v98, opsConvB_v103, opsGlu_v110, opsMean2_v114, opsNorm2_v123, opsLeaky2_v124, opsLogits1_v127, opsGates1_v138, opsOneHot1_v140, opsComb1_v148, opsLossA_v151, opsLossA_v152, opsLossB_v156, opsOut_v159,
    opsDiv_keep, opsLogits0_keep, opsGates0_keep, opsOneHot0_keep, opsComb0_keep, opsLoss0_keep, opsPre_keep, opsMean1_keep, opsNorm1_keep, opsLeaky1_keep, opsPad_keep, opsConvA_keep, opsConvB_keep, opsGlu_keep, opsMean2_keep, opsNorm2_keep, opsLeaky2_keep, opsLogits1_keep, opsGates1_keep, opsOneHot1_keep, opsComb1_keep, opsLossA_keep, opsLossB_keep, opsOut_keep]
  simp only [hFn, midFn, outFn, convFn, actFn, coefFn, lossFn]

end Cert.ReferenceIdeal.Run
-- ==== Proof.Value.Choice.lean ====
/- The router's choice: the first of eight numbers that is largest, found by a running comparison (the kernel) and by a
   fold over pairs of a value and its position (the reference). -/
module

public import Idealize.ShloMosaic.Lib.Pointwise
public import proofs.«01_k».proof.Proof.ReferenceIdeal.Fns

@[expose] public section

noncomputable section

namespace Cert.Value

open Idealize.ShloMosaic

/-- `k` is the first position at which the eight numbers are largest. -/
def IsPick (r : Fin 8 → EReal) (k : Fin 8) : Prop := ∀ j, r j < r k ∨ (r j = r k ∧ k ≤ j)

/-- The first largest position is unique. -/
theorem IsPick.unique {r : Fin 8 → EReal} {k k' : Fin 8} (h : IsPick r k) (h' : IsPick r k') : k = k' := by
  rcases h k' with a | ⟨a, b⟩
  · rcases h' k with c | ⟨c, d⟩
    · exact absurd (a.trans c) (lt_irrefl _)
    · exact absurd a (by rw [c]; exact lt_irrefl _)
  · rcases h' k with c | ⟨c, d⟩
    · exact absurd c (by rw [a]; exact lt_irrefl _)
    · exact le_antisymm b d

/-- The number at the first largest position bounds the others. -/
theorem IsPick.le {r : Fin 8 → EReal} {k : Fin 8} (h : IsPick r k) (j : Fin 8) : r j ≤ r k := by
  rcases h j with a | ⟨a, _⟩
  · exact a.le
  · exact a.le

/-- A pair of a value and its position comes before another: its value is larger, or equal at a position not after. -/
def Beats (p q : EReal × BitVec 32) : Prop := q.1 < p.1 ∨ (q.1 = p.1 ∧ p.2.toInt ≤ q.2.toInt)

/-- Every candidate holds against itself. -/
theorem Beats.refl (p : EReal × BitVec 32) : Beats p p := .inr ⟨rfl, le_rfl⟩

/-- Holding against another candidate is transitive. -/
theorem Beats.trans {p q r : EReal × BitVec 32} (h : Beats p q) (h' : Beats q r) : Beats p r := by
  rcases h with a | ⟨a, b⟩ <;> rcases h' with c | ⟨c, d⟩
  · exact .inl (c.trans a)
  · exact .inl (c ▸ a)
  · exact .inl (a ▸ c)
  · exact .inr ⟨c.trans a, b.trans d⟩

/-- One step of the reference's fold keeps one of its two pairs, and the pair kept comes before both. -/
theorem red_spec (a b : EReal × BitVec 32) :
    (Cert.ReferenceIdeal.reducer_argmax_f32_i32 (F := Ideal) a b = a ∧ Beats a b) ∨
    (Cert.ReferenceIdeal.reducer_argmax_f32_i32 (F := Ideal) a b = b ∧ Beats b a) := by
  obtain ⟨a1, a2⟩ := a
  obtain ⟨b1, b2⟩ := b
  rcases lt_trichotomy a1 b1 with h | h | h
  · right
    refine ⟨?_, .inl h⟩
    simp [Cert.ReferenceIdeal.reducer_argmax_f32_i32, Ideal.cmpf_def, Ideal.cmp, Scalar.select, IntOp.ori, IntOp.andi, not_lt.2 h.le, h.ne]
  · subst h
    by_cases hl : a2.slt b2 = true
    · left
      refine ⟨?_, .inr ⟨rfl, ?_⟩⟩
      · simp [Cert.ReferenceIdeal.reducer_argmax_f32_i32, Ideal.cmpf_def, Ideal.cmp, Scalar.select, IntOp.ori, IntOp.andi, IntOp.cmpi, hl]
      · exact (BitVec.slt_iff_toInt_lt.1 hl).le
    · right
      refine ⟨?_, .inr ⟨rfl, ?_⟩⟩
      · simp [Cert.ReferenceIdeal.reducer_argmax_f32_i32, Ideal.cmpf_def, Ideal.cmp, Scalar.select, IntOp.ori, IntOp.andi, IntOp.cmpi, hl]
      · exact not_lt.1 fun h => hl (BitVec.slt_iff_toInt_lt.2 h)
  · left
    refine ⟨?_, .inl h⟩
    simp [Cert.ReferenceIdeal.reducer_argmax_f32_i32, Ideal.cmpf_def, Ideal.cmp, Scalar.select, IntOp.ori, IntOp.andi, IntOp.cmpi, h, h.ne']

/-- The reference's fold ends at one of its pairs, which comes before them all. -/
theorem fold_spec (L : List (EReal × BitVec 32)) (a : EReal × BitVec 32) :
    (L.foldl (Cert.ReferenceIdeal.reducer_argmax_f32_i32 (F := Ideal)) a = a ∨
      L.foldl (Cert.ReferenceIdeal.reducer_argmax_f32_i32 (F := Ideal)) a ∈ L) ∧
    Beats (L.foldl (Cert.ReferenceIdeal.reducer_argmax_f32_i32 (F := Ideal)) a) a ∧
    ∀ q ∈ L, Beats (L.foldl (Cert.ReferenceIdeal.reducer_argmax_f32_i32 (F := Ideal)) a) q := by
  induction L generalizing a with
  | nil => exact ⟨.inl rfl, .refl _, by simp⟩
  | cons b L ih =>
    rw [List.foldl_cons]
    obtain ⟨h1, h2, h3⟩ := ih (Cert.ReferenceIdeal.reducer_argmax_f32_i32 (F := Ideal) a b)
    rcases red_spec a b with ⟨e, h⟩ | ⟨e, h⟩ <;> rw [e] at h1 h2 h3 ⊢
    · refine ⟨h1.imp id (List.mem_cons_of_mem _), h2, fun q hq => ?_⟩
      rcases List.mem_cons.1 hq with rfl | hq
      · exact h2.trans h
      · exact h3 q hq
    · refine ⟨.inr (h1.elim (fun h => by rw [h]; exact List.mem_cons_self) (List.mem_cons_of_mem _)), h2.trans h, fun q hq => ?_⟩
      rcases List.mem_cons.1 hq with rfl | hq
      · exact h2
      · exact h3 q hq

/-- The pattern of minus infinity is the least extended real. -/
theorem ninf : Ideal.ofBits .f32 0xFF800000#32 = ⊥ := by simp [Ideal.ofBits, Ideal.ieee]

/-- An expert's number read as a signed word is itself. -/
theorem toInt_pos (k : Fin 8) : (BitVec.ofNat 32 k.val).toInt = (k.val : Int) := by
  revert k; decide

/-- The reference's choice at a token is the first expert whose logit is largest. -/
theorem choice_pick (l : FVec Ideal Cert.ReferenceIdeal.S1x8x2048 .f32) (p : Fin 2048) :
    ∃ k : Fin 8, IsPick (fun e => l (ix3 0 e p)) k ∧
      Cert.ReferenceIdeal.Fns.choiceR l (ix2 0 p) = BitVec.ofNat 32 k.val := by
  have key : Cert.ReferenceIdeal.Fns.choiceR l (ix2 0 p) = (Host.argReduce Cert.ReferenceIdeal.reducer_argmax_f32_i32 l
      (iotaInDim Cert.ReferenceIdeal.S1x8x2048 32 1) (constant Cert.ReferenceIdeal.S_ .f32 0xFF800000#32)
      (constantI Cert.ReferenceIdeal.S_ 32 0#32) Cert.ReferenceIdeal.Facts₀.reducesTo_S1x8x2048_S1x2048_d1
      Cert.ReferenceIdeal.Facts₀.h_S_ (ix2 0 p)).2 := rfl
  rw [key, Ideal.argReduce_eq_reduce2, Host.reduce2_eq_foldl_fiber]
  set L := Host.argReduceFiber l (iotaInDim Cert.ReferenceIdeal.S1x8x2048 32 1)
    Cert.ReferenceIdeal.Facts₀.reducesTo_S1x8x2048_S1x2048_d1 (ix2 0 p) with hL
  have hmem : ∀ q, q ∈ L ↔ ∃ k : Fin 8, q = (l (ix3 0 k p), BitVec.ofNat 32 k.val) := by
    intro q
    rw [hL, Host.argReduceFiber, List.mem_map]
    constructor
    · rintro ⟨n, hn, rfl⟩
      have hn' := of_decide_eq_true (List.mem_filter.1 hn).2
      obtain ⟨k, hk⟩ := (Shape.ReducesTo.fiber_r3_a1 _ _ _).1 hn'
      refine ⟨k, ?_⟩
      rw [← hk]
      rfl
    · rintro ⟨k, rfl⟩
      refine ⟨Cert.ReferenceIdeal.S1x8x2048.rowMajor (ix3 0 k p), List.mem_filter.2 ⟨List.mem_finRange _, ?_⟩, ?_⟩
      · rw [Equiv.symm_apply_apply]
        exact decide_eq_true ((Shape.ReducesTo.fiber_r3_a1 _ _ _).2 ⟨k, rfl⟩)
      · rw [Equiv.symm_apply_apply]; rfl
  have hinit : ((constant (F := Ideal) Cert.ReferenceIdeal.S_ .f32 0xFF800000#32) (Shape.Idx.first Cert.ReferenceIdeal.Facts₀.h_S_),
      (constantI Cert.ReferenceIdeal.S_ 32 0#32) (Shape.Idx.first Cert.ReferenceIdeal.Facts₀.h_S_)) = ((⊥ : EReal), 0#32) :=
    Prod.ext ninf rfl
  rw [hinit]
  obtain ⟨h1, h2, h3⟩ := fold_spec L ((⊥ : EReal), 0#32)
  set P := L.foldl (Cert.ReferenceIdeal.reducer_argmax_f32_i32 (F := Ideal)) ((⊥ : EReal), 0#32) with hP
  have hin : ∃ k : Fin 8, P = (l (ix3 0 k p), BitVec.ofNat 32 k.val) := by
    rcases h1 with h | h
    · refine ⟨0, ?_⟩
      rcases h3 _ ((hmem _).2 ⟨0, rfl⟩) with a | ⟨a, _⟩
      · rw [h] at a; exact absurd a not_lt_bot
      · rw [h] at a ⊢; exact Prod.ext a.symm rfl
    · exact (hmem _).1 h
  obtain ⟨k, hk⟩ := hin
  refine ⟨k, fun j => ?_, by rw [hk]⟩
  rcases h3 _ ((hmem _).2 ⟨j, rfl⟩) with a | ⟨a, b⟩
  · rw [hk] at a; exact .inl a
  · rw [hk] at a b
    refine .inr ⟨a, ?_⟩
    simp only [toInt_pos] at b
    exact_mod_cast b

/-- What a running comparison has kept after the first `n` numbers: the value and position of the first largest. -/
def Kept (r : Fin 8 → EReal) (n : Fin 8) (b : EReal) (i : BitVec 32) : Prop :=
  ∃ k : Fin 8, k ≤ n ∧ b = r k ∧ i = BitVec.ofNat 32 k.val ∧ ∀ j, j ≤ n → r j < r k ∨ (r j = r k ∧ k ≤ j)

/-- The running choice starts at the first expert. -/
theorem Kept.start (r : Fin 8 → EReal) : Kept r 0 (r 0) 0#32 :=
  ⟨0, le_rfl, rfl, rfl, fun j hj => .inr ⟨by rw [le_antisymm hj (Fin.zero_le j)], Fin.zero_le j⟩⟩

/-- Comparing with the next expert keeps the running choice the best so far. -/
theorem Kept.step {r : Fin 8 → EReal} {n : Fin 8} {b : EReal} {i : BitVec 32} (h : Kept r n b i) (m : Fin 8)
    (hm : m.val = n.val + 1) :
    Kept r m (if r m > b then r m else b) (if r m > b then BitVec.ofNat 32 m.val else i) := by
  obtain ⟨k, hk, rfl, rfl, hj⟩ := h
  have hcase : ∀ j, j ≤ m → j ≤ n ∨ j = m := fun j hj => by
    rcases Nat.lt_or_ge j.val m.val with h | h
    · exact .inl (Fin.le_def.2 (by omega))
    · exact .inr (Fin.ext (by have := Fin.le_def.1 hj; omega))
  by_cases hc : r m > r k
  · rw [if_pos hc, if_pos hc]
    refine ⟨m, le_rfl, rfl, rfl, fun j hjm => ?_⟩
    rcases hcase j hjm with h | rfl
    · rcases hj j h with a | ⟨a, _⟩
      · exact .inl (a.trans hc)
      · exact .inl (a ▸ hc)
    · exact .inr ⟨rfl, le_rfl⟩
  · rw [if_neg hc, if_neg hc]
    refine ⟨k, hk.trans (Fin.le_def.2 (by omega)), rfl, rfl, fun j hjm => ?_⟩
    rcases hcase j hjm with h | rfl
    · exact hj j h
    · rcases lt_or_eq_of_le (not_lt.1 hc) with a | a
      · exact .inl a
      · exact .inr ⟨a, hk.trans (Fin.le_def.2 (by omega))⟩

/-- After all eight experts the running choice is the first expert with the largest score. -/
theorem Kept.pick {r : Fin 8 → EReal} {b : EReal} {i : BitVec 32} (h : Kept r 7 b i) :
    ∃ k, IsPick r k ∧ b = r k ∧ i = BitVec.ofNat 32 k.val := by
  obtain ⟨k, _, hb, hi, hj⟩ := h
  exact ⟨k, fun j => hj j (Fin.le_def.2 (by have := j.isLt; show j.val ≤ 7; omega)), hb, hi⟩

/-- The largest of eight numbers, folded from minus infinity, is the number at the first largest position. -/
theorem fold_max_eq {r : Fin 8 → EReal} {k : Fin 8} (h : IsPick r k) :
    (Finset.univ : Finset (Fin 8)).fold max ⊥ r = r k := by
  apply le_antisymm
  · exact (Finset.fold_max_le _).2 ⟨bot_le, fun j _ => h.le j⟩
  · exact (Finset.le_fold_max _).2 (.inr ⟨k, Finset.mem_univ _, le_rfl⟩)

end Cert.Value
-- ==== Proof.Value.Route.lean ====
/- The router: scores, the one-hot choice, the mixing weights and the balance loss, kernel against reference. -/
module

public import proofs.«01_k».proof.Proof.Value.Choice
public import proofs.«01_k».proof.Proof.ReferenceIdeal.Stages
public import proofs.«01_k».proof.Proof.Gen.KernelIdeal.Skeleton

@[expose] public section

noncomputable section

namespace Cert.Value

open Idealize.ShloMosaic

set_option maxRecDepth 16384

/-- Two experts' numbers compare equal exactly when the experts are equal. -/
theorem cmp_pos (e k : Fin 8) : IntOp.cmpi CmpIPredicate.eq (BitVec.ofNat 32 e.val) (BitVec.ofNat 32 k.val) = if e = k then 1#1 else 0#1 := by
  revert e k; decide

/-- A position compared with the chosen one, as a number: one at the chosen expert, zero elsewhere. -/
theorem hot_s (e k : Fin 8) (a : BitVec 32) (h : a = BitVec.ofNat 32 k.val) :
    (FloatOps.sitofp (F := Ideal) FTy.f32 (BitVec.setWidth 32 (IntOp.cmpi CmpIPredicate.eq (BitVec.ofNat 32 e.val) a)) : EReal) =
      if e = k then 1 else 0 := by
  rw [h, cmp_pos]
  by_cases c : e = k
  · rw [if_pos c, if_pos c]
    show (((BitVec.setWidth 32 1#1).toInt : ℝ) : EReal) = 1
    simp
  · rw [if_neg c, if_neg c]
    show (((BitVec.setWidth 32 0#1).toInt : ℝ) : EReal) = 0
    simp

/-- The same comparison, read as an unsigned number. -/
theorem hot_u (e k : Fin 8) (a : BitVec 32) (h : a = BitVec.ofNat 32 k.val) :
    (FloatOps.uitofp (F := Ideal) FTy.f32 (IntOp.cmpi CmpIPredicate.eq a (BitVec.ofNat 32 e.val)) : EReal) =
      if e = k then 1 else 0 := by
  rw [h, cmp_pos]
  by_cases c : e = k
  · rw [if_pos c, if_pos c.symm]
    show (((1#1).toNat : ℝ) : EReal) = 1
    simp
  · rw [if_neg c, if_neg (Ne.symm c)]
    show (((0#1).toNat : ℝ) : EReal) = 0
    simp

open Cert.KernelIdeal.Gen in
/-- The first launch's running comparison ends at the first expert whose score is largest; its one-hot matrix marks that
    expert. -/
theorem pick0 (x : Vec Ideal Cert.KernelIdeal.S768x2048 .f32) (g : Vec Ideal Cert.KernelIdeal.S8x768 .f32) (p : Fin 2048) :
    ∃ k : Fin 8, IsPick (fun e => k0_pay6 x g (ix2 e p)) k ∧ k0_pay28 x g (ix2 0 p) = k0_pay6 x g (ix2 k p) ∧
      ∀ e : Fin 8, k0_pay29 x g (ix2 e p) = if e = k then 1 else 0 := by
  have h := ((((((((Kept.start (fun e => k0_pay6 x g (ix2 e p))).step 1 rfl).step 2 rfl).step 3 rfl).step 4 rfl).step 5
    rfl).step 6 rfl).step 7 rfl).pick
  obtain ⟨k, hk, hb, hi⟩ := h
  refine ⟨k, hk, ?_, fun e => ?_⟩
  · rw [← hb]
    pointwise [k0_pay28, k0_pay27, k0_pay26, k0_pay25, k0_pay24, k0_pay23, k0_pay22, k0_pay21, k0_pay20, k0_pay19,
      k0_pay18, k0_pay17, k0_pay16, k0_pay15, k0_pay14, k0_pay13, k0_pay12, k0_pay11, k0_pay10, k0_pay9, k0_pay8, k0_pay7]
  · pointwise [k0_pay29, k0_pay28, k0_pay27, k0_pay26, k0_pay25, k0_pay24, k0_pay23, k0_pay22, k0_pay21, k0_pay20, k0_pay19,
      k0_pay18, k0_pay17, k0_pay16, k0_pay15, k0_pay14, k0_pay13, k0_pay12, k0_pay11, k0_pay10, k0_pay9, k0_pay8, k0_pay7]
    simp only [gt_iff_lt] at hi
    exact hot_s e k _ hi

/-- The scores of the first router. -/
theorem logits0 (x : Vec Ideal Cert.KernelIdeal.S768x2048 .f32) (g : Vec Ideal Cert.KernelIdeal.S8x768 .f32)
    (x' : FVec Ideal Cert.ReferenceIdeal.S1x768x2048 .f32) (g' : FVec Ideal Cert.ReferenceIdeal.S8x768x1 .f32)
    (hx : ∀ k p, x (ix2 k p) = x' (ix3 0 k p)) (hg : ∀ e k, g (ix2 e k) = g' (ix3 e k 0)) (e : Fin 8) (p : Fin 2048) :
    Cert.KernelIdeal.Gen.k0_pay6 x g (ix2 e p) = Cert.ReferenceIdeal.Fns.logitsR g' x' (ix3 0 e p) := by
  pointwise [Cert.KernelIdeal.Gen.k0_pay6, Cert.ReferenceIdeal.Fns.logitsR]
  exact Finset.sum_congr rfl fun k _ => by rw [hx, hg]

/-- The reference's one-hot matrix at a token and an expert. -/
theorem hotR_at (a : IVec Cert.ReferenceIdeal.S1x2048 32) (p : Fin 2048) (e k : Fin 8) (h : a (ix2 0 p) = BitVec.ofNat 32 k.val) :
    Cert.ReferenceIdeal.Fns.hotR (F := Ideal) a (ix3 0 p e) = if e = k then 1 else 0 := by
  pointwise [Cert.ReferenceIdeal.Fns.hotR]
  exact hot_u e k _ h

/-- The reference's mixing weights are differences and sums of the choice and the softmax of the scores. -/
theorem gatesR_at (l : FVec Ideal Cert.ReferenceIdeal.S1x8x2048 .f32) (p : Fin 2048) (e k : Fin 8)
    (h : IsPick (fun e => l (ix3 0 e p)) k) :
    Cert.ReferenceIdeal.Fns.gatesR l (ix3 0 e p) = Ideal.div (Ideal.exp (l (ix3 0 e p) - l (ix3 0 k p)))
      (∑ c : Fin 8, Ideal.exp (l (ix3 0 c p) - l (ix3 0 k p))) := by
  pointwise [Cert.ReferenceIdeal.Fns.gatesR]
  rw [ninf, fold_max_eq h, max_eq_right bot_le]

/-- The reference's mixing weight of an expert. -/
theorem coefR_at (o : FVec Ideal Cert.ReferenceIdeal.S1x2048x8 .f32) (q : FVec Ideal Cert.ReferenceIdeal.S1x8x2048 .f32)
    (p : Fin 2048) (e : Fin 8) :
    Cert.ReferenceIdeal.Fns.coefR o q (ix3 0 p e) = o (ix3 0 p e) * (o (ix3 0 p e) - q (ix3 0 e p) + q (ix3 0 e p)) := by
  pointwise [Cert.ReferenceIdeal.Fns.coefR]

/-- The reference's loss as a sum over the experts. -/
theorem lossR_at (a b : FVec Ideal Cert.ReferenceIdeal.S8 .f32) (j) :
    Cert.ReferenceIdeal.Fns.lossOfR a b j = ∑ e : Fin 8, a (ix1 e) * Ideal.div (b (ix1 e)) (Ideal.ofBits .f32 0x45000000#32) := by
  pointwise [Cert.ReferenceIdeal.Fns.lossOfR]

/-- A sum over the tokens of one batch, for an expert: the tokens last. -/
theorem sum_last (h : Cert.ReferenceIdeal.S1x8x2048.ReducesTo [0, 2] Cert.ReferenceIdeal.S8)
    (q : Cert.ReferenceIdeal.S1x8x2048.Idx → EReal) (e : Fin 8) :
    Ideal.hostReduceAdd h q 0 (ix1 e) = ∑ p : Fin 2048, q (ix3 0 e p) := by
  rw [Ideal.hostReduceAdd, zero_add]
  refine Finset.sum_filter_eq_sum_of_fiber _ (fun p : Fin 2048 => (ix3 0 e p : Cert.ReferenceIdeal.S1x8x2048.Idx)) (fun _ _ e => congrFun e 2) (fun i => ?_) q
  constructor
  · intro c
    refine ⟨i 2, ?_⟩
    funext a; apply Fin.ext
    match a with
    | ⟨0, _⟩ => have := (i 0).isLt; show 0 = (i 0).val; exact (Nat.lt_one_iff.1 this).symm
    | ⟨1, _⟩ => exact (congrArg Fin.val (congrFun c 0)).symm
    | ⟨2, _⟩ => rfl
  · rintro ⟨k, rfl⟩
    funext b
    apply Fin.ext
    match b with
    | ⟨0, _⟩ => rfl

/-- A sum over the tokens of one batch, for an expert: the experts last. -/
theorem sum_mid (h : Cert.ReferenceIdeal.S1x2048x8.ReducesTo [0, 1] Cert.ReferenceIdeal.S8)
    (q : Cert.ReferenceIdeal.S1x2048x8.Idx → EReal) (e : Fin 8) :
    Ideal.hostReduceAdd h q 0 (ix1 e) = ∑ p : Fin 2048, q (ix3 0 p e) := by
  rw [Ideal.hostReduceAdd, zero_add]
  refine Finset.sum_filter_eq_sum_of_fiber _ (fun p : Fin 2048 => (ix3 0 p e : Cert.ReferenceIdeal.S1x2048x8.Idx)) (fun _ _ e => congrFun e 1) (fun i => ?_) q
  constructor
  · intro c
    refine ⟨i 1, ?_⟩
    funext a; apply Fin.ext
    match a with
    | ⟨0, _⟩ => have := (i 0).isLt; show 0 = (i 0).val; exact (Nat.lt_one_iff.1 this).symm
    | ⟨1, _⟩ => rfl
    | ⟨2, _⟩ => exact (congrArg Fin.val (congrFun c 0)).symm
  · rintro ⟨k, rfl⟩
    funext b
    apply Fin.ext
    match b with
    | ⟨0, _⟩ => rfl

/-- An expert's mean gate. -/
theorem meanR_at (q : FVec Ideal Cert.ReferenceIdeal.S1x8x2048 .f32) (e : Fin 8) :
    Cert.ReferenceIdeal.Fns.meanR q (ix1 e) = Ideal.div (∑ p : Fin 2048, q (ix3 0 e p)) (Ideal.ofBits .f32 0x45000000#32) := by
  pointwise [Cert.ReferenceIdeal.Fns.meanR]
  rw [sum_last]

/-- How many tokens chose an expert. -/
theorem countR_at (q : FVec Ideal Cert.ReferenceIdeal.S1x2048x8 .f32) (e : Fin 8) :
    Cert.ReferenceIdeal.Fns.countR q (ix1 e) = ∑ p : Fin 2048, q (ix3 0 p e) := by
  pointwise [Cert.ReferenceIdeal.Fns.countR]
  rw [sum_mid]

/-- The balance loss from the scores, each token's largest score and its one-hot choice. -/
def lossForm (l : Fin 8 → Fin 2048 → EReal) (b : Fin 2048 → EReal) (q : Fin 8 → Fin 2048 → EReal) : EReal :=
  ∑ e : Fin 8, Ideal.div (∑ p : Fin 2048, Ideal.div (Ideal.exp (l e p - b p)) (∑ c : Fin 8, Ideal.exp (l c p - b p)))
    (Ideal.ofBits .f32 0x45000000#32) * Ideal.div (∑ p : Fin 2048, q e p) (Ideal.ofBits .f32 0x45000000#32)

/-- The first call's loss. -/
theorem loss0_at (l q : FVec Ideal Cert.KernelIdeal.S8x2048 .f32) (b : FVec Ideal Cert.KernelIdeal.S1x2048 .f32) :
    Cert.KernelIdeal.Gen.k0_pay2 l b q (ix2 0 0) = lossForm (fun e p => l (ix2 e p)) (fun p => b (ix2 0 p)) fun e p => q (ix2 e p) := by
  pointwise [Cert.KernelIdeal.Gen.k0_pay2]
  rfl

/-- What a router's scores, largest scores and one-hot choice have to do with each other. -/
def Routed (l : Fin 8 → Fin 2048 → EReal) (b : Fin 2048 → EReal) (q : Fin 8 → Fin 2048 → EReal) : Prop :=
  ∀ p, ∃ k : Fin 8, IsPick (fun e => l e p) k ∧ b p = l k p ∧ ∀ e, q e p = if e = k then 1 else 0

/-- The reference's one-hot matrix marks the same expert. -/
theorem Routed.hot {l b q} (h : Routed l b q) (lr : FVec Ideal Cert.ReferenceIdeal.S1x8x2048 .f32)
    (hl : ∀ e p, lr (ix3 0 e p) = l e p) (p : Fin 2048) (e : Fin 8) :
    Cert.ReferenceIdeal.Fns.hotR (F := Ideal) (Cert.ReferenceIdeal.Fns.choiceR lr) (ix3 0 p e) = q e p := by
  obtain ⟨k, hk, _, hq⟩ := h p
  obtain ⟨k', hk', hc⟩ := choice_pick lr p
  rw [hotR_at _ p e k' hc, hq]
  have : k' = k := IsPick.unique (r := fun e => l e p) (by simpa only [hl] using hk') hk
  rw [this]

/-- The reference's loss is the same form of the same scores. -/
theorem Routed.loss {l b q} (h : Routed l b q) (lr : FVec Ideal Cert.ReferenceIdeal.S1x8x2048 .f32)
    (hl : ∀ e p, lr (ix3 0 e p) = l e p) (j) : Cert.ReferenceIdeal.Run.lossFn (F := Ideal) lr j = lossForm l b q := by
  rw [Cert.ReferenceIdeal.Run.lossFn, lossR_at, lossForm]
  refine Finset.sum_congr rfl fun e _ => ?_
  rw [meanR_at, countR_at]
  refine congrArg₂ (· * ·) (congrArg₂ Ideal.div ?_ rfl) (congrArg₂ Ideal.div ?_ rfl)
  · refine Finset.sum_congr rfl fun p _ => ?_
    obtain ⟨k, hk, hb, _⟩ := h p
    rw [gatesR_at lr p e k (by simpa only [hl] using hk), hb]
    simp only [hl]
  · exact Finset.sum_congr rfl fun p _ => h.hot lr hl p e

/-- An extended real that is neither infinity. -/
def Fint (x : EReal) : Prop := ∃ r : ℝ, x = r

/-- A real number is finite. -/
theorem Fint.coe (r : ℝ) : Fint (r : EReal) := ⟨r, rfl⟩
/-- Zero is finite. -/
theorem Fint.zero : Fint 0 := ⟨0, rfl⟩
/-- A sum of two finite numbers is finite. -/
theorem Fint.add {x y} (hx : Fint x) (hy : Fint y) : Fint (x + y) := by
  obtain ⟨a, rfl⟩ := hx; obtain ⟨b, rfl⟩ := hy; exact ⟨a + b, rfl⟩
/-- A difference of finite numbers is finite. -/
theorem Fint.sub {x y} (hx : Fint x) (hy : Fint y) : Fint (x - y) := by
  obtain ⟨a, rfl⟩ := hx; obtain ⟨b, rfl⟩ := hy; exact ⟨a - b, rfl⟩
/-- A product of finite numbers is finite. -/
theorem Fint.mul {x y} (hx : Fint x) (hy : Fint y) : Fint (x * y) := by
  obtain ⟨a, rfl⟩ := hx; obtain ⟨b, rfl⟩ := hy; exact ⟨a * b, rfl⟩
/-- A sum of finite numbers is finite. -/
theorem Fint.sum {ι} (s : Finset ι) {f : ι → EReal} (h : ∀ i ∈ s, Fint (f i)) : Fint (∑ i ∈ s, f i) := by
  classical
  induction s using Finset.induction_on with
  | empty => simpa using Fint.zero
  | insert a s ha ih =>
    rw [Finset.sum_insert ha]
    exact (h a (Finset.mem_insert_self _ _)).add (ih fun i hi => h i (Finset.mem_insert_of_mem hi))

/-- A quotient of finite numbers is finite when the divisor is not zero. -/
theorem Fint.div {x y} (hx : Fint x) (hy : Fint y) (h0 : y ≠ 0) : Fint (Ideal.div x y) := by
  obtain ⟨a, rfl⟩ := hx; obtain ⟨b, rfl⟩ := hy
  rw [Ideal.div, if_neg h0]
  exact ⟨a * b⁻¹, by rw [EReal.coe_mul, EReal.coe_inv]⟩

/-- The exponential of a finite number is a positive real number. -/
theorem Fint.exp {x} (hx : Fint x) : ∃ r : ℝ, 0 < r ∧ Ideal.exp x = r := by
  obtain ⟨a, rfl⟩ := hx; exact ⟨Real.exp a, Real.exp_pos a, rfl⟩

/-- A finite difference put back is no change. -/
theorem Fint.sub_add {x y} (hx : Fint x) (hy : Fint y) : x - y + y = x := by
  obtain ⟨a, rfl⟩ := hx; obtain ⟨b, rfl⟩ := hy
  rw [← EReal.coe_sub, ← EReal.coe_add, sub_add_cancel]

/-- The softmax of finite scores is finite. -/
theorem softmax_fint {l : Fin 8 → EReal} (h : ∀ e, Fint (l e)) (e k : Fin 8) :
    Fint (Ideal.div (Ideal.exp (l e - l k)) (∑ c : Fin 8, Ideal.exp (l c - l k))) := by
  choose r hr he using fun c => ((h c).sub (h k)).exp
  simp only [he]
  refine (Fint.coe _).div (Fint.sum _ fun _ _ => Fint.coe _) ?_
  have : (∑ c : Fin 8, (r c : EReal)) = ((∑ c : Fin 8, r c : ℝ) : EReal) := by
    simp [Fin.sum_univ_succ]
  rw [this]
  exact_mod_cast (Finset.sum_pos (fun c _ => hr c) Finset.univ_nonempty).ne'

/-- With finite scores the reference's mixing weight of an expert is its choice, one or zero. -/
theorem Routed.coef {l b q} (h : Routed l b q) (lr : FVec Ideal Cert.ReferenceIdeal.S1x8x2048 .f32)
    (hl : ∀ e p, lr (ix3 0 e p) = l e p) (hf : ∀ e p, Fint (l e p)) (p : Fin 2048) (e : Fin 8) :
    Cert.ReferenceIdeal.Run.coefFn (F := Ideal) lr (ix3 0 p e) = q e p := by
  rw [Cert.ReferenceIdeal.Run.coefFn, coefR_at, h.hot lr hl]
  obtain ⟨k, hk, _, hq⟩ := h p
  rw [gatesR_at lr p e k (by simpa only [hl] using hk)]
  simp only [hl]
  have hfq : Fint (q e p) := by
    rw [hq]; split
    · exact ⟨1, rfl⟩
    · exact ⟨0, rfl⟩
  rw [hfq.sub_add (softmax_fint (l := fun e => l e p) (fun e => hf e p) e k), hq]
  split <;> simp

/-- The first launch's router. -/
theorem routed0 (x : Vec Ideal Cert.KernelIdeal.S768x2048 .f32) (g : Vec Ideal Cert.KernelIdeal.S8x768 .f32) :
    Routed (fun e p => Cert.KernelIdeal.Gen.k0_pay6 x g (ix2 e p)) (fun p => Cert.KernelIdeal.Gen.k0_pay28 x g (ix2 0 p))
      fun e p => Cert.KernelIdeal.Gen.k0_pay29 x g (ix2 e p) := fun p => pick0 x g p

open Cert.KernelIdeal.Gen in
/-- The last launch's running comparison and one-hot matrix, over its scores. -/
theorem routed3 (l : FVec Ideal Cert.KernelIdeal.S8x2048 .f32) (r : FVec Ideal Cert.KernelIdeal.S1x2048 .f32)
    (z : IVec Cert.KernelIdeal.S1x2048 32) (hr : ∀ p, r (ix2 0 p) = l (ix2 0 p)) (hz : ∀ p, z (ix2 0 p) = 0#32) :
    ∃ b : Fin 2048 → EReal, Routed (fun e p => l (ix2 e p)) b (fun e p => k3_pay28 l r z (ix2 e p)) ∧
      ∀ e p, k3_pay30 l r (ix2 e p) = Ideal.exp (l (ix2 e p) - b p) := by
  have h := fun p => ((((((((Kept.start (fun e => l (ix2 e p))).step 1 rfl).step 2 rfl).step 3 rfl).step 4 rfl).step 5
    rfl).step 6 rfl).step 7 rfl).pick
  choose k hk hb hi using h
  refine ⟨fun p => l (ix2 (k p) p), fun p => ⟨k p, hk p, rfl, fun e => ?_⟩, fun e p => ?_⟩
  · have hi := hi p
    pointwise [k3_pay28, k3_pay27, k3_pay26, k3_pay25, k3_pay24, k3_pay23, k3_pay22, k3_pay21, k3_pay20, k3_pay19,
      k3_pay18, k3_pay17, k3_pay16, k3_pay15, k3_pay14, k3_pay13, k3_pay12, k3_pay11, k3_pay10, k3_pay9, k3_pay8]
    rw [hr, hz]
    exact hot_s e (k p) _ hi
  · have hb := hb p
    pointwise [k3_pay30, k3_pay27, k3_pay26, k3_pay25, k3_pay24, k3_pay23, k3_pay22, k3_pay21, k3_pay20, k3_pay19,
      k3_pay18, k3_pay17, k3_pay16, k3_pay15, k3_pay14, k3_pay13, k3_pay12, k3_pay11, k3_pay10, k3_pay9, k3_pay8]
    rw [hr]
    exact congrArg (fun b => Ideal.exp (l (ix2 e p) - b)) hb

/-- The scores of the second router. -/
theorem score3 (x : Vec Ideal Cert.KernelIdeal.S768x2048 .f32) (g : Vec Ideal Cert.KernelIdeal.S8x768 .f32)
    (x' : FVec Ideal Cert.ReferenceIdeal.S1x768x2048 .f32) (g' : FVec Ideal Cert.ReferenceIdeal.S8x768x1 .f32)
    (hx : ∀ k p, x (ix2 k p) = x' (ix3 0 k p)) (hg : ∀ e k, g (ix2 e k) = g' (ix3 e k 0)) (e : Fin 8) (p : Fin 2048) :
    Cert.KernelIdeal.Gen.k3_pay5 x g (ix2 e p) = Cert.ReferenceIdeal.Fns.logitsR g' x' (ix3 0 e p) := by
  pointwise [Cert.KernelIdeal.Gen.k3_pay5, Cert.ReferenceIdeal.Fns.logitsR]
  exact Finset.sum_congr rfl fun k _ => by rw [hx, hg]

/-- The last call's loss. -/
theorem loss3_at (q m : FVec Ideal Cert.KernelIdeal.S8x2048 .f32) (s : FVec Ideal Cert.KernelIdeal.S8x2048 .f32)
    (l : Fin 8 → Fin 2048 → EReal) (b : Fin 2048 → EReal) (hm : ∀ e p, m (ix2 e p) = Ideal.exp (l e p - b p))
    (hs : ∀ e p, s (ix2 e p) = ∑ c : Fin 8, m (ix2 c p)) :
    Cert.KernelIdeal.Gen.k3_pay1 q m s (ix2 0 0) = lossForm l b fun e p => q (ix2 e p) := by
  pointwise [Cert.KernelIdeal.Gen.k3_pay1]
  simp only [hs, hm]
  rfl

/-- The last call's sum of exponentials. -/
theorem sum3_at (l : FVec Ideal Cert.KernelIdeal.S8x2048 .f32) (r : FVec Ideal Cert.KernelIdeal.S1x2048 .f32) (e : Fin 8) (p : Fin 2048) :
    Cert.KernelIdeal.Gen.k3_pay31 l r (ix2 e p) = ∑ c : Fin 8, Cert.KernelIdeal.Gen.k3_pay30 l r (ix2 c p) := by
  pointwise [Cert.KernelIdeal.Gen.k3_pay31]

/-- The last call's running best starts at the first expert's score. -/
theorem first3 (x : Vec Ideal Cert.KernelIdeal.S768x2048 .f32) (g : Vec Ideal Cert.KernelIdeal.S8x768 .f32) (p : Fin 2048) :
    Cert.KernelIdeal.Gen.k3_pay6 x g (ix2 0 p) = Cert.KernelIdeal.Gen.k3_pay5 x g (ix2 0 p) := by
  pointwise [Cert.KernelIdeal.Gen.k3_pay6]

/-- The last call's running index starts at zero. -/
theorem zero3 (p : Fin 2048) : Cert.KernelIdeal.Gen.k3_pay7 (ix2 0 p) = 0#32 := by
  pointwise [Cert.KernelIdeal.Gen.k3_pay7]

end Cert.Value
-- ==== Proof.Value.Pre.lean ====
/- The precondition: what it says of the arguments, element by element. -/
module

public import proofs.«01_k».proof.Pre_finite
public import proofs.«01_k».proof.Proof.Value.Route
public import Idealize.ShloMosaic.Lib.ReduceAll

@[expose] public section

noncomputable section

namespace Cert.Value

open Idealize.ShloMosaic

set_option maxRecDepth 16384

/-- The side conditions of the precondition's operations. -/
instance preFacts : Cert.Pre_finite.Facts where
  bcast_S_S1x768x2048 := by decide
  reducesTo_S1x768x2048_S_d0_1_2 := by decide
  h_S_ := by decide
  bcast_S_S8x768x1 := by decide
  reducesTo_S8x768x1_S_d0_1_2 := by decide
  bcast_S_S8x768x2304 := by decide
  reducesTo_S8x768x2304_S_d0_1_2 := by decide
  bcast_S_S2304x192x7 := by decide
  reducesTo_S2304x192x7_S_d0_1_2 := by decide

/-- The bound the precondition compares with is infinity. -/
theorem pinf : Ideal.ofBits .f32 0x7F800000#32 = ⊤ := by
  simp [Ideal.ofBits, Ideal.ieee]

/-- A value whose size is below infinity is a real number. -/
theorem Fint.of_abs {x : EReal} (h : max x (-x) < ⊤) : Fint x := by
  induction x with
  | bot => simp at h
  | top => simp at h
  | coe r => exact ⟨r, rfl⟩

/-- An element whose size compared below infinity is a real number. -/
theorem fint_of_lt {s : Shape} (x : FVec Ideal s .f32) (z : FVec Ideal Cert.Pre_finite.S_ .f32) (hz : ∀ j, z j = ⊤)
    (hb : Cert.Pre_finite.S_.BroadcastsInDim s (![] : Fin 0 → Fin s.rank)) (i : s.Idx)
    (h : cmpf .olt (Host.absf x) (broadcastInDim s ![] hb z) i = 1#1) : Fint (x i) := by
  refine Fint.of_abs ?_
  pointwise at h
  rw [hz] at h
  by_contra hn
  have hd : decide (FloatOps.absf (x i) < (⊤ : EReal)) = false := decide_eq_false hn
  rw [hd] at h
  exact absurd h (by decide)

instance : Subsingleton Cert.Pre_finite.S_.Idx := ⟨fun a b => funext fun i => i.elim0⟩

/-- Under the precondition every element of the first five arguments is a real number. -/
theorem fint_args (a0 : FVec Ideal Cert.Pre_finite.S1x768x2048 .f32) (a1 : FVec Ideal Cert.Pre_finite.S8x768x1 .f32)
    (a2 : FVec Ideal Cert.Pre_finite.S8x768x2304 .f32) (a3 : FVec Ideal Cert.Pre_finite.S2304x192x7 .f32)
    (a4 : FVec Ideal Cert.Pre_finite.S8x768x1 .f32) (a5 : FVec Ideal Cert.Pre_finite.S8x768x768 .f32) (j)
    (h : Cert.Pre_finite.fn (F := Ideal) a0 a1 a2 a3 a4 a5 j = 1#1) :
    (∀ i, Fint (a0 i)) ∧ (∀ i, Fint (a1 i)) ∧ (∀ i, Fint (a2 i)) ∧ (∀ i, Fint (a3 i)) ∧ ∀ i, Fint (a4 i) := by
  have key : ∀ a b : BitVec 1, IntOp.andi a b = 1#1 → a = 1#1 ∧ b = 1#1 := by decide
  obtain ⟨h, h4⟩ := key _ _ h
  obtain ⟨h, h3⟩ := key _ _ h
  obtain ⟨h, h2⟩ := key _ _ h
  obtain ⟨h0, h1⟩ := key _ _ h
  have hz : ∀ j, constant (F := Ideal) Cert.Pre_finite.S_ .f32 0x7F800000#32 j = ⊤ := fun j => pinf
  exact ⟨fun i => fint_of_lt _ _ hz _ i (Host.reduce_andi_all _ _ _ _ j h0 i), fun i => fint_of_lt _ _ hz _ i (Host.reduce_andi_all _ _ _ _ j h1 i),
    fun i => fint_of_lt _ _ hz _ i (Host.reduce_andi_all _ _ _ _ j h2 i), fun i => fint_of_lt _ _ hz _ i (Host.reduce_andi_all _ _ _ _ j h3 i),
    fun i => fint_of_lt _ _ hz _ i (Host.reduce_andi_all _ _ _ _ j h4 i)⟩

end Cert.Value
-- ==== Proof.Value.Act.lean ====
/- Normalising over the channels and the leaky rectifier, kernel against reference; and the expert mixtures, where a choice of
   one expert per token selects one expert's product. -/
module

public import proofs.«01_k».proof.Proof.Value.Route

@[expose] public section

noncomputable section

namespace Cert.Value

open Idealize.ShloMosaic

set_option maxRecDepth 16384

/-- A column's value less its mean. -/
def cent (v : Fin 768 → EReal) (c : Fin 768) : EReal := v c - Ideal.div (∑ k, v k) (Ideal.ofBits .f32 0x44400000#32)

/-- The column's root mean square about its mean, kept from zero. -/
def spread (v : Fin 768 → EReal) : EReal :=
  Ideal.sqrt (∑ k, cent v k * cent v k) * Ideal.ofBits .f32 0x3D13CD3A#32 + Ideal.ofBits .f32 0x3727C5AC#32

/-- Normalisation of a column followed by the leaky rectifier. -/
def actForm (v : Fin 768 → EReal) (c : Fin 768) : EReal :=
  if 0 ≤ Ideal.div (cent v c) (spread v) then Ideal.div (cent v c) (spread v)
  else Ideal.ofBits .f32 0x3CA3D70A#32 * Ideal.div (cent v c) (spread v)

/-- The reference's normalisation and rectifier, at a channel and a token, are the form of the token's column. -/
theorem act_ref (y : FVec Ideal Cert.ReferenceIdeal.S1x768x2048 .f32) (c : Fin 768) (p : Fin 2048) :
    Cert.ReferenceIdeal.Run.actFn y (ix3 0 c p) = actForm (fun c => y (ix3 0 c p)) c := by
  pointwise [Cert.ReferenceIdeal.Run.actFn, Cert.ReferenceIdeal.Fns.leakyR, Cert.ReferenceIdeal.Fns.normR, Cert.ReferenceIdeal.Fns.avgR]
  rfl

/-- The last call's gating, normalisation and rectifier are the same form of the gated column. -/
theorem act3 (a b s : Vec Ideal Cert.KernelIdeal.S768x2048 .f32) (c : Fin 768) (p : Fin 2048) :
    Cert.KernelIdeal.Gen.k3_pay4 a b s (ix2 c p) = actForm (fun c => a (ix2 c p) * b (ix2 c p) + s (ix2 c p)) c := by
  pointwise [Cert.KernelIdeal.Gen.k3_pay4]
  rfl

/-- The one-based count of a position. -/
def count (p : Fin 2048) : EReal := FloatOps.sitofp (F := Ideal) .f32 (BitVec.ofNat 32 p.val) + 1

/-- The second call's running means, gating, normalisation and rectifier are the same form of the gated column. -/
theorem act1 (u s h : Vec Ideal Cert.KernelIdeal.S768x2048 .f32) (c : Fin 768) (p : Fin 2048) :
    Cert.KernelIdeal.Gen.k1_pay16 u s h (ix2 c p) = actForm (fun c => Ideal.div (u (ix2 c p)) (count p) * s (ix2 c p) + h (ix2 c p)) c := by
  pointwise [Cert.KernelIdeal.Gen.k1_pay16]
  rfl

/-! ## The mixtures -/

/-- One expert's product at a token it is not chosen for is zero, at one it is chosen for the product: summed over the
    experts, the mixture. `z` is the scale each product carries. -/
def mixForm (q : Fin 8 → Fin 2048 → EReal) (x : Fin 768 → Fin 2048 → EReal) (w : Fin 8 → Fin 768 → EReal) (p : Fin 2048) : EReal :=
  ∑ e : Fin 8, q e p * ∑ k : Fin 768, x k p * w e k

/-- A nonnegative finite scale moves into a sum. -/
theorem part_scaled {z : EReal} (h0 : 0 ≤ z) (ht : z ≠ ⊤) (n : ℕ) (f : Fin n → EReal) : (∑ k, f k) * z = ∑ k, f k * z := by
  induction n with
  | zero => simp
  | succ n ih =>
    rw [Fin.sum_univ_castSucc, Fin.sum_univ_castSucc, EReal.right_distrib_of_nonneg_of_ne_top h0 ht, ih]

/-- The kernel's sum of products of masked tokens is the mixture, scaled. -/
theorem mix_kernel {l b q} (h : Routed l b q) (x : Fin 768 → Fin 2048 → EReal) (w : Fin 8 → Fin 768 → EReal) (p : Fin 2048)
    (z : EReal) (h0 : 0 ≤ z) (ht : z ≠ ⊤) :
    ∑ e : Fin 8, ∑ k : Fin 768, w e k * (x k p * q e p * z) = mixForm q x w p * z := by
  obtain ⟨j, _, _, hq⟩ := h p
  rw [mixForm, Finset.sum_eq_single j, Finset.sum_eq_single j]
  · rw [hq, if_pos rfl, one_mul, part_scaled h0 ht]
    refine Finset.sum_congr rfl fun k _ => ?_
    rw [mul_one, mul_comm, mul_assoc, mul_comm z, ← mul_assoc]
  · intro e _ he; rw [hq, if_neg he, zero_mul]
  · intro he; exact absurd (Finset.mem_univ _) he
  · intro e _ he
    refine Finset.sum_eq_zero fun k _ => ?_
    rw [hq, if_neg he, mul_zero, zero_mul, mul_zero]
  · intro he; exact absurd (Finset.mem_univ _) he

/-- The reference's first mixture is the form of its mixing weights, its input and its experts. -/
theorem mix0_ref (k : FVec Ideal Cert.ReferenceIdeal.S1x2048x8 .f32) (x : FVec Ideal Cert.ReferenceIdeal.S1x768x2048 .f32)
    (w : FVec Ideal Cert.ReferenceIdeal.S8x768x2304 .f32) (d : Fin 2304) (p : Fin 2048) :
    Cert.ReferenceIdeal.Fns.layR (Cert.ReferenceIdeal.Fns.mix0R k x w) (ix3 0 d p) =
      mixForm (fun e p => k (ix3 0 p e)) (fun k p => x (ix3 0 k p)) (fun e k => w (ix3 e k d)) p := by
  pointwise [Cert.ReferenceIdeal.Fns.layR, Cert.ReferenceIdeal.Fns.mix0R]
  rfl

/-- The reference's second mixture is the form too, scaled by an eighth. -/
theorem mix1_ref (k : FVec Ideal Cert.ReferenceIdeal.S1x2048x8 .f32) (x : FVec Ideal Cert.ReferenceIdeal.S1x768x2048 .f32)
    (w : FVec Ideal Cert.ReferenceIdeal.S8x768x768 .f32) (d : Fin 768) (p : Fin 2048) :
    Cert.ReferenceIdeal.Fns.outR (Cert.ReferenceIdeal.Fns.mix1R k x w) (ix3 0 d p) =
      mixForm (fun e p => k (ix3 0 p e)) (fun k p => x (ix3 0 k p)) (fun e k => w (ix3 e k d)) p * Ideal.ofBits .f32 0x3E000000#32 := by
  pointwise [Cert.ReferenceIdeal.Fns.outR, Cert.ReferenceIdeal.Fns.mix1R]
  rfl

/-- The first call's product of one expert with the masked tokens. -/
theorem part0_at (r : Vec Ideal Cert.KernelIdeal.S1x2048 .f32) (x : Vec Ideal Cert.KernelIdeal.S768x2048 .f32)
    (w : Vec Ideal Cert.KernelIdeal.S1x768x1152 .f32) (d : Fin 1152) (p : Fin 2048) :
    Cert.KernelIdeal.Gen.k0_pay3 r x w (ix2 d p) = ∑ k : Fin 768, w (ix3 0 k d) * (x (ix2 k p) * r (ix2 0 p) * 1) := by
  pointwise [Cert.KernelIdeal.Gen.k0_pay3]

/-- The first call's accumulator after one more expert. -/
theorem add0_at (r : Vec Ideal Cert.KernelIdeal.S1x2048 .f32) (x : Vec Ideal Cert.KernelIdeal.S768x2048 .f32)
    (w : Vec Ideal Cert.KernelIdeal.S1x768x1152 .f32) (h : Vec Ideal Cert.KernelIdeal.S1152x2048 .f32) (d : Fin 1152) (p : Fin 2048) :
    Cert.KernelIdeal.Gen.k0_pay4 r x w h (ix2 d p) = h (ix2 d p) + ∑ k : Fin 768, w (ix3 0 k d) * (x (ix2 k p) * r (ix2 0 p) * 1) := by
  rw [← part0_at]
  pointwise [Cert.KernelIdeal.Gen.k0_pay4]

/-- Rounding changes nothing over the extended reals. -/
theorem round0_at (h : Vec Ideal Cert.KernelIdeal.S1152x2048 .f32) (d : Fin 1152) (p : Fin 2048) :
    Cert.KernelIdeal.Gen.k0_pay5 h (ix2 d p) = h (ix2 d p) := by
  pointwise [Cert.KernelIdeal.Gen.k0_pay5]

/-- The last call's product of one expert with the masked and scaled tokens. -/
theorem part3_at (r : Vec Ideal Cert.KernelIdeal.S1x2048 .f32) (x : Vec Ideal Cert.KernelIdeal.S768x2048 .f32)
    (w : Vec Ideal Cert.KernelIdeal.S1x768x768 .f32) (d : Fin 768) (p : Fin 2048) :
    Cert.KernelIdeal.Gen.k3_pay2 r x w (ix2 d p) =
      ∑ k : Fin 768, w (ix3 0 k d) * (x (ix2 k p) * r (ix2 0 p) * Ideal.ofBits .f32 0x3E000000#32) := by
  pointwise [Cert.KernelIdeal.Gen.k3_pay2]

/-- The last call's accumulator after one more expert. -/
theorem add3_at (r : Vec Ideal Cert.KernelIdeal.S1x2048 .f32) (x : Vec Ideal Cert.KernelIdeal.S768x2048 .f32)
    (w : Vec Ideal Cert.KernelIdeal.S1x768x768 .f32) (h : Vec Ideal Cert.KernelIdeal.S768x2048 .f32) (d : Fin 768) (p : Fin 2048) :
    Cert.KernelIdeal.Gen.k3_pay3 r x w h (ix2 d p) = h (ix2 d p) +
      ∑ k : Fin 768, w (ix3 0 k d) * (x (ix2 k p) * r (ix2 0 p) * Ideal.ofBits .f32 0x3E000000#32) := by
  rw [← part3_at]
  pointwise [Cert.KernelIdeal.Gen.k3_pay3]

/-! ## Constants -/

/-- The number of channels, as the mean divides by it. -/
theorem c768 : Ideal.ofBits .f32 0x44400000#32 = ((768 : ℝ) : EReal) := by
  simp [Ideal.ofBits, Ideal.ieee]
  rw [← EReal.coe_mul]; norm_num

/-- The output's scale is an eighth. -/
theorem c8th : Ideal.ofBits .f32 0x3E000000#32 = ((0.125 : ℝ) : EReal) := by
  simp [Ideal.ofBits, Ideal.ieee]
  rw [← EReal.coe_mul]; norm_num

/-- The inverse root of the number of channels is a nonnegative real number. -/
theorem cRoot : ∃ r : ℝ, 0 ≤ r ∧ Ideal.ofBits .f32 0x3D13CD3A#32 = r := by
  refine ⟨_, ?_, by simp [Ideal.ofBits, Ideal.ieee]; rfl⟩
  positivity

/-- The constant that keeps the divisor from zero is a positive real number. -/
theorem cEps : ∃ r : ℝ, 0 < r ∧ Ideal.ofBits .f32 0x3727C5AC#32 = r := by
  refine ⟨_, ?_, by simp [Ideal.ofBits, Ideal.ieee]; rfl⟩
  positivity

/-- The rectifier's slope is a positive real number. -/
theorem cSlope : ∃ r : ℝ, 0 < r ∧ Ideal.ofBits .f32 0x3CA3D70A#32 = r := by
  refine ⟨_, ?_, by simp [Ideal.ofBits, Ideal.ieee]; rfl⟩
  positivity

end Cert.Value
-- ==== Proof.Value.Reg0.lean ====
/- What the first call writes: the mixture of the experts' products and the balance loss, from the call's inputs. -/
module

public import proofs.«01_k».proof.Proof.Value.Act
public import proofs.«01_k».proof.Proof.KernelIdeal.Region0
import Idealize.ShloMosaic.Lib.Pipeline.ValueKit

@[expose] public section

noncomputable section

namespace Cert.Value

open Idealize.ShloMosaic Idealize.ShloMosaic.TcCoe
open Cert.KernelIdeal Cert.KernelIdeal.Gen Cert.KernelIdeal.Run

set_option maxRecDepth 16384

variable (V : (c : Dev nD) → (b : Ref sig .tc) → Buf (Elt Ideal) ((c : Thread nD τ).loc b))

/-- The call's tokens, gate weights and expert weights. -/
def X0 (c : Dev nD) : Vec Ideal S768x2048 .f32 := V c (Pipeline.arrRef spec0 0)
/-- The call's gate. -/
def G0 (c : Dev nD) : Vec Ideal S8x768 .f32 := V c (Pipeline.arrRef spec0 1)
/-- The call's experts. -/
def E0 (c : Dev nD) : Vec Ideal S8x768x2304 .f32 := V c (Pipeline.arrRef spec0 2)

/-- The one-hot row read at a grid point is that of the point's expert. -/
theorem off0 : ∀ t : Fin cfg0.N, k0_off1 (grid0.coords t) = ![t.val % 8, 0] := (by decide +kernel : ∀ t : Fin grid0.N, _)

/-- The blocks a grid point reads and writes. -/
theorem idx0 : ∀ t : Fin cfg0.N, win0_0.index t = ![0, 0] ∧ win0_1.index t = ![0, 0] ∧ win0_2.index t = ![t.val % 8, 0, t.val / 8] ∧ win0_3.index t = ![t.val / 8, 0] :=
  (by decide +kernel : ∀ t : Fin grid0.N, _)

/-- The one-hot row of a grid point. -/
theorem row0_at (oh : Vec Ideal S8x2048 .f32) (t : Fin cfg0.N) (p : Fin 2048) :
    row0 oh (grid0.coords t) (ix2 0 p) = oh (ix2 ⟨t.val % 8, by omega⟩ p) := by
  unfold row0 VecWindow.window
  refine congrArg oh (funext fun a => Fin.ext ?_)
  have h := congrFun (off0 t) a
  fin_cases a
  · show k0_off1 (grid0.coords t) 0 + 1 * 0 = t.val % 8
    rw [show k0_off1 (grid0.coords t) 0 = t.val % 8 from h]; omega
  · show k0_off1 (grid0.coords t) 1 + 1 * p.val = p.val
    rw [show k0_off1 (grid0.coords t) 1 = 0 from h]; omega

/-- Every point reads the whole input. -/
theorem blk0_0 (c : Dev nD) (t : Fin cfg0.N) : (iblk0 V c 0 t : Vec Ideal S768x2048 .f32) = X0 V c := by
  funext y
  unfold X0
  blk_ext [iblk0, idx0 t]

/-- Every point reads the whole gate. -/
theorem blk0_1 (c : Dev nD) (t : Fin cfg0.N) : (iblk0 V c 1 t : Vec Ideal S8x768 .f32) = G0 V c := by
  funext y
  unfold G0
  blk_ext [iblk0, idx0 t]

/-- A point reads its expert's weights at its half of the outputs. -/
theorem blk0_2 (c : Dev nD) (t : Fin cfg0.N) (k : Fin 768) (d : Fin 1152) (h : t.val / 8 < 2) :
    iblk0 V c 2 t (ix3 0 k d) = E0 V c (ix3 ⟨t.val % 8, by omega⟩ k ⟨t.val / 8 * 1152 + d.val, by omega⟩) := by
  unfold E0
  blk_ext [iblk0, idx0 t]

/-- The call's one-hot matrix. -/
def Q0 (c : Dev nD) (e : Fin 8) (p : Fin 2048) : EReal := k0_pay29 (X0 V c) (G0 V c) (ix2 e p)

/-- The stored one-hot matrix. -/
theorem oh0_at (c : Dev nD) (e : Fin 8) (p : Fin 2048) : oh0 V c (ix2 e p) = Q0 V c e p := by
  unfold oh0 oneHot0 Q0
  rw [blk0_0, blk0_1]
  pointwise [k0_pay1]

/-- One expert's product at an output channel and a token. -/
def term0 (c : Dev nD) (r : ℕ) (d : Fin 1152) (p : Fin 2048) (e : ℕ) : EReal :=
  if h : e < 8 ∧ r < 2 then ∑ k : Fin 768, E0 V c (ix3 ⟨e, h.1⟩ k ⟨r * 1152 + d.val, by omega⟩) * (X0 V c (ix2 k p) * Q0 V c ⟨e, h.1⟩ p * 1) else 0

/-- The product of a point is its expert's term. -/
theorem point0 (c : Dev nD) (t : Fin cfg0.N) (d : Fin 1152) (p : Fin 2048) (x : Vec Ideal S768x2048 .f32) (hx : x = X0 V c)
    (w : Vec Ideal S1x768x1152 .f32)
    (hw : ∀ k d, t.val / 8 < 2 → ∀ h, w (ix3 0 k d) = E0 V c (ix3 ⟨t.val % 8, by omega⟩ k ⟨t.val / 8 * 1152 + d.val, h⟩)) :
    (∑ k : Fin 768, w (ix3 0 k d) * (x (ix2 k p) * row0 (oh0 V c) (grid0.coords t) (ix2 0 p) * 1))
      = term0 V c (t.val / 8) d p (t.val % 8) := by
  have ht : t.val < 16 := lt_of_lt_of_eq t.isLt N_0
  rw [term0, dif_pos ⟨by omega, by omega⟩]
  refine Finset.sum_congr rfl fun k _ => ?_
  rw [hx, row0_at, oh0_at, hw k d (by omega) (by omega)]

/-- A row's first point starts the sum with its expert's term. -/
theorem part0_term (c : Dev nD) (t : Fin cfg0.N) (d : Fin 1152) (p : Fin 2048) :
    part0 (oh0 V c) (grid0.coords t) (iblk0 V c 0 t) (iblk0 V c 2 t) (ix2 d p) = term0 V c (t.val / 8) d p (t.val % 8) := by
  rw [part0, part0_at]
  exact point0 V c t d p _ (blk0_0 V c t) _ fun k d h _ => blk0_2 V c t k d h

/-- A later point adds its expert's term. -/
theorem add0_term (c : Dev nD) (t : Fin cfg0.N) (a : Vec Ideal S1152x2048 .f32) (d : Fin 1152) (p : Fin 2048) :
    add0 (oh0 V c) (grid0.coords t) (iblk0 V c 0 t) (iblk0 V c 2 t) a (ix2 d p) = a (ix2 d p) + term0 V c (t.val / 8) d p (t.val % 8) := by
  rw [add0, add0_at]
  exact congrArg _ (point0 V c t d p _ (blk0_0 V c t) _ fun k d h _ => blk0_2 V c t k d h)

/-- After a point the accumulator is the sum of the row's terms so far. -/
theorem acc0_sum (c : Dev nD) (d : Fin 1152) (p : Fin 2048) : ∀ (n : ℕ) (h : n < cfg0.N),
    acc0 V c n h (ix2 d p) = ∑ e ∈ Finset.range (n % 8 + 1), term0 V c (n / 8) d p e := by
  intro n
  induction n with
  | zero =>
    intro h
    rw [acc0_start V c ⟨0, h⟩ rfl, part0_term]
    simp
  | succ n ih =>
    intro h
    by_cases h0 : (n + 1) % 8 = 0
    · rw [acc0_start V c ⟨n + 1, h⟩ h0, part0_term]
      simp [h0]
    · have key : add0 (oh0 V c) (grid0.coords ⟨n + 1, h⟩) (iblk0 V c 0 ⟨n + 1, h⟩) (iblk0 V c 2 ⟨n + 1, h⟩) (acc0 V c n (Nat.lt_of_succ_lt h)) (ix2 d p)
          = ∑ e ∈ Finset.range ((n + 1) % 8 + 1), term0 V c ((n + 1) / 8) d p e := by
        rw [add0_term, ih, Finset.sum_range_succ _ ((n + 1) % 8), show n % 8 + 1 = (n + 1) % 8 by omega, show n / 8 = (n + 1) / 8 by omega]
      by_cases h7 : (n + 1) % 8 = 7
      · rw [acc0_last V c ⟨n + 1, h⟩ h7, round0_at]
        exact key
      · rw [acc0_add V c ⟨n + 1, h⟩ h0 h7]
        exact key

/-- The first call's first result is the mixture. -/
theorem arr0_3 (c : Dev nD) (j : S2304x2048.Idx) : (dat0 V c).arrAt 3 cfg0.N j
    = mixForm (Q0 V c) (fun k p => X0 V c (ix2 k p)) (fun e k => E0 V c (ix3 e k (j 0))) (j 1) := by
  refine congrFun ((dat0 V c).arrAt_eq_of_covers 3
    (fun j : S2304x2048.Idx => mixForm (Q0 V c) (fun k p => X0 V c (ix2 k p)) (fun e k => E0 V c (ix3 e k (j 0))) (j 1))
    (by decide +kernel) fun t hf y => ?_) j
  have ht : t.val < 16 := lt_of_lt_of_eq t.isLt N_0
  have h7 : t.val % 8 = 7 := (flush0_3 t).mp hf
  blk_simp
  rw [after0_3]
  generalize hR0 : (win0_3.blk t).view.emb y 0 = R
  generalize hP0 : (win0_3.blk t).view.emb y 1 = P
  have hR : (R : ℕ) = t.val / 8 * 1152 + (y 0 : ℕ) := by
    rw [← hR0]; blk_simp [idx0 t]
  have hP : (P : Fin 2048) = y 1 := by
    refine Fin.ext ?_
    rw [← hP0]; blk_simp [idx0 t]
  refine (congrArg (acc0 V c t.val t.isLt) (eq_ix2 (n0 := 1152) (n1 := 2048) y)).trans ((acc0_sum V c (y 0) (y 1) t.val t.isLt).trans ?_)
  have hk := mix_kernel (routed0 (X0 V c) (G0 V c)) (fun k p => X0 V c (ix2 k p)) (fun e k => E0 V c (ix3 e k R)) P 1 zero_le_one (EReal.coe_ne_top 1)
  rw [h7, ← Fin.sum_univ_eq_sum_range (fun e => term0 V c (t.val / 8) (y 0) (y 1) e) 8]
  refine Eq.trans ?_ (hk.trans (mul_one _))
  rw [hP]
  refine Finset.sum_congr rfl fun e _ => ?_
  refine (dif_pos (c := e.val < 8 ∧ t.val / 8 < 2) ⟨e.isLt, by omega⟩).trans ?_
  refine Finset.sum_congr rfl fun k _ => congrArg₂ (· * ·) (congrArg (E0 V c) (congrArg (ix3 e k) (Fin.ext hR.symm))) rfl

/-- The first call's second result is the balance loss. -/
theorem arr0_4 (c : Dev nD) (j : S1x1.Idx) : (dat0 V c).arrAt 4 cfg0.N j
    = lossForm (fun e p => k0_pay6 (X0 V c) (G0 V c) (ix2 e p)) (fun p => k0_pay28 (X0 V c) (G0 V c) (ix2 0 p)) (Q0 V c) := by
  refine congrFun ((dat0 V c).arrAt_eq_of_after_last 4 t0_15 (by decide +kernel)
    (fun j : S1x1.Idx => lossForm (fun e p => k0_pay6 (X0 V c) (G0 V c) (ix2 e p)) (fun p => k0_pay28 (X0 V c) (G0 V c) (ix2 0 p)) (Q0 V c)) fun j => ?_) j
  blk_simp
  rw [after0_4]
  unfold loss0 lossOf0
  rw [blk0_0, blk0_1]
  have hj : j = ix2 (n0 := 1) (n1 := 1) 0 0 := (eq_ix2 (n0 := 1) (n1 := 1) j).trans (congrArg₂ ix2 (Subsingleton.elim _ _) (Subsingleton.elim _ _))
  exact (congrArg _ hj).trans (loss0_at _ _ _)

end Cert.Value
-- ==== Proof.Value.Conv.lean ====
/- The grouped convolution as a sum of shifted products, and the gate after it. -/
module

public import proofs.«01_k».proof.Proof.Value.Act

@[expose] public section

noncomputable section

namespace Cert.Value

open Idealize.ShloMosaic

set_option maxRecDepth 16384

/-- A channel moved `sh` tokens on, zeros coming in. -/
def late (y : Fin 768 → Fin 2048 → EReal) (sh : ℕ) (c : Fin 768) (p : Fin 2048) : EReal :=
  if h : p.val < sh then 0 else y c ⟨p.val - sh, by omega⟩

/-- One tap of the convolution at an output channel: the group's 192 channels, moved on by six less the tap. -/
def tap (w : Fin 2304 → Fin 192 → Fin 7 → EReal) (y : Fin 768 → Fin 2048 → EReal) (r : Fin 2304) (p : Fin 2048) (k : Fin 7) : EReal :=
  ∑ i : Fin 192, w r i k * late y (6 - k.val) ⟨r.val / 576 * 192 + i.val, by omega⟩ p

/-- The convolution, tap by tap. -/
def convForm (w : Fin 2304 → Fin 192 → Fin 7 → EReal) (y : Fin 768 → Fin 2048 → EReal) (r : Fin 2304) (p : Fin 2048) : EReal :=
  tap w y r p 0 + tap w y r p 1 + tap w y r p 2 + tap w y r p 3 + tap w y r p 4 + tap w y r p 5 + tap w y r p 6

/-- The integer zero as a number is zero. -/
theorem sitofp_zero : FloatOps.sitofp (F := Ideal) .f32 (0#32) = 0 := by
  change (((0#32 : BitVec 32).toInt : ℝ) : EReal) = 0
  simp

/-- One tap of the padded sum is one tap. -/
theorem tap_pad (w : FVec Ideal Cert.ReferenceIdeal.S2304x192x7 .f32) (y : FVec Ideal Cert.ReferenceIdeal.S1x768x2048 .f32)
    (g : Fin 4) (o : Fin 576) (p : Fin 2048) (k : Fin 7) (t : Fin 192 → EReal)
    (h1 : ∀ i : Fin 192, 6 ≤ k.val + p.val → ∀ hh, t i = y (ix3 0 ⟨g.val * 192 + i.val, by omega⟩ ⟨k.val + p.val - 6, hh⟩))
    (h0 : ∀ i, ¬ 6 ≤ k.val + p.val → t i = 0) :
    ∑ i, w (ix3 ⟨g.val * 576 + o.val, by omega⟩ i k) * t i
      = tap (fun r i k => w (ix3 r i k)) (fun c p => y (ix3 0 c p)) ⟨g.val * 576 + o.val, by omega⟩ p k := by
  refine Finset.sum_congr rfl fun i _ => congrArg₂ (· * ·) rfl ?_
  have hk := k.isLt
  have ho := o.isLt
  have hp := p.isLt
  rw [late]
  by_cases h : p.val < 6 - k.val
  · rw [dif_pos h, h0 i (by omega)]
  · rw [dif_neg h, h1 i (by omega) (by omega)]
    refine congrArg y (congrArg₂ (ix3 0) (Fin.ext ?_) (Fin.ext ?_))
    · dsimp only; omega
    · dsimp only; omega

/-- The tap of a printed term, whichever way its position is written. -/
theorem pad_pos {q : Prop} [Decidable q] {f : q → EReal} {v : EReal} {z : EReal} (h : q) (e : f h = v) : (if h : q then f h else z) = v := by
  rw [dif_pos h, e]

/-- Outside the array a padded element is zero. -/
theorem pad_neg {q : Prop} [Decidable q] {f : q → EReal} (h : ¬ q) : (if h : q then f h else FloatOps.sitofp (F := Ideal) .f32 (0#32)) = 0 := by
  rw [dif_neg h, sitofp_zero]

open Cert.ReferenceIdeal.Fns Cert.ReferenceIdeal in
theorem convA_at (y : FVec Ideal S1x768x2048 .f32) (w : FVec Ideal S2304x192x7 .f32) (g : Fin 4) (o : Fin 576) (p : Fin 2048) :
    convAR (padR y) (filtR w) (ix4 0 g o p)
      = tap (fun r i k => w (ix3 r i k)) (fun c p => y (ix3 0 c p)) ⟨g.val * 576 + o.val, by omega⟩ p 0
        + tap (fun r i k => w (ix3 r i k)) (fun c p => y (ix3 0 c p)) ⟨g.val * 576 + o.val, by omega⟩ p 1
        + tap (fun r i k => w (ix3 r i k)) (fun c p => y (ix3 0 c p)) ⟨g.val * 576 + o.val, by omega⟩ p 2 := by
  have hp := p.isLt
  pointwise [convAR, padR, filtR]
  refine congrArg₂ (· + ·) (congrArg₂ (· + ·) ?_ ?_) ?_
  · exact tap_pad w y g o p 0 _ (fun i a _ => pad_pos ⟨by omega, by simpa using a, by omega⟩ (by congr 2; simp))
      (fun i a => pad_neg fun q => a (by simpa using q.2.1))
  · exact tap_pad w y g o p 1 _ (fun i a _ => pad_pos ⟨by omega, a, by omega⟩ rfl) (fun i a => pad_neg fun q => a q.2.1)
  · exact tap_pad w y g o p 2 _ (fun i a _ => pad_pos ⟨by omega, a, by omega⟩ rfl) (fun i a => pad_neg fun q => a q.2.1)

open Cert.ReferenceIdeal.Fns Cert.ReferenceIdeal in
theorem convB_at (y : FVec Ideal S1x768x2048 .f32) (w : FVec Ideal S2304x192x7 .f32) (a : FVec Ideal S1x4x576x2048 .f32) (g : Fin 4) (o : Fin 576) (p : Fin 2048) :
    convBR (padR y) (filtR w) a (ix4 0 g o p)
      = a (ix4 0 g o p) + tap (fun r i k => w (ix3 r i k)) (fun c p => y (ix3 0 c p)) ⟨g.val * 576 + o.val, by omega⟩ p 3
        + tap (fun r i k => w (ix3 r i k)) (fun c p => y (ix3 0 c p)) ⟨g.val * 576 + o.val, by omega⟩ p 4
        + tap (fun r i k => w (ix3 r i k)) (fun c p => y (ix3 0 c p)) ⟨g.val * 576 + o.val, by omega⟩ p 5 := by
  have hp := p.isLt
  pointwise [convBR, padR, filtR]
  refine congrArg₂ (· + ·) (congrArg₂ (· + ·) (congrArg₂ (· + ·) rfl ?_) ?_) ?_
  · exact tap_pad w y g o p 3 _ (fun i a _ => pad_pos ⟨by omega, a, by omega⟩ rfl) (fun i a => pad_neg fun q => a q.2.1)
  · exact tap_pad w y g o p 4 _ (fun i a _ => pad_pos ⟨by omega, a, by omega⟩ rfl) (fun i a => pad_neg fun q => a q.2.1)
  · exact tap_pad w y g o p 5 _ (fun i a _ => pad_pos ⟨by omega, a, by omega⟩ rfl) (fun i a => pad_neg fun q => a q.2.1)

open Cert.ReferenceIdeal.Fns Cert.ReferenceIdeal in
theorem convC_at (y : FVec Ideal S1x768x2048 .f32) (w : FVec Ideal S2304x192x7 .f32) (g : Fin 4) (o : Fin 576) (p : Fin 2048) :
    convCR (padR y) (filtR w) (ix4 0 g o p)
      = tap (fun r i k => w (ix3 r i k)) (fun c p => y (ix3 0 c p)) ⟨g.val * 576 + o.val, by omega⟩ p 6 := by
  have hp := p.isLt
  pointwise [convCR, padR, filtR]
  exact tap_pad w y g o p 6 _ (fun i a hh => pad_pos (by omega) (congrArg (fun q => y (ix3 0 _ q)) (Fin.ext (Nat.add_sub_cancel_left 6 p.val).symm)))
    (fun i a => absurd (show 6 ≤ (6 : Fin 7).val + p.val from Nat.le_add_right 6 _) a)

/-- The convolution's gate: first third times second, plus last. -/
def gluForm (s : Fin 2304 → Fin 2048 → EReal) (c : Fin 768) (p : Fin 2048) : EReal :=
  s ⟨c.val, by omega⟩ p * s ⟨768 + c.val, by omega⟩ p + s ⟨1536 + c.val, by omega⟩ p

open Cert.ReferenceIdeal.Fns Cert.ReferenceIdeal in
theorem glu_at (a b : FVec Ideal S1x4x576x2048 .f32) (s : Fin 2304 → Fin 2048 → EReal)
    (h : ∀ (g : Fin 4) (o : Fin 576) p, a (ix4 0 g o p) + b (ix4 0 g o p) = s ⟨g.val * 576 + o.val, by omega⟩ p) (c : Fin 768) (p : Fin 2048) :
    gluR a b (ix3 0 c p) = gluForm s c p := by
  pointwise [gluR]
  simp only [h]
  refine congrArg₂ (· + ·) (congrArg₂ (· * ·) ?_ ?_) ?_ <;> exact congrArg (s · p) (Fin.ext (by dsimp only; omega))

open Cert.ReferenceIdeal.Run Cert.ReferenceIdeal in
theorem conv_ref (y : FVec Ideal S1x768x2048 .f32) (w : FVec Ideal S2304x192x7 .f32) (c : Fin 768) (p : Fin 2048) :
    convFn y w (ix3 0 c p) = gluForm (convForm (fun r i k => w (ix3 r i k)) (fun c p => y (ix3 0 c p))) c p :=
  glu_at _ _ _ (fun g o p => by rw [convB_at, convA_at, convC_at]; rfl) c p

end Cert.Value
-- ==== Proof.Value.Reg3.lean ====
/- What the last call writes: the gated input, the second mixture and its balance loss, from the call's inputs. -/
module

public import proofs.«01_k».proof.Proof.Value.Conv
public import proofs.«01_k».proof.Proof.KernelIdeal.Region3
import Idealize.ShloMosaic.Lib.Pipeline.ValueKit

@[expose] public section

noncomputable section

namespace Cert.Value

open Idealize.ShloMosaic Idealize.ShloMosaic.TcCoe
open Cert.KernelIdeal Cert.KernelIdeal.Gen Cert.KernelIdeal.Run

set_option maxRecDepth 16384

variable (V : (c : Dev nD) → (b : Ref sig .tc) → Buf (Elt Ideal) ((c : Thread nD τ).loc b))

/-- The call's convolution rows, gate weights and expert weights. -/
def Y3 (c : Dev nD) : Vec Ideal S2304x2048 .f32 := V c (Pipeline.arrRef spec3 0)
/-- The call's gate. -/
def G3 (c : Dev nD) : Vec Ideal S8x768 .f32 := V c (Pipeline.arrRef spec3 1)
/-- The call's experts. -/
def E3 (c : Dev nD) : Vec Ideal S8x768x768 .f32 := V c (Pipeline.arrRef spec3 2)

/-- The experts' input: the gate of the convolution's rows, normalised. -/
def X3 (c : Dev nD) : Vec Ideal S768x2048 .f32 := xs3 (Y3 V c)

/-- A third of the rows, element by element. -/
theorem window3 (y : Vec Ideal S2304x2048 .f32) (o : ℕ) (inb : ∀ a, ![o, 0] a + S768x2048.size a ≤ S2304x2048.size a) (c : Fin 768) (p : Fin 2048) (h : o + c.val < 2304) :
    VecWindow.window y ![o, 0] S768x2048.size inb (ix2 c p) = y (ix2 ⟨o + c.val, h⟩ p) := by
  unfold VecWindow.window
  refine congrArg y (funext fun a => Fin.ext ?_)
  fin_cases a
  · show o + 1 * c.val = o + c.val
    omega
  · show 0 + 1 * p.val = p.val
    omega

/-- The scratch holds the activation of the gated product. -/
theorem X3_at (c : Dev nD) (k : Fin 768) (p : Fin 2048) :
    X3 V c (ix2 k p) = actForm (fun k => gluForm (fun r p => Y3 V c (ix2 r p)) k p) k := by
  unfold X3 xs3
  rw [act3]
  refine congrFun (congrArg actForm (funext fun k => ?_)) k
  rw [gluForm, window3 _ 0 _ k p (by omega), window3 _ 768 _ k p (by omega), window3 _ 1536 _ k p (by omega)]
  simp only [Nat.zero_add]

/-- The one-hot row read at a grid point is that of the point's expert. -/
theorem off3 : ∀ t : Fin cfg3.N, k3_off1 (grid3.coords t) = ![t.val % 8, 0] := (by decide +kernel : ∀ t : Fin grid3.N, _)

/-- The blocks a grid point reads and writes. -/
theorem idx3 : ∀ t : Fin cfg3.N, win3_0.index t = ![0, 0] ∧ win3_1.index t = ![0, 0] ∧ win3_2.index t = ![t.val, 0, 0] ∧ win3_3.index t = ![0, 0] :=
  (by decide +kernel : ∀ t : Fin grid3.N, _)

/-- The one-hot row of a grid point. -/
theorem row3_eq (oh : Vec Ideal S8x2048 .f32) (t : Fin cfg3.N) (p : Fin 2048) :
    row3 oh (grid3.coords t) (ix2 0 p) = oh (ix2 ⟨t.val % 8, by omega⟩ p) := by
  unfold row3 VecWindow.window
  refine congrArg oh (funext fun a => Fin.ext ?_)
  have h := congrFun (off3 t) a
  fin_cases a
  · show k3_off1 (grid3.coords t) 0 + 1 * 0 = t.val % 8
    rw [show k3_off1 (grid3.coords t) 0 = t.val % 8 from h]; omega
  · show k3_off1 (grid3.coords t) 1 + 1 * p.val = p.val
    rw [show k3_off1 (grid3.coords t) 1 = 0 from h]; omega

/-- Every point reads the whole input. -/
theorem blk3_0 (c : Dev nD) (t : Fin cfg3.N) : (iblk3 V c 0 t : Vec Ideal S2304x2048 .f32) = Y3 V c := by
  funext y
  unfold Y3
  blk_ext [iblk3, idx3 t]

/-- Every point reads the whole gate. -/
theorem blk3_1 (c : Dev nD) (t : Fin cfg3.N) : (iblk3 V c 1 t : Vec Ideal S8x768 .f32) = G3 V c := by
  funext y
  unfold G3
  blk_ext [iblk3, idx3 t]

/-- A point reads its expert's weights. -/
theorem blk3_2 (c : Dev nD) (t : Fin cfg3.N) (k : Fin 768) (d : Fin 768) (h : t.val < 8) :
    iblk3 V c 2 t (ix3 0 k d) = E3 V c (ix3 ⟨t.val % 8, by omega⟩ k d) := by
  unfold E3
  blk_ext [iblk3, idx3 t]

/-- The scratch's contents are the gated input. -/
theorem xin3_eq (c : Dev nD) : xin3 V c = X3 V c := by
  unfold xin3 X3
  rw [blk3_0]

/-- The call's scores, running best and one-hot matrix. -/
def L3 (c : Dev nD) (e : Fin 8) (p : Fin 2048) : EReal := k3_pay5 (X3 V c) (G3 V c) (ix2 e p)
/-- The call's one-hot matrix. -/
def Q3 (c : Dev nD) (e : Fin 8) (p : Fin 2048) : EReal := k3_pay28 (k3_pay5 (X3 V c) (G3 V c)) (k3_pay6 (X3 V c) (G3 V c)) k3_pay7 (ix2 e p)

/-- The call's router picks the first expert with the largest score. -/
theorem routed_call3 (c : Dev nD) : ∃ b : Fin 2048 → EReal, Routed (L3 V c) b (Q3 V c) ∧
    ∀ e p, k3_pay30 (k3_pay5 (X3 V c) (G3 V c)) (k3_pay6 (X3 V c) (G3 V c)) (ix2 e p) = Ideal.exp (L3 V c e p - b p) :=
  routed3 _ _ _ (fun p => first3 _ _ p) fun p => zero3 p

/-- The stored one-hot matrix. -/
theorem oh3_at (c : Dev nD) (e : Fin 8) (p : Fin 2048) : oh3 V c (ix2 e p) = Q3 V c e p := by
  unfold oh3 oneHot3 Q3
  rw [xin3_eq, blk3_1]
  pointwise [k3_pay29]

/-- One expert's product at an output channel and a token. -/
def term3 (c : Dev nD) (d : Fin 768) (p : Fin 2048) (e : ℕ) : EReal :=
  if h : e < 8 then ∑ k : Fin 768, E3 V c (ix3 ⟨e, h⟩ k d) * (X3 V c (ix2 k p) * Q3 V c ⟨e, h⟩ p * Ideal.ofBits .f32 0x3E000000#32) else 0

/-- The product of a point is its expert's term. -/
theorem point3 (c : Dev nD) (t : Fin cfg3.N) (d : Fin 768) (p : Fin 2048) (w : Vec Ideal S1x768x768 .f32)
    (hw : ∀ k d, t.val < 8 → w (ix3 0 k d) = E3 V c (ix3 ⟨t.val % 8, by omega⟩ k d)) :
    (∑ k : Fin 768, w (ix3 0 k d) * (xin3 V c (ix2 k p) * row3 (oh3 V c) (grid3.coords t) (ix2 0 p) * Ideal.ofBits .f32 0x3E000000#32))
      = term3 V c d p (t.val % 8) := by
  have ht : t.val < 8 := lt_of_lt_of_eq t.isLt N_3
  rw [term3, dif_pos (by omega)]
  refine Finset.sum_congr rfl fun k _ => ?_
  rw [xin3_eq, row3_eq, oh3_at, hw k d (by omega)]

/-- The first point starts the sum with its expert's term. -/
theorem part3_term (c : Dev nD) (t : Fin cfg3.N) (d : Fin 768) (p : Fin 2048) :
    part3 (oh3 V c) (grid3.coords t) (xin3 V c) (iblk3 V c 2 t) (ix2 d p) = term3 V c d p (t.val % 8) := by
  rw [part3, part3_at]
  exact point3 V c t d p _ fun k d h => blk3_2 V c t k d h

/-- A later point adds its expert's term. -/
theorem add3_term (c : Dev nD) (t : Fin cfg3.N) (a : Vec Ideal S768x2048 .f32) (d : Fin 768) (p : Fin 2048) :
    add3 (oh3 V c) (grid3.coords t) (xin3 V c) (iblk3 V c 2 t) a (ix2 d p) = a (ix2 d p) + term3 V c d p (t.val % 8) := by
  rw [add3, add3_at]
  exact congrArg _ (point3 V c t d p _ fun k d h => blk3_2 V c t k d h)

/-- After a point the accumulator is the sum of the terms so far. -/
theorem acc3_sum (c : Dev nD) (d : Fin 768) (p : Fin 2048) : ∀ (n : ℕ) (h : n < cfg3.N),
    acc3 V c n h (ix2 d p) = ∑ e ∈ Finset.range (n + 1), term3 V c d p e := by
  intro n
  induction n with
  | zero =>
    intro h
    rw [acc3_start V c ⟨0, h⟩ rfl, part3_term]
    simp
  | succ n ih =>
    intro h
    have hn : n + 1 < 8 := lt_of_lt_of_eq h N_3
    rw [acc3_add V c ⟨n + 1, h⟩ (Nat.succ_ne_zero n), add3_term, Finset.sum_range_succ _ (n + 1)]
    refine congrArg₂ (· + ·) (ih _) ?_
    rw [show (⟨n + 1, h⟩ : Fin cfg3.N).val % 8 = n + 1 from Nat.mod_eq_of_lt hn]

/-- The last call's first result is the mixture, scaled. -/
theorem arr3_3 (c : Dev nD) (j : S768x2048.Idx) : (dat3 V c).arrAt 3 cfg3.N j
    = mixForm (Q3 V c) (fun k p => X3 V c (ix2 k p)) (fun e k => E3 V c (ix3 e k (j 0))) (j 1) * Ideal.ofBits .f32 0x3E000000#32 := by
  refine congrFun ((dat3 V c).arrAt_eq_of_after_last 3 t3_7 (by decide +kernel)
    (fun j : S768x2048.Idx => mixForm (Q3 V c) (fun k p => X3 V c (ix2 k p)) (fun e k => E3 V c (ix3 e k (j 0))) (j 1) * Ideal.ofBits .f32 0x3E000000#32) fun j => ?_) j
  blk_simp
  rw [after3_3]
  obtain ⟨b, hb, -⟩ := routed_call3 V c
  have hk := mix_kernel hb (fun k p => X3 V c (ix2 k p)) (fun e k => E3 V c (ix3 e k (j 0))) (j 1) (Ideal.ofBits .f32 0x3E000000#32)
    (by rw [c8th]; exact EReal.coe_nonneg.2 (by norm_num)) (by rw [c8th]; exact EReal.coe_ne_top _)
  refine (congrArg (acc3 V c t3_7.val t3_7.isLt) (eq_ix2 (n0 := 768) (n1 := 2048) j)).trans ((acc3_sum V c (j 0) (j 1) t3_7.val t3_7.isLt).trans ?_)
  refine Eq.trans ?_ hk
  refine (Fin.sum_univ_eq_sum_range (fun e => term3 V c (j 0) (j 1) e) 8).symm.trans ?_
  refine Finset.sum_congr rfl fun e _ => ?_
  exact (dif_pos (c := e.val < 8) e.isLt).trans rfl

/-- The last call's second result is the balance loss. -/
theorem arr3_4 (c : Dev nD) (j : S1x1.Idx) : ∃ b : Fin 2048 → EReal, Routed (L3 V c) b (Q3 V c) ∧
    (dat3 V c).arrAt 4 cfg3.N j = lossForm (L3 V c) b (Q3 V c) := by
  obtain ⟨b, hb, he⟩ := routed_call3 V c
  refine ⟨b, hb, ?_⟩
  refine congrFun ((dat3 V c).arrAt_eq_of_after_last 4 t3_7 (by decide +kernel)
    (fun j : S1x1.Idx => lossForm (L3 V c) b (Q3 V c)) fun j => ?_) j
  blk_simp
  rw [after3_4]
  unfold loss3 lossOf3
  rw [xin3_eq, blk3_1]
  have hj : j = ix2 (n0 := 1) (n1 := 1) 0 0 := (eq_ix2 (n0 := 1) (n1 := 1) j).trans (congrArg₂ ix2 (Subsingleton.elim _ _) (Subsingleton.elim _ _))
  exact (congrArg _ hj).trans (loss3_at _ _ _ _ b he fun e p => sum3_at _ _ e p)

end Cert.Value
-- ==== Proof.Value.Cum.lean ====
/- The prefix sums along the tokens: the kernel's shift-and-adds within chunks of 128 and over the 16 chunks, against the
   reference's sum of a window that ends at the token. -/
module

public import proofs.«01_k».proof.Proof.Value.Act

@[expose] public section

noncomputable section

namespace Cert.Value

open Idealize.ShloMosaic
open Cert.KernelIdeal (S768x2048 S768x16x128 S768x16x127 S768x16x1 S768x16 S768x15 S768x1)
open Cert.KernelIdeal.Gen

set_option maxRecDepth 16384

/-- The last `n + 1` values up to a position. -/
def win (a : ℕ → EReal) (n t : ℕ) : EReal := ∑ s ∈ Finset.range (n + 1), if s ≤ t then a (t - s) else 0

/-- A window of one element is the element. -/
theorem win_zero (a : ℕ → EReal) (t : ℕ) : win a 0 t = a t := by simp [win]

/-- A longer window is its last element and the shorter window that ends before it. -/
theorem win_succ (a : ℕ → EReal) (n t : ℕ) : win a (n + 1) t = a t + if t = 0 then 0 else win a n (t - 1) := by
  rw [win, Finset.sum_range_succ', add_comm]
  simp only [Nat.zero_le, if_true, Nat.sub_zero]
  congr 1
  by_cases h : t = 0
  · subst h; simp
  · rw [if_neg h, win]
    refine Finset.sum_congr rfl fun s _ => ?_
    by_cases c : s + 1 ≤ t
    · rw [if_pos c, if_pos (by omega), show t - (s + 1) = t - 1 - s by omega]
    · rw [if_neg c, if_neg (by omega)]

/-- A window longer than the position holds every value up to it. -/
theorem win_full (a : ℕ → EReal) {n t : ℕ} (h : t ≤ n) : win a n t = ∑ s ∈ Finset.range (t + 1), a s := by
  rw [win, ← Finset.sum_filter]
  have : (Finset.range (n + 1)).filter (fun s => s ≤ t) = Finset.range (t + 1) := by
    ext s; simp only [Finset.mem_filter, Finset.mem_range]; omega
  rw [this, ← Finset.sum_range_reflect]
  refine Finset.sum_congr rfl fun s hs => ?_
  have := Finset.mem_range.1 hs
  congr 1
  omega

/-- A row of a vector of chunks, as a sequence. -/
def row128 (a : FVec Ideal S768x16x128 .f32) (c : Fin 768) (h : Fin 16) (t : ℕ) : EReal :=
  if ht : t < 128 then a (ix3 c h ⟨t, ht⟩) else 0

/-- One shift-and-add within the chunks. -/
def shiftAdd (a v : FVec Ideal S768x16x128 .f32) : FVec Ideal S768x16x128 .f32 :=
  addf a (concatenate S768x16x128 2 [⟨S768x16x1, broadcast S768x16x1 (Scalar.ofBits (F := Ideal) .f32 0x00000000#32)⟩,
    ⟨S768x16x127, extractStridedSlice S768x16x127 ![0, 0, 0] v slices_S768x16x128_o0_0_0_S768x16x127⟩]
    concatenates_S768x16x1_S768x16x127_S768x16x128_d2)

/-- One shifted addition, element by element. -/
theorem shiftAdd_at (a v : FVec Ideal S768x16x128 .f32) (c : Fin 768) (h : Fin 16) (t : Fin 128) :
    shiftAdd a v (ix3 c h t) = a (ix3 c h t) + if t.val = 0 then 0 else row128 v c h (t.val - 1) := by
  pointwise [shiftAdd]
  refine congrArg (a (ix3 c h t) + ·) ?_
  have := t.isLt
  by_cases c0 : t.val = 0
  · rw [dif_pos (by omega), if_pos c0]
  · rw [dif_neg (by omega), if_neg c0, row128, dif_pos (by omega)]

/-- After `n` shift-and-adds a chunk holds its last `n + 1` values at each position. -/
def Win (a : FVec Ideal S768x16x128 .f32) (n : ℕ) (v : FVec Ideal S768x16x128 .f32) : Prop :=
  ∀ c h (t : Fin 128), v (ix3 c h t) = win (row128 a c h) n t.val

/-- Before any addition every element is its own window. -/
theorem Win.start (a : FVec Ideal S768x16x128 .f32) : Win a 0 a := fun c h t => by
  rw [win_zero, row128, dif_pos t.isLt]

/-- A shifted addition lengthens every window by one. -/
theorem Win.step {a v : FVec Ideal S768x16x128 .f32} {n : ℕ} (H : Win a n v) : Win a (n + 1) (shiftAdd a v) := fun c h t => by
  rw [shiftAdd_at, win_succ]
  refine congrArg₂ (· + ·) (by rw [row128, dif_pos t.isLt]) ?_
  by_cases c0 : t.val = 0
  · rw [if_pos c0, if_pos c0]
  · have := t.isLt
    rw [if_neg c0, if_neg c0, row128, dif_pos (by omega)]
    exact H c h ⟨t.val - 1, by omega⟩

/-- Twelve shifted additions lengthen every window by twelve. -/
theorem Win.step12 {a v : FVec Ideal S768x16x128 .f32} {n : ℕ} (H : Win a n v) :
    Win a (n + 12) (shiftAdd a (shiftAdd a (shiftAdd a (shiftAdd a (shiftAdd a (shiftAdd a (shiftAdd a (shiftAdd a (shiftAdd a
      (shiftAdd a (shiftAdd a (shiftAdd a v)))))))))))) :=
  H.step.step.step.step.step.step.step.step.step.step.step.step

/-- The first eleven additions. -/
theorem win2 (x : Vec Ideal S768x2048 .f32) : Win (k1_pay1 x) 11 (k1_pay2 x) :=
  (Win.start (k1_pay1 x)).step.step.step.step.step.step.step.step.step.step.step
/-- Twelve more additions. -/
theorem win3 {a v : FVec Ideal S768x16x128 .f32} {n : ℕ} (H : Win a n v) : Win a (n + 12) (k1_pay3 a v) := H.step12
/-- Twelve more additions. -/
theorem win4 {a v : FVec Ideal S768x16x128 .f32} {n : ℕ} (H : Win a n v) : Win a (n + 12) (k1_pay4 a v) := H.step12
/-- Twelve more additions. -/
theorem win5 {a v : FVec Ideal S768x16x128 .f32} {n : ℕ} (H : Win a n v) : Win a (n + 12) (k1_pay5 a v) := H.step12
/-- Twelve more additions. -/
theorem win6 {a v : FVec Ideal S768x16x128 .f32} {n : ℕ} (H : Win a n v) : Win a (n + 12) (k1_pay6 a v) := H.step12
/-- Twelve more additions. -/
theorem win7 {a v : FVec Ideal S768x16x128 .f32} {n : ℕ} (H : Win a n v) : Win a (n + 12) (k1_pay7 a v) := H.step12
/-- Twelve more additions. -/
theorem win8 {a v : FVec Ideal S768x16x128 .f32} {n : ℕ} (H : Win a n v) : Win a (n + 12) (k1_pay8 a v) := H.step12
/-- Twelve more additions. -/
theorem win9 {a v : FVec Ideal S768x16x128 .f32} {n : ℕ} (H : Win a n v) : Win a (n + 12) (k1_pay9 a v) := H.step12
/-- Twelve more additions. -/
theorem win10 {a v : FVec Ideal S768x16x128 .f32} {n : ℕ} (H : Win a n v) : Win a (n + 12) (k1_pay10 a v) := H.step12
/-- Twelve more additions. -/
theorem win11 {a v : FVec Ideal S768x16x128 .f32} {n : ℕ} (H : Win a n v) : Win a (n + 12) (k1_pay11 a v) := H.step12
/-- The last eight additions. -/
theorem win12 {a v : FVec Ideal S768x16x128 .f32} {n : ℕ} (H : Win a n v) : Win a (n + 8) (k1_pay12 a v) :=
  H.step.step.step.step.step.step.step.step

/-! ## Over the chunks -/

/-- A row of chunk totals, as a sequence. -/
def row16 (a : FVec Ideal S768x16 .f32) (c : Fin 768) (h : ℕ) : EReal := if hh : h < 16 then a (ix2 c ⟨h, hh⟩) else 0

/-- A row of chunk totals moved one chunk on. -/
def shift16 (v : FVec Ideal S768x16 .f32) : FVec Ideal S768x16 .f32 :=
  concatenate S768x16 1 [⟨S768x1, broadcast S768x1 (Scalar.ofBits (F := Ideal) .f32 0x00000000#32)⟩,
    ⟨S768x15, extractStridedSlice S768x15 ![0, 0] v slices_S768x16_o0_0_S768x15⟩] concatenates_S768x1_S768x15_S768x16_d1

/-- The chunks' totals moved on by one chunk. -/
theorem shift16_at (v : FVec Ideal S768x16 .f32) (c : Fin 768) (h : Fin 16) :
    shift16 v (ix2 c h) = if h.val = 0 then 0 else row16 v c (h.val - 1) := by
  pointwise [shift16]
  have := h.isLt
  by_cases c0 : h.val = 0
  · rw [dif_pos (by omega), if_pos c0]
  · rw [dif_neg (by omega), if_neg c0, row16, dif_pos (by omega)]

/-- One shifted addition over the chunks. -/
theorem addShift16_at (a v : FVec Ideal S768x16 .f32) (c : Fin 768) (h : Fin 16) :
    addf a (shift16 v) (ix2 c h) = a (ix2 c h) + if h.val = 0 then 0 else row16 v c (h.val - 1) := by
  rw [← shift16_at]; rfl

/-- The kernel's offsets: the chunk totals before each chunk, after `n` shift-and-adds. -/
def Win16 (a : FVec Ideal S768x16 .f32) (n : ℕ) (v : FVec Ideal S768x16 .f32) : Prop :=
  ∀ c (h : Fin 16), v (ix2 c h) = win (row16 a c) n h.val

/-- Before any addition every chunk's total is its own window. -/
theorem Win16.start (a : FVec Ideal S768x16 .f32) : Win16 a 0 a := fun c h => by
  rw [win_zero, row16, dif_pos h.isLt]

/-- A shifted addition lengthens the windows over the chunks by one. -/
theorem Win16.step {a v : FVec Ideal S768x16 .f32} {n : ℕ} (H : Win16 a n v) : Win16 a (n + 1) (addf a (shift16 v)) := fun c h => by
  rw [addShift16_at, win_succ]
  refine congrArg₂ (· + ·) (by rw [row16, dif_pos h.isLt]) ?_
  by_cases c0 : h.val = 0
  · rw [if_pos c0, if_pos c0]
  · have := h.isLt
    rw [if_neg c0, if_neg c0, row16, dif_pos (by omega)]
    exact H c ⟨h.val - 1, by omega⟩

/-- The total of the chunk before, or zero at the first chunk. -/
theorem pay13_at (a v : FVec Ideal S768x16x128 .f32) (c : Fin 768) (h : Fin 16) :
    k1_pay13 a v (ix2 c h) = if hh : h.val = 0 then 0 else k1_pay12 a v (ix3 c ⟨h.val - 1, by omega⟩ 127) := by
  pointwise [k1_pay13]
  have := h.isLt
  by_cases c0 : h.val = 0
  · rw [dif_pos (by omega), dif_pos c0]
  · rw [dif_neg (by omega), dif_neg c0]

/-- The first two additions over the chunks. -/
theorem pay14_eq (a v : FVec Ideal S768x16x128 .f32) :
    k1_pay14 a v = shift16 (addf (k1_pay13 a v) (shift16 (addf (k1_pay13 a v) (shift16 (k1_pay13 a v))))) := rfl

/-- The offsets added to their chunks. -/
def addOffs (p : FVec Ideal S768x16x128 .f32) (o : FVec Ideal S768x16 .f32) : FVec Ideal S768x2048 .f32 :=
  shapeCast S768x2048 (addf p (broadcastTo S768x16x128 (shapeCast S768x16x1 o shapeCasts_S768x16_S768x16x1) broadcasts_S768x16x1_S768x16x128))
    shapeCasts_S768x16x128_S768x2048

/-- A chunk's offset added to each of its elements. -/
theorem addOffs_at (p : FVec Ideal S768x16x128 .f32) (o : FVec Ideal S768x16 .f32) (c : Fin 768) (j : Fin 2048) :
    addOffs p o (ix2 c j) = p (ix3 c ⟨j.val / 128, by omega⟩ ⟨j.val % 128, by omega⟩) + o (ix2 c ⟨j.val / 128, by omega⟩) := by
  pointwise [addOffs]

/-- Twelve shifted additions lengthen the windows over the chunks by twelve. -/
theorem Win16.step12 {a v : FVec Ideal S768x16 .f32} {n : ℕ} (H : Win16 a n v) :
    Win16 a (n + 12) (addf a (shift16 (addf a (shift16 (addf a (shift16 (addf a (shift16 (addf a (shift16 (addf a (shift16 (addf a (shift16
      (addf a (shift16 (addf a (shift16 (addf a (shift16 (addf a (shift16 (addf a (shift16 v)))))))))))))))))))))))) :=
  H.step.step.step.step.step.step.step.step.step.step.step.step

/-- The remaining additions over the chunks, and the offsets added to the elements. -/
theorem pay15_eq (p : FVec Ideal S768x16x128 .f32) (s w : FVec Ideal S768x16 .f32) (hw : Win16 s 2 w) :
    ∃ o, Win16 s 14 o ∧ k1_pay15 p s (shift16 w) = addOffs p o := ⟨_, hw.step12, rfl⟩

/-- The row in chunks of 128 tokens. -/
theorem pay1_at (x : Vec Ideal S768x2048 .f32) (c : Fin 768) (h : Fin 16) (t : Fin 128) :
    k1_pay1 x (ix3 c h t) = x (ix2 c ⟨h.val * 128 + t.val, by omega⟩) := by
  pointwise [k1_pay1]

/-! ## The prefix sum of a row -/

/-- The sum of a row up to a position. -/
def upto (d : Fin 2048 → EReal) (p : Fin 2048) : EReal := ∑ i ∈ Finset.range (p.val + 1), if h : i < 2048 then d ⟨i, h⟩ else 0

/-- A sum chunk by chunk is the sum. -/
theorem sum_chunks (f : ℕ → EReal) (n : ℕ) :
    ∑ r ∈ Finset.range n, ∑ s ∈ Finset.range 128, f (r * 128 + s) = ∑ i ∈ Finset.range (n * 128), f i := by
  induction n with
  | zero => simp
  | succ n ih => rw [Finset.sum_range_succ, ih, Nat.succ_mul, Finset.sum_range_add]

/-- The kernel's prefix sums. -/
def cumK (x : Vec Ideal S768x2048 .f32) : FVec Ideal S768x16x128 .f32 :=
  k1_pay11 (k1_pay1 x) (k1_pay10 (k1_pay1 x) (k1_pay9 (k1_pay1 x) (k1_pay8 (k1_pay1 x) (k1_pay7 (k1_pay1 x) (k1_pay6 (k1_pay1 x)
    (k1_pay5 (k1_pay1 x) (k1_pay4 (k1_pay1 x) (k1_pay3 (k1_pay1 x) (k1_pay2 x)))))))))

/-- After 127 additions every window reaches back to its chunk's start. -/
theorem win_cumK (x : Vec Ideal S768x2048 .f32) : Win (k1_pay1 x) 127 (k1_pay12 (k1_pay1 x) (cumK x)) :=
  win12 (win11 (win10 (win9 (win8 (win7 (win6 (win5 (win4 (win3 (win2 x))))))))))

/-- An element's window is the sum of its chunk up to it. -/
theorem chunk_sum (x : Vec Ideal S768x2048 .f32) (c : Fin 768) (h : Fin 16) (t : Fin 128) :
    k1_pay12 (k1_pay1 x) (cumK x) (ix3 c h t)
      = ∑ s ∈ Finset.range (t.val + 1), (fun i => if hi : i < 2048 then x (ix2 c ⟨i, hi⟩) else 0) (h.val * 128 + s) := by
  rw [win_cumK, win_full _ (by omega)]
  refine Finset.sum_congr rfl fun s hs => ?_
  have := Finset.mem_range.1 hs
  have := h.isLt
  have := t.isLt
  dsimp only
  rw [row128, dif_pos (by omega), dif_pos (by omega), pay1_at]

/-- The kernel's prefix sums are the sums up to each token. -/
theorem cum_kernel (x : Vec Ideal S768x2048 .f32) (c : Fin 768) (p : Fin 2048) :
    k1_pay15 (k1_pay12 (k1_pay1 x) (cumK x)) (k1_pay13 (k1_pay1 x) (cumK x)) (k1_pay14 (k1_pay1 x) (cumK x)) (ix2 c p)
      = upto (fun i => x (ix2 c i)) p := by
  obtain ⟨o, ho, e⟩ := pay15_eq (k1_pay12 (k1_pay1 x) (cumK x)) (k1_pay13 (k1_pay1 x) (cumK x)) _ (Win16.start (k1_pay13 (k1_pay1 x) (cumK x))).step.step
  have hp := p.isLt
  rw [pay14_eq, e, addOffs_at, ho, chunk_sum]
  have hw : win (row16 (k1_pay13 (k1_pay1 x) (cumK x)) c) 14 (p.val / 128)
      = ∑ i ∈ Finset.range (p.val / 128 * 128), (fun i => if hi : i < 2048 then x (ix2 c ⟨i, hi⟩) else 0) i := by
    have h0 : row16 (k1_pay13 (k1_pay1 x) (cumK x)) c 0 = 0 := by
      rw [row16, dif_pos (by omega), pay13_at, dif_pos rfl]
    have hs : win (row16 (k1_pay13 (k1_pay1 x) (cumK x)) c) 14 (p.val / 128)
        = ∑ s ∈ Finset.range (p.val / 128 + 1), row16 (k1_pay13 (k1_pay1 x) (cumK x)) c s := by
      by_cases h15 : p.val / 128 ≤ 14
      · exact win_full _ h15
      · have h15 : p.val / 128 = 15 := by omega
        rw [h15, ← win_full (n := 15) _ le_rfl, win, win, Finset.sum_range_succ _ 15, if_pos le_rfl, Nat.sub_self, h0, add_zero]
    rw [hs, Finset.sum_range_succ', h0, add_zero, ← sum_chunks]
    refine Finset.sum_congr rfl fun r hr => ?_
    have := Finset.mem_range.1 hr
    rw [row16, dif_pos (by omega), pay13_at, dif_neg (by simp), chunk_sum]
    rfl
  rw [hw, add_comm, ← Finset.sum_range_add, upto]
  refine Finset.sum_congr ?_ fun _ _ => rfl
  congr 1
  dsimp only
  omega

/-! ## The reference's -/

/-- Adding up a list from a start is the start and the list's sum. -/
theorem foldl_sum {α : Type*} (l : List α) (f : α → EReal) (v : EReal) : l.foldl (fun r n => r + f n) v = v + (l.map f).sum := by
  induction l generalizing v with
  | nil => simp
  | cons a l ih => rw [List.foldl_cons, ih, List.map_cons, List.sum_cons, add_assoc]

/-- A window's sum, position by position. -/
theorem window_sum {s t u : Shape} (window strides lo hi : Fin s.rank → ℕ) (x : s.Idx → EReal) (init : u.Idx → EReal)
    (h : s.ReduceWindows window strides lo hi t) (hu : 0 < u.numel) (j : t.Idx) :
    Host.reduceWindow (· + ·) window strides lo hi x init h hu j
      = init (Shape.Idx.first hu) + ∑ i : (⟨s.rank, window⟩ : Shape).Idx,
        if hin : ∀ a, lo a ≤ (j (a.cast h.1.symm)).val * strides a + (i a).val
            ∧ (j (a.cast h.1.symm)).val * strides a + (i a).val - lo a < s.size a
        then x (fun a => ⟨(j (a.cast h.1.symm)).val * strides a + (i a).val - lo a, (hin a).2⟩) else init (Shape.Idx.first hu) := by
  unfold Host.reduceWindow
  dsimp only
  rw [foldl_sum, ← Fin.sum_univ_def]
  refine congrArg _ (Fintype.sum_equiv (Shape.rowMajor (⟨s.rank, window⟩ : Shape)).symm _ _ fun n => ?_)
  refine dite_congr rfl (fun _ => rfl) fun _ => rfl

/-- A window of 2048 ending at the position holds the values up to it. -/
theorem window_upto (d : Fin 2048 → EReal) (p : Fin 2048) :
    (∑ n : Fin 2048, if h : 2047 ≤ p.val + n.val ∧ p.val + n.val - 2047 < 2048 then d ⟨p.val + n.val - 2047, h.2⟩ else 0) = upto d p := by
  have hp := p.isLt
  have e : Finset.range 2048 = Finset.range ((2047 - p.val) + (p.val + 1)) := congrArg _ (by omega)
  rw [Fin.sum_univ_eq_sum_range (fun n => if h : 2047 ≤ p.val + n ∧ p.val + n - 2047 < 2048 then d ⟨p.val + n - 2047, h.2⟩ else 0) 2048,
    e, Finset.sum_range_add, Finset.sum_eq_zero, zero_add, upto]
  · refine Finset.sum_congr rfl fun i hi => ?_
    have := Finset.mem_range.1 hi
    rw [dif_pos (by omega), dif_pos (by omega)]
    congr 2
    omega
  · intro i hi
    have := Finset.mem_range.1 hi
    rw [dif_neg (by omega)]

open Cert.ReferenceIdeal Cert.ReferenceIdeal.Facts₀ in
theorem cum_ref (x : FVec Ideal Cert.ReferenceIdeal.S1x768x2048 .f32) (z : FVec Ideal Cert.ReferenceIdeal.S_ .f32) (hz : ∀ j, z j = 0) (c : Fin 768) (p : Fin 2048) :
    Host.reduceWindowAdd ![1, 1, 2048] ![1, 1, 1] ![0, 0, 2047] ![0, 0, 0] x z
      reduceWindows_S1x768x2048_S1x768x2048_w1s1p0_0_w1s1p0_0_w2048s1p2047_0 h_S_ (ix3 0 c p)
      = upto (fun i => x (ix3 0 c i)) p := by
  have e : Host.reduceWindowAdd ![1, 1, 2048] ![1, 1, 1] ![0, 0, 2047] ![0, 0, 0] x z
      reduceWindows_S1x768x2048_S1x768x2048_w1s1p0_0_w1s1p0_0_w2048s1p2047_0 h_S_ (ix3 0 c p) = _ :=
    window_sum (s := S1x768x2048) (t := S1x768x2048) (u := ⟨0, ![]⟩) ![1, 1, 2048] ![1, 1, 1] ![0, 0, 2047] ![0, 0, 0] x (fun _ => z (Shape.Idx.first h_S_))
      reduceWindows_S1x768x2048_S1x768x2048_w1s1p0_0_w1s1p0_0_w2048s1p2047_0 (by decide) (ix3 0 c p)
  rw [e, hz, zero_add, ← window_upto]
  refine (sum_idx3 (n0 := 1) (n1 := 1) (n2 := 2048) _).trans ?_
  rw [Fin.sum_univ_one, Fin.sum_univ_one]
  refine Finset.sum_congr rfl fun n _ => ?_
  have hc := c.isLt
  by_cases h : 2047 ≤ p.val + n.val ∧ p.val + n.val - 2047 < 2048
  · rw [dif_pos h, dif_pos]
    · refine congrArg x (funext fun a => ?_)
      fin_cases a
      · rfl
      · exact Fin.ext (by simp)
      · exact Fin.ext (by simp)
    · intro a
      fin_cases a
      · simp
      · simp
      · simpa using h
  · rw [dif_neg h, dif_neg]
    intro H
    exact h (by simpa using H 2)

end Cert.Value
-- ==== Proof.Value.Reg1.lean ====
/- What the second and third calls write: the normalised prefix means, and the gate's convolution, from the calls' inputs. -/
module

public import proofs.«01_k».proof.Proof.Value.Cum
public import proofs.«01_k».proof.Proof.Value.Conv
public import proofs.«01_k».proof.Proof.KernelIdeal.Regions12
import Idealize.ShloMosaic.Lib.Pipeline.ValueKit

@[expose] public section

noncomputable section

namespace Cert.Value

open Idealize.ShloMosaic Idealize.ShloMosaic.TcCoe
open Cert.KernelIdeal Cert.KernelIdeal.Gen Cert.KernelIdeal.Run

set_option maxRecDepth 16384

variable (V : (c : Dev nD) → (b : Ref sig .tc) → Buf (Elt Ideal) ((c : Thread nD τ).loc b))

/-- A row's prefix means, times the second third plus the last. -/
def preForm (h : Fin 2304 → Fin 2048 → EReal) (c : Fin 768) (p : Fin 2048) : EReal :=
  Ideal.div (upto (fun i => h ⟨c.val, by omega⟩ i) p) (count p) * h ⟨768 + c.val, by omega⟩ p + h ⟨1536 + c.val, by omega⟩ p

/-- What the second call computes from its three thirds. -/
theorem act_cum (x s h : Vec Ideal S768x2048 .f32) (c : Fin 768) (p : Fin 2048) :
    k1_pay16 (k1_pay15 (k1_pay12 (k1_pay1 x) (cumK x)) (k1_pay13 (k1_pay1 x) (cumK x)) (k1_pay14 (k1_pay1 x) (cumK x))) s h (ix2 c p)
      = actForm (fun c => Ideal.div (upto (fun i => x (ix2 c i)) p) (count p) * s (ix2 c p) + h (ix2 c p)) c := by
  rw [act1]; simp only [cum_kernel]

/-- The second call's one point reads everything. -/
theorem idx1 : ∀ t : Fin cfg1.N, win1_0.index t = ![0, 0] := (by decide +kernel : ∀ t : Fin grid1.N, _)

/-- The second call's result is the activation of the gated running means. -/
theorem arr1 (c : Dev nD) (j : S768x2048.Idx) : (dat1 V c).arrAt 1 cfg1.N j
    = actForm (fun k => preForm (fun r p => V c (Pipeline.arrRef spec1 0) (ix2 r p)) k (j 1)) (j 0) := by
  refine congrFun ((dat1 V c).arrAt_eq_of_after_last 1 t1_0 (by decide +kernel)
    (fun j : S768x2048.Idx => actForm (fun k => preForm (fun r p => V c (Pipeline.arrRef spec1 0) (ix2 r p)) k (j 1)) (j 0)) fun j => ?_) j
  blk_simp
  rw [after1_1]
  unfold out1_1
  canon_tiles x h
  have e0 : (j 0 : Fin 768) = x 0 := Fin.ext h0
  have e1 : (j 1 : Fin 2048) = x 1 := Fin.ext h1
  rw [eq_ix2 x]
  refine (act_cum (View.ld (iblk1 V c 0 t1_0) r1_0) _ _ (x 0) (x 1)).trans ?_
  simp only [e0, e1]
  refine congrFun (congrArg actForm (funext fun k => ?_)) (x 0)
  unfold preForm
  refine congrArg₂ (· + ·) (congrArg₂ (· * ·) (congrArg (fun f => Ideal.div (upto f (x 1)) _) (funext fun i => ?_)) ?_) ?_
  · pointwise
    blk_ext [iblk1, idx1 t1_0]
  · pointwise
    blk_ext [iblk1, idx1 t1_0]
  · pointwise
    blk_ext [iblk1, idx1 t1_0]

/-! ## The convolution -/

/-- One tap as the call computes it. -/
theorem tap_kernel (w : Fin 2304 → Fin 192 → Fin 7 → EReal) (y : Fin 768 → Fin 2048 → EReal) {R : Fin 2304} (p : Fin 2048) (k : Fin 7)
    (a : Fin 192 → EReal) (f : Fin 192 → Fin 2048 → EReal) (hw : ∀ i, a i = w R i k)
    (hf : ∀ (i : Fin 192) q, f i q = y ⟨R.val / 576 * 192 + i.val, by omega⟩ q) :
    ∑ i, a i * (if h : p.val < 6 - k.val then 0 else f i ⟨p.val - (6 - k.val), by omega⟩) = tap w y R p k :=
  Finset.sum_congr rfl fun i _ => congrArg₂ (· * ·) (hw i) (dite_congr rfl (fun _ => rfl) fun _ => hf i _)

/-- The third call's points read and write a group each. -/
theorem idx2 : ∀ t : Fin cfg2.N, win2_0.index t = ![t.val, 0] ∧ win2_1.index t = ![0, t.val, 0] ∧ win2_2.index t = ![t.val, 0] :=
  (by decide +kernel : ∀ t : Fin grid2.N, _)

/-- The third call's result is the convolution. -/
theorem arr2 (c : Dev nD) (j : S2304x2048.Idx) : (dat2 V c).arrAt 2 cfg2.N j
    = convForm (fun r i k => V c (Pipeline.arrRef spec2 1) (ix3 k r i)) (fun r p => V c (Pipeline.arrRef spec2 0) (ix2 r p)) (j 0) (j 1) := by
  refine congrFun ((dat2 V c).arrAt_eq_of_covers 2
    (fun j : S2304x2048.Idx => convForm (fun r i k => V c (Pipeline.arrRef spec2 1) (ix3 k r i)) (fun r p => V c (Pipeline.arrRef spec2 0) (ix2 r p)) (j 0) (j 1))
    (by decide +kernel) fun t hf y => ?_) j
  blk_simp
  rw [after2_2]
  unfold out2_2
  canon_tiles x h
  pointwise [k2_pay1, k2_pay2]
  generalize hR0 : ((View.whole main_v6).slice (win2_2.rect t)).emb y 0 = R
  generalize hP0 : ((View.whole main_v6).slice (win2_2.rect t)).emb y 1 = P
  have ht : t.val < 4 := lt_of_lt_of_eq t.isLt N_2
  have hR : (R : ℕ) = t.val * 576 + (x 0 : ℕ) := by
    rw [← hR0]; blk_simp [idx2 t]; omega
  have hP : (P : Fin 2048) = x 1 := by
    refine Fin.ext ?_
    rw [← hP0]; blk_simp [idx2 t]; omega
  have hR' : (R : ℕ) < 2304 := R.isLt
  have hx : ∀ (i : Fin 192) (q : Fin 2048), iblk2 V c 0 t (ix2 i q) = V c (Pipeline.arrRef spec2 0) (ix2 ⟨(R : ℕ) / 576 * 192 + i.val, by omega⟩ q) := fun i q => by
    blk_ext [iblk2, idx2 t]
  have hw : ∀ (k : Fin 7) (i : Fin 192), iblk2 V c 1 t (ix3 k (x 0) i) = V c (Pipeline.arrRef spec2 1) (ix3 k R i) := fun k i => by
    blk_ext [iblk2, idx2 t]
  rw [hP]
  have T := fun k => tap_kernel (fun r i k => V c (Pipeline.arrRef spec2 1) (ix3 k r i)) (fun r p => V c (Pipeline.arrRef spec2 0) (ix2 r p)) (R := R) (x 1) k _ (fun i q => iblk2 V c 0 t (ix2 i q)) (hw k) hx
  exact congrArg₂ (· + ·) (congrArg₂ (· + ·) (congrArg₂ (· + ·) (congrArg₂ (· + ·) (congrArg₂ (· + ·) (congrArg₂ (· + ·) (T 0) (T 1)) (T 2)) (T 3)) (T 4)) (T 5)) (T 6)

end Cert.Value
-- ==== Proof.Value.Finite.lean ====
/- Finite numbers stay finite through every step between the two routers, so the second router's scores are finite too; and the
   reference's prefix means. -/
module

public import proofs.«01_k».proof.Proof.Value.Reg1

@[expose] public section

noncomputable section

namespace Cert.Value

open Idealize.ShloMosaic

set_option maxRecDepth 16384

/-- The count of a position is a real number. -/
theorem count_coe (p : Fin 2048) : count p = (((p.val : ℝ) + 1 : ℝ) : EReal) := by
  have h : (BitVec.ofNat 32 p.val).toInt = p.val := by
    rw [BitVec.toInt_eq_toNat_of_lt] <;> rw [BitVec.toNat_ofNat, Nat.mod_eq_of_lt (by omega)]
    omega
  change (((BitVec.ofNat 32 p.val).toInt : ℝ) : EReal) + 1 = _
  rw [h]
  simp

/-- The count of a position is finite and not zero. -/
theorem count_fint (p : Fin 2048) : Fint (count p) ∧ count p ≠ 0 := by
  rw [count_coe]
  refine ⟨⟨_, rfl⟩, ?_⟩
  have : (0 : ℝ) < (p.val : ℝ) + 1 := by positivity
  exact_mod_cast this.ne'

/-- A prefix sum of finite numbers is finite. -/
theorem upto_fint {d : Fin 2048 → EReal} (h : ∀ i, Fint (d i)) (p : Fin 2048) : Fint (upto d p) := by
  refine Fint.sum _ fun i _ => ?_
  by_cases hi : i < 2048
  · rw [dif_pos hi]; exact h _
  · rw [dif_neg hi]; exact Fint.zero

/-- The gated running mean of finite numbers is finite. -/
theorem preForm_fint {h : Fin 2304 → Fin 2048 → EReal} (hh : ∀ r p, Fint (h r p)) (c p) : Fint (preForm h c p) :=
  (((upto_fint (fun i => hh _ i) p).div (count_fint p).1 (count_fint p).2).mul (hh _ _)).add (hh _ _)

/-- A finite column less its mean is finite. -/
theorem cent_fint {v : Fin 768 → EReal} (h : ∀ k, Fint (v k)) (c) : Fint (cent v c) := by
  refine (h c).sub ((Fint.sum _ fun k _ => h k).div ⟨768, c768⟩ ?_)
  rw [c768]; norm_num

/-- The divisor of the normalisation is a positive real number. -/
theorem spread_pos {v : Fin 768 → EReal} (h : ∀ k, Fint (v k)) : ∃ r : ℝ, 0 < r ∧ spread v = r := by
  choose a ha using cent_fint h
  obtain ⟨s, hs⟩ : Fint (∑ k, cent v k * cent v k) := Fint.sum _ fun k _ => (cent_fint h k).mul (cent_fint h k)
  obtain ⟨b, hb, hb'⟩ := cRoot
  obtain ⟨e, he, he'⟩ := cEps
  have hn : 0 ≤ s := by
    have : (0 : EReal) ≤ (s : EReal) := by
      rw [← hs]
      refine Finset.sum_nonneg fun k _ => ?_
      rw [ha, ← EReal.coe_mul]
      exact_mod_cast mul_self_nonneg (a k)
    exact_mod_cast this
  refine ⟨Real.sqrt s * b + e, by positivity, ?_⟩
  rw [spread, hs, hb', he']
  change (if s < 0 then ⊥ else ((Real.sqrt s : ℝ) : EReal)) * _ + _ = _
  rw [if_neg (not_lt.2 hn), EReal.coe_add, EReal.coe_mul]

/-- The normalisation and rectifier of a finite column are finite. -/
theorem actForm_fint {v : Fin 768 → EReal} (h : ∀ k, Fint (v k)) (c) : Fint (actForm v c) := by
  obtain ⟨r, hr, hs⟩ := spread_pos h
  have hd : Fint (Ideal.div (cent v c) (spread v)) := by
    rw [hs]
    exact (cent_fint h c).div ⟨r, rfl⟩ (by exact_mod_cast hr.ne')
  obtain ⟨z, _, hz⟩ := cSlope
  rw [actForm]
  split
  · exact hd
  · exact Fint.mul ⟨z, hz⟩ hd

/-- The convolution of finite numbers is finite. -/
theorem convForm_fint {w : Fin 2304 → Fin 192 → Fin 7 → EReal} {y : Fin 768 → Fin 2048 → EReal} (hw : ∀ r i k, Fint (w r i k))
    (hy : ∀ c p, Fint (y c p)) (r p) : Fint (convForm w y r p) := by
  have ht : ∀ k, Fint (tap w y r p k) := fun k => by
    refine Fint.sum _ fun i _ => (hw _ _ _).mul ?_
    rw [late]
    split
    · exact Fint.zero
    · exact hy _ _
  exact ((((((ht 0).add (ht 1)).add (ht 2)).add (ht 3)).add (ht 4)).add (ht 5)).add (ht 6)

/-- The gated product of finite numbers is finite. -/
theorem gluForm_fint {s : Fin 2304 → Fin 2048 → EReal} (hs : ∀ r p, Fint (s r p)) (c p) : Fint (gluForm s c p) :=
  ((hs _ _).mul (hs _ _)).add (hs _ _)

/-- A one-hot choice is finite. -/
theorem Routed.fint {l b q} (h : Routed l b q) (e p) : Fint (q e p) := by
  obtain ⟨k, _, _, hq⟩ := h p
  rw [hq]; split
  · exact ⟨1, rfl⟩
  · exact ⟨0, rfl⟩

/-- A mixture of finite numbers is finite. -/
theorem mixForm_fint {q : Fin 8 → Fin 2048 → EReal} {x : Fin 768 → Fin 2048 → EReal} {w : Fin 8 → Fin 768 → EReal}
    (hq : ∀ e p, Fint (q e p)) (hx : ∀ k p, Fint (x k p)) (hw : ∀ e k, Fint (w e k)) (p) : Fint (mixForm q x w p) :=
  Fint.sum _ fun _ _ => (hq _ _).mul (Fint.sum _ fun _ _ => (hx _ _).mul (hw _ _))

/-- The scores of finite inputs are finite. -/
theorem logits_fint (g : FVec Ideal Cert.ReferenceIdeal.S8x768x1 .f32) (x : FVec Ideal Cert.ReferenceIdeal.S1x768x2048 .f32)
    (hg : ∀ i, Fint (g i)) (hx : ∀ k p, Fint (x (ix3 0 k p))) (e : Fin 8) (p : Fin 2048) :
    Fint (Cert.ReferenceIdeal.Fns.logitsR g x (ix3 0 e p)) := by
  pointwise [Cert.ReferenceIdeal.Fns.logitsR]
  exact Fint.sum _ fun _ _ => (hg _).mul (hx _ _)

open Cert.ReferenceIdeal.Fns Cert.ReferenceIdeal in
theorem div_at (p : Fin 2048) : divR (F := Ideal) (ix3 0 0 p) = count p := by
  pointwise [divR]
  rfl

open Cert.ReferenceIdeal.Fns Cert.ReferenceIdeal Cert.ReferenceIdeal.Facts₀ in
/-- The reference's gated prefix means. -/
theorem pre_ref (h : FVec Ideal S1x2304x2048 .f32) (c : Fin 768) (p : Fin 2048) :
    preR h divR (ix3 0 c p) = preForm (fun r p => h (ix3 0 r p)) c p := by
  refine congrArg₂ (· + ·) (congrArg₂ (· * ·) (congrArg₂ Ideal.div ((cum_ref _ _ (fun j => ?_) c p).trans ?_) ?_) ?_) ?_
  · pointwise
  · refine congrArg (fun d => upto d p) (funext fun i => ?_)
    pointwise
  · rw [← div_at]
    pointwise
  · pointwise
  · pointwise

end Cert.Value
-- ==== Proof.Value.Final.lean ====
/- The contents carried from one call to the next, and the kernel's three results as the reference's functions of the arguments. -/
module

public import proofs.«01_k».proof.Proof.Value.Reg0
public import proofs.«01_k».proof.Proof.Value.Reg3
public import proofs.«01_k».proof.Proof.Value.Finite
public import proofs.«01_k».proof.Proof.KernelIdeal.Run
public import proofs.«01_k».proof.Proof.ReferenceIdeal.Stages

@[expose] public section

noncomputable section

namespace Cert.Value

open Idealize.ShloMosaic Idealize.ShloMosaic.TcCoe Idealize.ShloMosaic.StableHlo
open Cert.KernelIdeal Cert.KernelIdeal.Gen Cert.KernelIdeal.Run

set_option maxRecDepth 16384

variable (m : (ℓ : Loc nD τ sig) → Buf (Elt Ideal) ℓ) (ρ : Dev nD → PrngReg) (c : Dev nD)

/-- The arguments. -/
abbrev A0 : FVec Ideal S1x768x2048 .f32 := m ((c : Thread nD τ).loc main_arg0)
/-- The first gate. -/
abbrev A1 : FVec Ideal S8x768x1 .f32 := m ((c : Thread nD τ).loc main_arg1)
/-- The first experts' weights. -/
abbrev A2 : FVec Ideal S8x768x2304 .f32 := m ((c : Thread nD τ).loc main_arg2)
/-- The convolution's weights. -/
abbrev A3 : FVec Ideal S2304x192x7 .f32 := m ((c : Thread nD τ).loc main_arg3)
/-- The second gate. -/
abbrev A4 : FVec Ideal S8x768x1 .f32 := m ((c : Thread nD τ).loc main_arg4)
/-- The second experts' weights. -/
abbrev A5 : FVec Ideal S8x768x768 .f32 := m ((c : Thread nD τ).loc main_arg5)

/-- What the host's operations leave before the first call. -/
theorem W1_v0 : W1 m ρ c (Proc.devRef .tc main_v0) = shapeCast S768x2048 (A0 m c) shapeCasts_S1x768x2048_S768x2048 := by
  unfold W1; after_results_simp; rfl
/-- The first gate without its unit axis. -/
theorem W1_v1 : W1 m ρ c (Proc.devRef .tc main_v1) = shapeCast S8x768 (A1 m c) shapeCasts_S8x768x1_S8x768 := by
  unfold W1; after_results_simp; rfl
/-- The second gate without its unit axis. -/
theorem W1_v2 : W1 m ρ c (Proc.devRef .tc main_v2) = shapeCast S8x768 (A4 m c) shapeCasts_S8x768x1_S8x768 := by
  unfold W1; after_results_simp; rfl
/-- The convolution's weights, tap first. -/
theorem W1_v3 : W1 m ρ c (Proc.devRef .tc main_v3) = transpose S7x2304x192 [2, 0, 1] (A3 m c) transposes_S2304x192x7_S7x2304x192_2_0_1 := by
  unfold W1; after_results_simp

/-- The first call's input. -/
theorem X0_at (k : Fin 768) (p : Fin 2048) : X0 (V1 m ρ) c (ix2 k p) = A0 m c (ix3 0 k p) := by
  refine (congrFun (W1_v0 m ρ c) (ix2 k p)).trans ?_
  pointwise
/-- The first call's gate. -/
theorem G0_at (e : Fin 8) (k : Fin 768) : G0 (V1 m ρ) c (ix2 e k) = A1 m c (ix3 e k 0) := by
  refine (congrFun (W1_v1 m ρ c) (ix2 e k)).trans ?_
  pointwise
/-- The first call's experts. -/
theorem E0_at (e : Fin 8) (k : Fin 768) (d : Fin 2304) : E0 (V1 m ρ) c (ix3 e k d) = A2 m c (ix3 e k d) :=
  congrFun (W1_of m ρ c main_arg2 (by decide)) (ix3 e k d)
/-- The last call's gate. -/
theorem G3_at (e : Fin 8) (k : Fin 768) : G3 (V4 m ρ) c (ix2 e k) = A4 m c (ix3 e k 0) := by
  refine (congrFun ((W4_of m ρ c main_v2 (by decide +kernel)).trans ((W3_of m ρ c main_v2 (by decide +kernel)).trans
    ((W2_of m ρ c main_v2 (by decide +kernel)).trans (W1_v2 m ρ c)))) (ix2 e k)).trans ?_
  pointwise
/-- The last call's experts. -/
theorem E3_at (e : Fin 8) (k : Fin 768) (d : Fin 768) : E3 (V4 m ρ) c (ix3 e k d) = A5 m c (ix3 e k d) :=
  congrFun (W4_args m ρ c main_arg5 (by decide)) (ix3 e k d)
/-- The third call's weights. -/
theorem wt_at (k : Fin 7) (r : Fin 2304) (i : Fin 192) :
    V3 m ρ c (Pipeline.arrRef spec2 1) (ix3 k r i) = A3 m c (ix3 r i k) := by
  refine (congrFun ((W3_of m ρ c main_v3 (by decide +kernel)).trans
    ((W2_of m ρ c main_v3 (by decide +kernel)).trans (W1_v3 m ρ c))) (ix3 k r i)).trans ?_
  pointwise

/-- What the reference computes at each stage. -/
abbrev hR : FVec Ideal Cert.ReferenceIdeal.S1x2304x2048 .f32 := Cert.ReferenceIdeal.Run.hFn (A0 m c) (A1 m c) (A2 m c)
/-- The reference's first activation. -/
abbrev yR : FVec Ideal Cert.ReferenceIdeal.S1x768x2048 .f32 :=
  Cert.ReferenceIdeal.Run.actFn (Cert.ReferenceIdeal.Fns.preR (hR m c) Cert.ReferenceIdeal.Fns.divR)
/-- The reference's second activation. -/
abbrev zR : FVec Ideal Cert.ReferenceIdeal.S1x768x2048 .f32 := Cert.ReferenceIdeal.Run.midFn (hR m c) (A3 m c)

/-- The first router's scores are the reference's. -/
theorem score_at (e : Fin 8) (p : Fin 2048) : Cert.ReferenceIdeal.Fns.logitsR (A1 m c) (A0 m c) (ix3 0 e p)
    = k0_pay6 (X0 (V1 m ρ) c) (G0 (V1 m ρ) c) (ix2 e p) :=
  (logits0 _ _ (A0 m c) (A1 m c) (fun k p => X0_at m ρ c k p) (fun e k => G0_at m ρ c e k) e p).symm

/-- The first call's router picks the first expert with the largest score. -/
theorem routedA : Routed (fun e p => k0_pay6 (X0 (V1 m ρ) c) (G0 (V1 m ρ) c) (ix2 e p))
    (fun p => k0_pay28 (X0 (V1 m ρ) c) (G0 (V1 m ρ) c) (ix2 0 p)) (Q0 (V1 m ρ) c) := routed0 _ _

/-- The first result. -/
theorem loss_first (j : S_.Idx) : W6 m ρ c (Proc.devRef .tc main_v8) j
    = Cert.ReferenceIdeal.Run.lossFn (F := Ideal) (Cert.ReferenceIdeal.Fns.logitsR (A1 m c) (A0 m c)) (fun a => a.elim0) := by
  have e : W6 m ρ c (Proc.devRef .tc main_v8) = shapeCast S_ (W5 m ρ c (Proc.devRef .tc main_v4_1)) shapeCasts_S1x1_S_ := by
    unfold W6; after_results_simp; rfl
  refine (congrFun e j).trans (Eq.trans ?_ ((routedA m ρ c).loss _ (score_at m ρ c) _).symm)
  have e2 : ∀ i, W5 m ρ c (Proc.devRef .tc main_v4_1) i = _ := fun i =>
    (congrFun ((W5_of m ρ c main_v4_1 (by decide +kernel)).trans ((W4_of m ρ c main_v4_1 (by decide +kernel)).trans
      ((W3_of m ρ c main_v4_1 (by decide +kernel)).trans (W2_arr m ρ c 4)))) i).trans (arr0_4 (V1 m ρ) c i)
  exact e2 _

variable (f0 : ∀ i, Fint (A0 m c i)) (f1 : ∀ i, Fint (A1 m c i)) (f2 : ∀ i, Fint (A2 m c i)) (f3 : ∀ i, Fint (A3 m c i))
  (f4 : ∀ i, Fint (A4 m c i))

include f0 f1 in
/-- The reference's weights of the first mixture are the kernel's one-hot matrix. -/
theorem coefA (p : Fin 2048) (e : Fin 8) :
    Cert.ReferenceIdeal.Run.coefFn (F := Ideal) (Cert.ReferenceIdeal.Fns.logitsR (A1 m c) (A0 m c)) (ix3 0 p e) = Q0 (V1 m ρ) c e p :=
  (routedA m ρ c).coef _ (score_at m ρ c) (fun e p => by
    rw [← score_at]; exact logits_fint _ _ f1 (fun _ _ => f0 _) e p) p e

include f0 f1 in
theorem hR_at (r : Fin 2304) (p : Fin 2048) : hR m c (ix3 0 r p)
    = mixForm (Q0 (V1 m ρ) c) (fun k p => A0 m c (ix3 0 k p)) (fun e k => A2 m c (ix3 e k r)) p := by
  rw [hR, Cert.ReferenceIdeal.Run.hFn, mix0_ref]
  refine congrArg (fun q => mixForm q _ _ p) (funext fun e => funext fun p => coefA m ρ c f0 f1 p e)

include f0 f1 in
/-- The first call leaves the reference's first mixture. -/
theorem h_at (r : Fin 2304) (p : Fin 2048) : V2 m ρ c (Pipeline.arrRef spec1 0) (ix2 r p) = hR m c (ix3 0 r p) := by
  rw [hR_at m ρ c f0 f1]
  refine (congrFun (W2_arr m ρ c 3) (ix2 r p)).trans ((arr0_3 (V1 m ρ) c (ix2 r p)).trans ?_)
  exact congrArg₂ (fun x w => mixForm (Q0 (V1 m ρ) c) x w p) (funext fun k => funext fun p => X0_at m ρ c k p)
    (funext fun e => funext fun k => E0_at m ρ c e k r)

include f0 f1 in
/-- The second call leaves the reference's first activation. -/
theorem y_at (k : Fin 768) (p : Fin 2048) : V3 m ρ c (Pipeline.arrRef spec2 0) (ix2 k p) = yR m c (ix3 0 k p) := by
  rw [yR, act_ref]
  refine (congrFun (W3_arr m ρ c 1) (ix2 k p)).trans ((arr1 (V2 m ρ) c (ix2 k p)).trans ?_)
  refine congrFun (congrArg actForm (funext fun k => ?_)) k
  rw [pre_ref]
  exact congrArg (fun h => preForm h k p) (funext fun r => funext fun p => h_at m ρ c f0 f1 r p)

include f0 f1 in
/-- The third call leaves the convolution of the reference's first activation. -/
theorem conv_at (r : Fin 2304) (p : Fin 2048) : Y3 (V4 m ρ) c (ix2 r p)
    = convForm (fun r i k => A3 m c (ix3 r i k)) (fun c' p => yR m c (ix3 0 c' p)) r p := by
  refine (congrFun (W4_arr m ρ c 2) (ix2 r p)).trans ((arr2 (V3 m ρ) c (ix2 r p)).trans ?_)
  exact congrArg₂ (fun w y => convForm w y r p) (funext fun r => funext fun i => funext fun k => wt_at m ρ c k r i)
    (funext fun k => funext fun p => y_at m ρ c f0 f1 k p)

include f0 f1 in
/-- The last call starts from the reference's second activation. -/
theorem z_at (k : Fin 768) (p : Fin 2048) : X3 (V4 m ρ) c (ix2 k p) = zR m c (ix3 0 k p) := by
  rw [X3_at, zR, Cert.ReferenceIdeal.Run.midFn, act_ref]
  refine congrFun (congrArg actForm (funext fun k => ?_)) k
  rw [conv_ref]
  exact congrArg (fun s => gluForm s k p) (funext fun r => funext fun p => conv_at m ρ c f0 f1 r p)

include f0 f1 f2 in
theorem hR_fint (r : Fin 2304) (p : Fin 2048) : Fint (hR m c (ix3 0 r p)) := by
  rw [hR_at m (fun _ => default) c f0 f1]
  exact mixForm_fint (routedA m _ c).fint (fun _ _ => f0 _) (fun _ _ => f2 _) p

include f0 f1 f2 f3 in
/-- The reference's second activation is finite. -/
theorem zR_fint (k : Fin 768) (p : Fin 2048) : Fint (zR m c (ix3 0 k p)) := by
  rw [zR, Cert.ReferenceIdeal.Run.midFn, act_ref]
  refine actForm_fint (fun k => ?_) k
  rw [conv_ref]
  refine gluForm_fint (convForm_fint (fun _ _ _ => f3 _) fun k p => ?_) k p
  rw [act_ref]
  refine actForm_fint (fun k => ?_) k
  rw [pre_ref]
  exact preForm_fint (fun r p => hR_fint m c f0 f1 f2 r p) k p

include f0 f1 in
/-- The second router's scores are the reference's. -/
theorem score_last (e : Fin 8) (p : Fin 2048) :
    Cert.ReferenceIdeal.Fns.logitsR (A4 m c) (zR m c) (ix3 0 e p) = L3 (V4 m ρ) c e p :=
  (score3 _ _ (zR m c) (A4 m c) (fun k p => z_at m ρ c f0 f1 k p) (fun e k => G3_at m ρ c e k) e p).symm

include f0 f1 in
/-- The second result. -/
theorem loss_last (j : S_.Idx) : W6 m ρ c (Proc.devRef .tc main_v9) j
    = Cert.ReferenceIdeal.Run.lossFn (F := Ideal) (Cert.ReferenceIdeal.Fns.logitsR (A4 m c) (zR m c)) (fun a => a.elim0) := by
  have e : W6 m ρ c (Proc.devRef .tc main_v9) = shapeCast S_ (W5 m ρ c (Proc.devRef .tc main_v7_1)) shapeCasts_S1x1_S_ := by
    unfold W6; after_results_simp; rfl
  refine (congrFun e j).trans ?_
  have e2 : ∀ i, W5 m ρ c (Proc.devRef .tc main_v7_1) i
      = Cert.ReferenceIdeal.Run.lossFn (F := Ideal) (Cert.ReferenceIdeal.Fns.logitsR (A4 m c) (zR m c)) (fun a => a.elim0) := fun i => by
    obtain ⟨b, hb, hv⟩ := arr3_4 (V4 m ρ) c i
    exact (congrFun (W5_arr m ρ c 4) i).trans (hv.trans (hb.loss _ (score_last m ρ c f0 f1) _).symm)
  exact e2 _

include f0 f1 f2 f3 f4 in
/-- The third result. -/
theorem out_last (k : Fin 768) (p : Fin 2048) : W6 m ρ c (Proc.devRef .tc main_v10) (ix3 0 k p)
    = Cert.ReferenceIdeal.Run.outFn (F := Ideal) (zR m c) (A4 m c) (A5 m c) (ix3 0 k p) := by
  have e : W6 m ρ c (Proc.devRef .tc main_v10)
      = broadcastInDim S1x768x2048 ![1, 2] bcast_S768x2048_S1x768x2048_1_2 (W5 m ρ c (Proc.devRef .tc main_v7_0)) := by
    unfold W6; after_results_simp
  have e1 : broadcastInDim (α := Ideal .f32) S1x768x2048 ![1, 2] bcast_S768x2048_S1x768x2048_1_2 (W5 m ρ c (Proc.devRef .tc main_v7_0)) (ix3 0 k p)
      = W5 m ρ c (Proc.devRef .tc main_v7_0) (ix2 k p) := by
    pointwise
  refine (congrFun e (ix3 0 k p)).trans (e1.trans ((congrFun (W5_arr m ρ c 3) (ix2 k p)).trans ((arr3_3 (V4 m ρ) c (ix2 k p)).trans ?_)))
  obtain ⟨b, hb, _⟩ := routed_call3 (V4 m ρ) c
  rw [Cert.ReferenceIdeal.Run.outFn, mix1_ref]
  refine congrArg (· * _) (Finset.sum_congr rfl fun e _ => congrArg₂ (· * ·) ?_ (Finset.sum_congr rfl fun i _ => congrArg₂ (· * ·) ?_ ?_))
  · refine (hb.coef _ (score_last m ρ c f0 f1) (fun e p => ?_) p e).symm
    rw [← score_last m ρ c f0 f1]
    exact logits_fint _ _ f4 (fun k p => zR_fint m c f0 f1 f2 f3 k p) e p
  · exact z_at m ρ c f0 f1 i p
  · exact E3_at m ρ c e i k

end Cert.Value
-- ==== Proof.lean ====
/- The certificate's proof: every claim, from the modules under Proof/. -/
module

public import proofs.«01_k».proof.Defs
public import proofs.«01_k».proof.Proof.Kernel.Run
public import proofs.«01_k».proof.Proof.KernelIdeal.Run
public import proofs.«01_k».proof.Proof.ReferenceIdeal.Stages
public import proofs.«01_k».proof.Proof.Value.Pre
public import proofs.«01_k».proof.Proof.Value.Final
public import Idealize.ShloMosaic.Adequacy
public import Idealize.ShloMosaic.Init

@[expose] public section

noncomputable section

namespace Cert.Proof

open Idealize.ShloMosaic Idealize.SL.Sem

open Cert.ReferenceIdeal.Run Cert.ReferenceIdeal Cert.ReferenceIdeal.Fns in
/-- What the reference's three results are of the memory it starts from, with its arguments kept. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v35) = lossFn (logitsR (F := Ideal) (m ((c.tc : Thread nD τ).loc main_arg1)) (m ((c.tc : Thread nD τ).loc main_arg0)))
      ∧ r.2.mem ((c.tc : Thread nD τ).loc main_v156) = lossFn (logitsR (F := Ideal) (m ((c.tc : Thread nD τ).loc main_arg4)) (midFn (hFn (m ((c.tc : Thread nD τ).loc main_arg0)) (m ((c.tc : Thread nD τ).loc main_arg1)) (m ((c.tc : Thread nD τ).loc main_arg2))) (m ((c.tc : Thread nD τ).loc main_arg3))))
      ∧ r.2.mem ((c.tc : Thread nD τ).loc main_v159) = outFn (F := Ideal) (midFn (hFn (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c main_v35).trans (res_loss0 _), (h c main_v156).trans (res_loss1 _), (h c main_v159).trans (res_out _),
    (h c main_arg0).trans (ops_keep _ main_arg0 (by decide)), (h c main_arg1).trans (ops_keep _ main_arg1 (by decide)),
    (h c main_arg2).trans (ops_keep _ main_arg2 (by decide)), (h c main_arg3).trans (ops_keep _ main_arg3 (by decide)),
    (h c main_arg4).trans (ops_keep _ main_arg4 (by decide)), (h c main_arg5).trans (ops_keep _ main_arg5 (by decide))⟩)
    (Cert.ReferenceIdeal.Run.run m g)

open Cert.KernelIdeal Cert.KernelIdeal.Run in
/-- Over the extended reals, from finite arguments, the kernel and the reference end with the same three results. -/
theorem algebraic : Cert.algebraic_KernelIdeal_ReferenceIdeal_pre_finite (hKernelIdeal := Cert.KernelIdeal.Gen.facts)
    (hReferenceIdeal := Cert.ReferenceIdeal.Gen.facts) (hPre_finite := Cert.Value.preFacts) := by
  intro m g m' g' hpre harg
  refine ⟨fun c => W6 m g c (Proc.devRef .tc main_v8), fun c => W6 m g c (Proc.devRef .tc main_v9), fun c => W6 m g c (Proc.devRef .tc main_v10), ?_, ?_⟩
  · exact (θ_run _ _ _).mono (fun _ h c => ⟨h.1 c _ (mem_uc main_v8 (by decide)), h.1 c _ (mem_uc main_v9 (by decide)), h.1 c _ (mem_uc main_v10 (by decide)),
      (h.1 c _ (mem_uc main_arg0 (by decide))).trans (W6_main_arg0 m g c),
      (h.1 c _ (mem_uc main_arg1 (by decide))).trans (W6_main_arg1 m g c),
      (h.1 c _ (mem_uc main_arg2 (by decide))).trans (W6_main_arg2 m g c),
      (h.1 c _ (mem_uc main_arg3 (by decide))).trans (W6_main_arg3 m g c),
      (h.1 c _ (mem_uc main_arg4 (by decide))).trans (W6_main_arg4 m g c),
      (h.1 c _ (mem_uc main_arg5 (by decide))).trans (W6_main_arg5 m g c)⟩) (Cert.KernelIdeal.Run.run m g)
  · refine (θ_run _ _ _).mono (fun r h c => ?_) (reference_run m' g')
    obtain ⟨h0, h1, h2, hk⟩ := h c
    obtain ⟨e0, e1, e2, e3, e4, e5⟩ := harg c
    obtain ⟨f0, f1, f2, f3, f4⟩ := Cert.Value.fint_args _ _ _ _ _ _ (fun a => a.elim0) (congrFun (hpre c) (fun a => a.elim0))
    rw [e0, e1] at h0
    rw [e0, e1, e2, e3, e4] at h1
    rw [e0, e1, e2, e3, e4, e5] at h2
    refine ⟨h0.trans (funext fun j => ?_), h1.trans (funext fun j => ?_), h2.trans (funext fun j => ?_), hk⟩
    · exact (congrArg _ (funext fun a => a.elim0)).trans (Cert.Value.loss_first m g c j).symm
    · exact (congrArg _ (funext fun a => a.elim0)).trans (Cert.Value.loss_last m g c f0 f1 j).symm
    · have hj : j = ix3 0 (j 1) (j 2) := by
        funext a
        match a with
        | ⟨0, _⟩ => exact Fin.ext (Nat.lt_one_iff.1 (j 0).isLt)
        | ⟨1, _⟩ => rfl
        | ⟨2, _⟩ => rfl
      rw [hj]
      exact (Cert.Value.out_last m g c f0 f1 f2 f3 f4 (j 1) (j 2)).symm

/-- Every claim of the certificate. -/
theorem claim : Cert.Claim :=
  ⟨Cert.Kernel.Gen.facts, Cert.KernelIdeal.Gen.facts, Cert.ReferenceIdeal.Gen.facts, Cert.Value.preFacts,
    fun m g _ => Cert.Kernel.Run.frame m g, fun m g _ => Cert.KernelIdeal.Run.frame m g, fun m g _ => Cert.KernelIdeal.Run.frame m g,
    fun m g _ => Cert.ReferenceIdeal.Run.frame m g, fun m g _ => Cert.ReferenceIdeal.Run.frame m g, trivial, algebraic⟩

end Cert.Proof

end
